-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_bounds [hPre_finite_bounds : Cert.Pre_finite_bounds.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_bounds.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_bounds [hPre_finite_bounds : Cert.Pre_finite_bounds.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_bounds.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_sample_bounds [hPre_finite_sample_bounds : Cert.Pre_finite_sample_bounds.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_sample_bounds.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_sample_bounds [hPre_finite_sample_bounds : Cert.Pre_finite_sample_bounds.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_sample_bounds.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite_bounds [hKernel11Ideal : Cert.Kernel11Ideal.Facts] [hPre_finite_bounds : Cert.Pre_finite_bounds.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_bounds m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite_bounds [hReference11Ideal : Cert.Reference11Ideal.Facts] [hPre_finite_bounds : Cert.Pre_finite_bounds.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_bounds m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite_sample_bounds [hKernel12Ideal : Cert.Kernel12Ideal.Facts] [hPre_finite_sample_bounds : Cert.Pre_finite_sample_bounds.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_sample_bounds m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite_sample_bounds [hReference12Ideal : Cert.Reference12Ideal.Facts] [hPre_finite_sample_bounds : Cert.Pre_finite_sample_bounds.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_sample_bounds m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v8) = v1 c
          ∧ r.2.mem ((c.tc : Thread Cert.Reference7Ideal.nD Cert.Reference7Ideal.τ).loc Cert.Reference7Ideal.main_v9) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  True

def algebraic_Kernel11Ideal_Reference11Ideal_pre_finite_bounds [hKernel11Ideal : Cert.Kernel11Ideal.Facts] [hReference11Ideal : Cert.Reference11Ideal.Facts] [hPre_finite_bounds : Cert.Pre_finite_bounds.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_bounds m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v42_4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal_pre_finite_sample_bounds [hKernel12Ideal : Cert.Kernel12Ideal.Facts] [hReference12Ideal : Cert.Reference12Ideal.Facts] [hPre_finite_sample_bounds : Cert.Pre_finite_sample_bounds.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_sample_bounds m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v60) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_scores : Cert.Pre_finite_scores.Facts) (hPre_finite_bounds : Cert.Pre_finite_bounds.Facts) (hPre_finite_sample_bounds : Cert.Pre_finite_sample_bounds.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_bounds (hKernel11Ideal := hKernel11Ideal) (hPre_finite_bounds := hPre_finite_bounds)
    ∧ quiescent_Reference11Ideal (hReference11Ideal := hReference11Ideal)
    ∧ quiescent_Reference11Ideal_pre_finite_bounds (hReference11Ideal := hReference11Ideal) (hPre_finite_bounds := hPre_finite_bounds)
    ∧ quiescent_Kernel12 (hKernel12 := hKernel12)
    ∧ quiescent_Kernel12Ideal (hKernel12Ideal := hKernel12Ideal)
    ∧ quiescent_Kernel12Ideal_pre_finite_sample_bounds (hKernel12Ideal := hKernel12Ideal) (hPre_finite_sample_bounds := hPre_finite_sample_bounds)
    ∧ quiescent_Reference12Ideal (hReference12Ideal := hReference12Ideal)
    ∧ quiescent_Reference12Ideal_pre_finite_sample_bounds (hReference12Ideal := hReference12Ideal) (hPre_finite_sample_bounds := hPre_finite_sample_bounds)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_bounds (hKernel11Ideal := hKernel11Ideal) (hReference11Ideal := hReference11Ideal) (hPre_finite_bounds := hPre_finite_bounds)
    ∧ preserves_Kernel12_Kernel12Ideal
    ∧ algebraic_Kernel12Ideal_Reference12Ideal_pre_finite_sample_bounds (hKernel12Ideal := hKernel12Ideal) (hReference12Ideal := hReference12Ideal) (hPre_finite_sample_bounds := hPre_finite_sample_bounds)
-- ==== Pre_finite_bounds.lean ====
abbrev S8192x17664 : Shape := ⟨2, ![8192, 17664]⟩
abbrev S4x1x1024 : Shape := ⟨3, ![4, 1, 1024]⟩
abbrev S4x1x128 : Shape := ⟨3, ![4, 1, 128]⟩
abbrev S4x8x128x128 : Shape := ⟨4, ![4, 8, 128, 128]⟩
abbrev S1x1x1024 : Shape := ⟨3, ![1, 1, 1024]⟩
abbrev S1x1024 : Shape := ⟨2, ![1, 1024]⟩
abbrev S_ : Shape := ⟨0, ![]⟩

class Facts : Prop where
  slices_S4x1x1024_S1x1x1024_0_0_0 : S4x1x1024.Slices ![0, 0, 0] S1x1x1024
  shapeCasts_S1x1x1024_S1x1024 : S1x1x1024.ShapeCasts S1x1024
  bcast_S_S1x1024 : S_.BroadcastsInDim S1x1024 (![] : Fin 0 → Fin S1x1024.rank)

variable [Facts]

def fn {F : FTy → Type} [FloatOps F] (main_arg0 : FVec F S8192x17664 .f32) (main_arg1 : FVec F S4x1x1024 .f32) (main_arg2 : FVec F S4x1x128 .f32) (main_arg3 : FVec F S4x8x128x128 .f32) : IVec S1x1024 1 :=
  let main_v0 : FVec F S1x1x1024 .f32 := (extractStridedSlice S1x1x1024 ![0, 0, 0] · slices_S4x1x1024_S1x1x1024_0_0_0) main_arg1
  let main_v1 : FVec F S1x1024 .f32 := shapeCast S1x1024 main_v0 shapeCasts_S1x1x1024_S1x1024
  let main_cst : FVec F S_ .f32 := constant S_ .f32 0xFF800000#32
  let main_v2 : FVec F S1x1024 .f32 := broadcastInDim S1x1024 ![] bcast_S_S1x1024 main_cst
  let main_v3 : IVec S1x1024 1 := cmpf .ogt main_v1 main_v2
  let main_v4 : FVec F S1x1x1024 .f32 := (extractStridedSlice S1x1x1024 ![0, 0, 0] · slices_S4x1x1024_S1x1x1024_0_0_0) main_arg1
  let main_v5 : FVec F S1x1024 .f32 := shapeCast S1x1024 main_v4 shapeCasts_S1x1x1024_S1x1024
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_v8 : IVec S1x1024 1 := andi main_v3 main_v7
  main_v8
-- ==== Pre_finite_sample_bounds.lean ====
abbrev S512x17664 : Shape := ⟨2, ![512, 17664]⟩
abbrev S4x1x1024 : Shape := ⟨3, ![4, 1, 1024]⟩
abbrev S4x1x128 : Shape := ⟨3, ![4, 1, 128]⟩
abbrev S8x8x128x128 : Shape := ⟨4, ![8, 8, 128, 128]⟩
abbrev S1x1x1024 : Shape := ⟨3, ![1, 1, 1024]⟩
abbrev S1x1024 : Shape := ⟨2, ![1, 1024]⟩
abbrev S_ : Shape := ⟨0, ![]⟩

class Facts : Prop where
  slices_S4x1x1024_S1x1x1024_0_0_0 : S4x1x1024.Slices ![0, 0, 0] S1x1x1024
  shapeCasts_S1x1x1024_S1x1024 : S1x1x1024.ShapeCasts S1x1024
  bcast_S_S1x1024 : S_.BroadcastsInDim S1x1024 (![] : Fin 0 → Fin S1x1024.rank)

variable [Facts]

def fn {F : FTy → Type} [FloatOps F] (main_arg0 : FVec F S512x17664 .f32) (main_arg1 : FVec F S4x1x1024 .f32) (main_arg2 : FVec F S4x1x128 .f32) (main_arg3 : FVec F S8x8x128x128 .f32) : IVec S1x1024 1 :=
  let main_v0 : FVec F S1x1x1024 .f32 := (extractStridedSlice S1x1x1024 ![0, 0, 0] · slices_S4x1x1024_S1x1x1024_0_0_0) main_arg1
  let main_v1 : FVec F S1x1024 .f32 := shapeCast S1x1024 main_v0 shapeCasts_S1x1x1024_S1x1024
  let main_cst : FVec F S_ .f32 := constant S_ .f32 0xFF800000#32
  let main_v2 : FVec F S1x1024 .f32 := broadcastInDim S1x1024 ![] bcast_S_S1x1024 main_cst
  let main_v3 : IVec S1x1024 1 := cmpf .ogt main_v1 main_v2
  let main_v4 : FVec F S1x1x1024 .f32 := (extractStridedSlice S1x1x1024 ![0, 0, 0] · slices_S4x1x1024_S1x1x1024_0_0_0) main_arg1
  let main_v5 : FVec F S1x1024 .f32 := shapeCast S1x1024 main_v4 shapeCasts_S1x1x1024_S1x1024
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_v8 : IVec S1x1024 1 := andi main_v3 main_v7
  main_v8
-- ==== Pre_finite_scores.lean ====
abbrev S8192x17664 : Shape := ⟨2, ![8192, 17664]⟩
abbrev S8192x128 : Shape := ⟨2, ![8192, 128]⟩
abbrev S4x128x2048 : Shape := ⟨3, ![4, 128, 2048]⟩
abbrev S8192x2048 : Shape := ⟨2, ![8192, 2048]⟩
abbrev S8192x8 : Shape := ⟨2, ![8192, 8]⟩
abbrev S4x8x2048 : Shape := ⟨3, ![4, 8, 2048]⟩
abbrev S_ : Shape := ⟨0, ![]⟩

class Facts : Prop where
  slices_S8192x17664_S8192x2048_0_6144 : S8192x17664.Slices ![0, 6144] S8192x2048
  slices_S8192x128_S8192x8_0_0 : S8192x128.Slices ![0, 0] S8192x8
  slices_S4x128x2048_S4x8x2048_0_0_0 : S4x128x2048.Slices ![0, 0, 0] S4x8x2048
  bcast_S_S8192x2048 : S_.BroadcastsInDim S8192x2048 (![] : Fin 0 → Fin S8192x2048.rank)
  bcast_S_S8192x8 : S_.BroadcastsInDim S8192x8 (![] : Fin 0 → Fin S8192x8.rank)
  bcast_S_S4x8x2048 : S_.BroadcastsInDim S4x8x2048 (![] : Fin 0 → Fin S4x8x2048.rank)

variable [Facts]

def fn {F : FTy → Type} [FloatOps F] (main_arg0 : FVec F S8192x17664 .f32) (main_arg1 : FVec F S8192x128 .f32) (main_arg2 : FVec F S4x128x2048 .f32) : IVec S8192x2048 1 × IVec S8192x8 1 × IVec S4x8x2048 1 :=
  let main_v0 : FVec F S8192x2048 .f32 := (extractStridedSlice S8192x2048 ![0, 6144] · slices_S8192x17664_S8192x2048_0_6144) main_arg0
  let main_v1 : FVec F S8192x8 .f32 := (extractStridedSlice S8192x8 ![0, 0] · slices_S8192x128_S8192x8_0_0) main_arg1
  let main_v2 : FVec F S4x8x2048 .f32 := (extractStridedSlice S4x8x2048 ![0, 0, 0] · slices_S4x128x2048_S4x8x2048_0_0_0) main_arg2
  let main_cst : FVec F S_ .f32 := constant S_ .f32 0xFF800000#32
  let main_v3 : FVec F S8192x2048 .f32 := broadcastInDim S8192x2048 ![] bcast_S_S8192x2048 main_cst
  let main_v4 : IVec S8192x2048 1 := cmpf .ogt main_v0 main_v3
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v0 main_v5
  let main_v7 : IVec S8192x2048 1 := andi main_v4 main_v6
  let main_cst_1 : FVec F S_ .f32 := constant S_ .f32 0xFF800000#32
  let main_v8 : FVec F S8192x8 .f32 := broadcastInDim S8192x8 ![] bcast_S_S8192x8 main_cst_1
  let main_v9 : IVec S8192x8 1 := cmpf .ogt main_v1 main_v8
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v1 main_v10
  let main_v12 : IVec S8192x8 1 := andi main_v9 main_v11
  let main_cst_3 : FVec F S_ .f32 := constant S_ .f32 0xFF800000#32
  let main_v13 : FVec F S4x8x2048 .f32 := broadcastInDim S4x8x2048 ![] bcast_S_S4x8x2048 main_cst_3
  let main_v14 : IVec S4x8x2048 1 := cmpf .ogt main_v2 main_v13
  let main_cst_4 : FVec F S_ .f32 := constant S_ .f32 0x7F800000#32
  let main_v15 : FVec F S4x8x2048 .f32 := broadcastInDim S4x8x2048 ![] bcast_S_S4x8x2048 main_cst_4
  let main_v16 : IVec S4x8x2048 1 := cmpf .olt main_v2 main_v15
  let main_v17 : IVec S4x8x2048 1 := andi main_v14 main_v16
  (main_v7, main_v12, main_v17)
-- ==== Kernel.lean ====
abbrev S8192x17664 : Shape := ⟨2, ![8192, 17664]⟩
abbrev S8192x128 : Shape := ⟨2, ![8192, 128]⟩
abbrev S4x128x2048 : Shape := ⟨3, ![4, 128, 2048]⟩
abbrev S8192x1024 : Shape := ⟨2, ![8192, 1024]⟩
abbrev S512x1024 : Shape := ⟨2, ![512, 1024]⟩
abbrev S512x128 : Shape := ⟨2, ![512, 128]⟩
abbrev S1x128x512 : Shape := ⟨3, ![1, 128, 512]⟩
abbrev S512x512 : Shape := ⟨2, ![512, 512]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩

abbrev nBuf : Space → Nat
  | .hbm => 4
  | .vmem => 15
  | .smem => 0
  | _ => 0

abbrev bufTy : (tb : Table) → Fin (tcTables nBuf tb) → BufTy
  | .hbm, ⟨0, _⟩ => ⟨S8192x17664, .f32⟩
  | .hbm, ⟨1, _⟩ => ⟨S8192x128, .f32⟩
  | .hbm, ⟨2, _⟩ => ⟨S4x128x2048, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S1x128x512, .f32⟩
  | .local _ .vmem, ⟨9, _⟩ => ⟨S1x128x512, .f32⟩
  | .local _ .vmem, ⟨10, _⟩ => ⟨S512x1024, .bf16⟩
  | .local _ .vmem, ⟨11, _⟩ => ⟨S512x1024, .bf16⟩
  | .local _ .vmem, ⟨12, _⟩ => ⟨S512x128, .f32⟩
  | .local _ .vmem, ⟨13, _⟩ => ⟨S512x128, .f32⟩
  | .local _ .vmem, ⟨14, _⟩ => ⟨S512x1024, .f32⟩
  | _, _ => ⟨S8192x17664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.minsi arg2 arg1
  let v2 : BitVec 32 := Scalar.addi v0 v1
  let c7_i32 : BitVec 32 := 7#32
  let c0_i32 : BitVec 32 := 0#32
  ![v2.toNat, c7_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.minsi arg2 arg1
  let v2 : BitVec 32 := Scalar.addi v0 v1
  let c8_i32 : BitVec 32 := 8#32
  let c0_i32 : BitVec 32 := 0#32
  ![v2.toNat, c8_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S8192x17664 : Shape := ⟨2, ![8192, 17664]⟩
abbrev S8192x128 : Shape := ⟨2, ![8192, 128]⟩
abbrev S4x128x2048 : Shape := ⟨3, ![4, 128, 2048]⟩
abbrev S8192x1024 : Shape := ⟨2, ![8192, 1024]⟩
abbrev S4x2048x8x128 : Shape := ⟨4, ![4, 2048, 8, 128]⟩
abbrev S8192x8 : Shape := ⟨2, ![8192, 8]⟩
abbrev S4x2048x8 : Shape := ⟨3, ![4, 2048, 8]⟩
abbrev S4x8x2048 : Shape := ⟨3, ![4, 8, 2048]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x128x2048 : Shape := ⟨4, ![4, 8, 128, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x17664, .f32⟩
  | .hbm, ⟨1, _⟩ => ⟨S8192x128, .f32⟩
  | .hbm, ⟨2, _⟩ => ⟨S4x128x2048, .f32⟩
  | .hbm, ⟨3, _⟩ => ⟨S8192x1024, .f32⟩
  | .hbm, ⟨4, _⟩ => ⟨S4x2048x8x128, .f32⟩
  | .hbm, ⟨5, _⟩ => ⟨S4x2048x8x128, .bf16⟩
  | .hbm, ⟨6, _⟩ => ⟨S8192x1024, .f32⟩
  | .hbm, ⟨7, _⟩ => ⟨S4x2048x8x128, .f32⟩
  | .hbm, ⟨8, _⟩ => ⟨S4x2048x8x128, .bf16⟩
  | .hbm, ⟨9, _⟩ => ⟨S8192x1024, .f32⟩
  | .hbm, ⟨10, _⟩ => ⟨S4x2048x8x128, .f32⟩
  | .hbm, ⟨11, _⟩ => ⟨S4x2048x8x128, .bf16⟩
  | .hbm, ⟨12, _⟩ => ⟨S8192x8, .f32⟩
  | .hbm, ⟨13, _⟩ => ⟨S4x2048x8, .f32⟩
  | .hbm, ⟨14, _⟩ => ⟨S4x8x2048, .f32⟩
  | .hbm, ⟨15, _⟩ => ⟨S4x8x2048, .f32⟩
  | .hbm, ⟨16, _⟩ => ⟨S4x8x2048x2048, .f32⟩
  | .hbm, ⟨17, _⟩ => ⟨S_, .f32⟩
  | .hbm, ⟨18, _⟩ => ⟨S4x8x2048x2048, .f32⟩
  | .hbm, ⟨19, _⟩ => ⟨S4x8x2048x2048, .f32⟩
  | .hbm, ⟨20, _⟩ => ⟨S4x8x2048x1, .f32⟩
  | .hbm, ⟨21, _⟩ => ⟨S4x8x2048x2048, .f32⟩
  | .hbm, ⟨22, _⟩ => ⟨S4x8x2048x2048, .f32⟩
  | .hbm, ⟨23, _⟩ => ⟨S4x8x1x2048, .f32⟩
  | .hbm, ⟨24, _⟩ => ⟨S4x8x2048x2048, .f32⟩
  | .hbm, ⟨25, _⟩ => ⟨S4x8x2048x2048, .f32⟩
  | .hbm, ⟨26, _⟩ => ⟨S2048, .i32⟩
  | .hbm, ⟨27, _⟩ => ⟨S2048x1, .i32⟩
  | .hbm, ⟨28, _⟩ => ⟨S1x2048, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S_, .f32⟩
  | .hbm, ⟨33, _⟩ => ⟨S_, .f32⟩
  | .hbm, ⟨34, _⟩ => ⟨S4x8x2048x2048, .i1⟩
  | .hbm, ⟨35, _⟩ => ⟨S4x8x2048x2048, .f32⟩
  | .hbm, ⟨36, _⟩ => ⟨S4x8x2048x2048, .f32⟩
  | .hbm, ⟨37, _⟩ => ⟨S_, .f32⟩
  | .hbm, ⟨38, _⟩ => ⟨S4x8x2048, .f32⟩
  | .hbm, ⟨39, _⟩ => ⟨S_, .f32⟩
  | .hbm, ⟨40, _⟩ => ⟨S4x8x2048, .f32⟩
  | .hbm, ⟨41, _⟩ => ⟨S4x8x2048, .f32⟩
  | .hbm, ⟨42, _⟩ => ⟨S4x8x2048x1, .f32⟩
  | .hbm, ⟨43, _⟩ => ⟨S4x8x2048x2048, .f32⟩
  | .hbm, ⟨44, _⟩ => ⟨S4x8x2048x2048, .f32⟩
  | .hbm, ⟨45, _⟩ => ⟨S4x8x2048x2048, .f32⟩
  | .hbm, ⟨46, _⟩ => ⟨S_, .f32⟩
  | .hbm, ⟨47, _⟩ => ⟨S4x8x2048, .f32⟩
  | .hbm, ⟨48, _⟩ => ⟨S4x8x2048x1, .f32⟩
  | .hbm, ⟨49, _⟩ => ⟨S4x8x2048x2048, .f32⟩
  | .hbm, ⟨50, _⟩ => ⟨S4x8x2048x2048, .f32⟩
  | .hbm, ⟨51, _⟩ => ⟨S4x8x2048x2048, .bf16⟩
  | .hbm, ⟨52, _⟩ => ⟨S4x8x128x2048, .f32⟩
  | .hbm, ⟨53, _⟩ => ⟨S4x2048x8x128, .f32⟩
  | .hbm, ⟨54, _⟩ => ⟨S8192x1024, .f32⟩
  | .hbm, ⟨55, _⟩ => ⟨S8192x1024, .bf16⟩
  | _, _ => ⟨S8192x17664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel2.lean ====
abbrev S8192x2048 : Shape := ⟨2, ![8192, 2048]⟩
abbrev S4x1x2048 : Shape := ⟨3, ![4, 1, 2048]⟩
abbrev S4x2048x17664 : Shape := ⟨3, ![4, 2048, 17664]⟩
abbrev S8192x17664 : Shape := ⟨2, ![8192, 17664]⟩
abbrev S1024x2048 : Shape := ⟨2, ![1024, 2048]⟩
abbrev S1x1x2048 : Shape := ⟨3, ![1, 1, 2048]⟩
abbrev S1x2048x768 : Shape := ⟨3, ![1, 2048, 768]⟩
abbrev S1024x768 : Shape := ⟨2, ![1024, 768]⟩
abbrev S1024 : Shape := ⟨1, ![1024]⟩
abbrev S1024x1 : Shape := ⟨2, ![1024, 1]⟩
abbrev S1x2048 : Shape := ⟨2, ![1, 2048]⟩
abbrev S2048x768 : Shape := ⟨2, ![2048, 768]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4x1x2048, .f32⟩
  | .hbm, ⟨2, _⟩ => ⟨S4x2048x17664, .bf16⟩
  | .hbm, ⟨3, _⟩ => ⟨S8192x17664, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x768, .bf16⟩
  | .local _ .vmem, ⟨4, _⟩ => ⟨S1x2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 23], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S4x1x2048 : Shape := ⟨3, ![4, 1, 2048]⟩
abbrev S4x2048x17664 : Shape := ⟨3, ![4, 2048, 17664]⟩
abbrev S1x1x2048 : Shape := ⟨3, ![1, 1, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x17664 : Shape := ⟨3, ![1, 2048, 17664]⟩
abbrev S2048x17664 : Shape := ⟨2, ![2048, 17664]⟩
abbrev S8192x17664 : Shape := ⟨2, ![8192, 17664]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1x2048, .f32⟩
  | .hbm, ⟨2, _⟩ => ⟨S4x2048x17664, .bf16⟩
  | .hbm, ⟨3, _⟩ => ⟨S1x1x2048, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S1x2048x17664, .bf16⟩
  | .hbm, ⟨22, _⟩ => ⟨S2048x17664, .bf16⟩
  | .hbm, ⟨23, _⟩ => ⟨S8192x17664, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel3.lean ====
abbrev S8192x2048 : Shape := ⟨2, ![8192, 2048]⟩
abbrev S4x1x2048 : Shape := ⟨3, ![4, 1, 2048]⟩
abbrev S4x2048x8192 : Shape := ⟨3, ![4, 2048, 8192]⟩
abbrev S8192x8192 : Shape := ⟨2, ![8192, 8192]⟩
abbrev S1024x2048 : Shape := ⟨2, ![1024, 2048]⟩
abbrev S1x1x2048 : Shape := ⟨3, ![1, 1, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S1x2048 : Shape := ⟨2, ![1, 2048]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4x1x2048, .f32⟩
  | .hbm, ⟨2, _⟩ => ⟨S4x2048x8192, .bf16⟩
  | .hbm, ⟨3, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x2048 : Shape := ⟨2, ![8192, 2048]⟩
abbrev S4x1x2048 : Shape := ⟨3, ![4, 1, 2048]⟩
abbrev S4x2048x8192 : Shape := ⟨3, ![4, 2048, 8192]⟩
abbrev S1x1x2048 : Shape := ⟨3, ![1, 1, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1x2048, .f32⟩
  | .hbm, ⟨2, _⟩ => ⟨S4x2048x8192, .bf16⟩
  | .hbm, ⟨3, _⟩ => ⟨S1x1x2048, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S1x2048x8192, .bf16⟩
  | .hbm, ⟨22, _⟩ => ⟨S2048x8192, .bf16⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_cst : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel4.lean ====
abbrev S8192x1024 : Shape := ⟨2, ![8192, 1024]⟩
abbrev S8192x17664 : Shape := ⟨2, ![8192, 17664]⟩
abbrev S4x1024x2048 : Shape := ⟨3, ![4, 1024, 2048]⟩
abbrev S8192x2048 : Shape := ⟨2, ![8192, 2048]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 8
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x17664, .f32⟩
  | .hbm, ⟨4, _⟩ => ⟨S4x1024x2048, .bf16⟩
  | .hbm, ⟨5, _⟩ => ⟨S4x1024x2048, .bf16⟩
  | .hbm, ⟨6, _⟩ => ⟨S4x1024x2048, .bf16⟩
  | .hbm, ⟨7, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S512x1024, .bf16⟩
  | .local _ .vmem, ⟨19, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S8192x1024 : Shape := ⟨2, ![8192, 1024]⟩
abbrev S8192x17664 : Shape := ⟨2, ![8192, 17664]⟩
abbrev S4x1024x2048 : Shape := ⟨3, ![4, 1024, 2048]⟩
abbrev S8192x2048 : Shape := ⟨2, ![8192, 2048]⟩
abbrev S_ : Shape := ⟨0, ![]⟩
abbrev S1x1024x2048 : Shape := ⟨3, ![1, 1024, 2048]⟩
abbrev S1024x2048 : Shape := ⟨2, ![1024, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x17664, .f32⟩
  | .hbm, ⟨4, _⟩ => ⟨S4x1024x2048, .bf16⟩
  | .hbm, ⟨5, _⟩ => ⟨S4x1024x2048, .bf16⟩
  | .hbm, ⟨6, _⟩ => ⟨S4x1024x2048, .bf16⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S1x1024x2048, .bf16⟩
  | .hbm, ⟨19, _⟩ => ⟨S1024x2048, .bf16⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S1x1024x2048, .bf16⟩
  | .hbm, ⟨31, _⟩ => ⟨S1024x2048, .bf16⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S1x1024x2048, .bf16⟩
  | .hbm, ⟨44, _⟩ => ⟨S1024x2048, .bf16⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel5.lean ====
abbrev S8192x8192 : Shape := ⟨2, ![8192, 8192]⟩
abbrev S4x8192x2048 : Shape := ⟨3, ![4, 8192, 2048]⟩
abbrev S8192x2048 : Shape := ⟨2, ![8192, 2048]⟩
abbrev S4x1x2048 : Shape := ⟨3, ![4, 1, 2048]⟩
abbrev S512x1024 : Shape := ⟨2, ![512, 1024]⟩
abbrev S1x1024x2048 : Shape := ⟨3, ![1, 1024, 2048]⟩
abbrev S512x2048 : Shape := ⟨2, ![512, 2048]⟩
abbrev S1x1x2048 : Shape := ⟨3, ![1, 1, 2048]⟩
abbrev S1024x2048 : Shape := ⟨2, ![1024, 2048]⟩
abbrev S512 : Shape := ⟨1, ![512]⟩
abbrev S512x1 : Shape := ⟨2, ![512, 1]⟩
abbrev S1x2048 : Shape := ⟨2, ![1, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .bf16⟩
  | .hbm, ⟨2, _⟩ => ⟨S8192x2048, .f32⟩
  | .hbm, ⟨3, _⟩ => ⟨S4x1x2048, .f32⟩
  | .hbm, ⟨4, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S8192x8192 : Shape := ⟨2, ![8192, 8192]⟩
abbrev S4x8192x2048 : Shape := ⟨3, ![4, 8192, 2048]⟩
abbrev S8192x2048 : Shape := ⟨2, ![8192, 2048]⟩
abbrev S4x1x2048 : Shape := ⟨3, ![4, 1, 2048]⟩
abbrev S1x8192x2048 : Shape := ⟨3, ![1, 8192, 2048]⟩
abbrev S1x1x2048 : Shape := ⟨3, ![1, 1, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .bf16⟩
  | .hbm, ⟨2, _⟩ => ⟨S8192x2048, .f32⟩
  | .hbm, ⟨3, _⟩ => ⟨S4x1x2048, .f32⟩
  | .hbm, ⟨4, _⟩ => ⟨S1x8192x2048, .bf16⟩
  | .hbm, ⟨5, _⟩ => ⟨S8192x2048, .bf16⟩
  | .hbm, ⟨6, _⟩ => ⟨S8192x2048, .f32⟩
  | .hbm, ⟨7, _⟩ => ⟨S1x1x2048, .f32⟩
  | .hbm, ⟨8, _⟩ => ⟨S1x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel6.lean ====
abbrev S8192x2048 : Shape := ⟨2, ![8192, 2048]⟩
abbrev S4x2048x2048 : Shape := ⟨3, ![4, 2048, 2048]⟩
abbrev S4x1x2048 : Shape := ⟨3, ![4, 1, 2048]⟩
abbrev S512x1024 : Shape := ⟨2, ![512, 1024]⟩
abbrev S1x1024x2048 : Shape := ⟨3, ![1, 1024, 2048]⟩
abbrev S512x2048 : Shape := ⟨2, ![512, 2048]⟩
abbrev S1x1x2048 : Shape := ⟨3, ![1, 1, 2048]⟩
abbrev S1024x2048 : Shape := ⟨2, ![1024, 2048]⟩
abbrev S512 : Shape := ⟨1, ![512]⟩
abbrev S512x1 : Shape := ⟨2, ![512, 1]⟩
abbrev S1x2048 : Shape := ⟨2, ![1, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .f32⟩
  | .hbm, ⟨3, _⟩ => ⟨S4x1x2048, .f32⟩
  | .hbm, ⟨4, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S8192x2048 : Shape := ⟨2, ![8192, 2048]⟩
abbrev S4x2048x2048 : Shape := ⟨3, ![4, 2048, 2048]⟩
abbrev S4x1x2048 : Shape := ⟨3, ![4, 1, 2048]⟩
abbrev S1x2048x2048 : Shape := ⟨3, ![1, 2048, 2048]⟩
abbrev S2048x2048 : Shape := ⟨2, ![2048, 2048]⟩
abbrev S1x1x2048 : Shape := ⟨3, ![1, 1, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .f32⟩
  | .hbm, ⟨3, _⟩ => ⟨S4x1x2048, .f32⟩
  | .hbm, ⟨4, _⟩ => ⟨S1x2048x2048, .bf16⟩
  | .hbm, ⟨5, _⟩ => ⟨S2048x2048, .bf16⟩
  | .hbm, ⟨6, _⟩ => ⟨S8192x2048, .f32⟩
  | .hbm, ⟨7, _⟩ => ⟨S1x1x2048, .f32⟩
  | .hbm, ⟨8, _⟩ => ⟨S1x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel7.lean ====
abbrev S8192x17664 : Shape := ⟨2, ![8192, 17664]⟩
abbrev S4x1x128 : Shape := ⟨3, ![4, 1, 128]⟩
abbrev S8192x128 : Shape := ⟨2, ![8192, 128]⟩
abbrev S4x128x2048 : Shape := ⟨3, ![4, 128, 2048]⟩
abbrev S2048x128 : Shape := ⟨2, ![2048, 128]⟩
abbrev S1x1x128 : Shape := ⟨3, ![1, 1, 128]⟩
abbrev S1x128x2048 : Shape := ⟨3, ![1, 128, 2048]⟩
abbrev S1x128 : Shape := ⟨2, ![1, 128]⟩
abbrev S128x128 : Shape := ⟨2, ![128, 128]⟩
abbrev S1x128x128 : Shape := ⟨3, ![1, 128, 128]⟩

abbrev nBuf : Space → Nat
  | .hbm => 5
  | .vmem => 9
  | .smem => 0
  | _ => 0

abbrev bufTy : (tb : Table) → Fin (tcTables nBuf tb) → BufTy
  | .hbm, ⟨0, _⟩ => ⟨S8192x17664, .f32⟩
  | .hbm, ⟨1, _⟩ => ⟨S4x1x128, .f32⟩
  | .hbm, ⟨2, _⟩ => ⟨S8192x128, .f32⟩
  | .hbm, ⟨3, _⟩ => ⟨S8192x128, .f32⟩
  | .hbm, ⟨4, _⟩ => ⟨S4x128x2048, .f32⟩
  | .local _ .vmem, ⟨0, _⟩ => ⟨S2048x128, .f32⟩
  | .local _ .vmem, ⟨1, _⟩ => ⟨S2048x128, .f32⟩
  | .local _ .vmem, ⟨2, _⟩ => ⟨S1x1x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S1x128x2048, .f32⟩
  | .local _ .vmem, ⟨8, _⟩ => ⟨S1x128x2048, .f32⟩
  | _, _ => ⟨S8192x17664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c136_i32 : BitVec 32 := 136#32
  let c0_i32 : BitVec 32 := 0#32
  ![arg0.toNat, c136_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8192x17664 : Shape := ⟨2, ![8192, 17664]⟩
abbrev S4x1x128 : Shape := ⟨3, ![4, 1, 128]⟩
abbrev S8192x128 : Shape := ⟨2, ![8192, 128]⟩
abbrev S1x1x128 : Shape := ⟨3, ![1, 1, 128]⟩
abbrev S1x128 : Shape := ⟨2, ![1, 128]⟩
abbrev S_ : Shape := ⟨0, ![]⟩
abbrev S4x2048x128 : Shape := ⟨3, ![4, 2048, 128]⟩
abbrev S4x128x2048 : Shape := ⟨3, ![4, 128, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x17664, .f32⟩
  | .hbm, ⟨1, _⟩ => ⟨S4x1x128, .f32⟩
  | .hbm, ⟨2, _⟩ => ⟨S8192x128, .f32⟩
  | .hbm, ⟨3, _⟩ => ⟨S1x1x128, .f32⟩
  | .hbm, ⟨4, _⟩ => ⟨S1x128, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S_, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .i1⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S4x2048x128, .f32⟩
  | .hbm, ⟨24, _⟩ => ⟨S_, .f32⟩
  | .hbm, ⟨25, _⟩ => ⟨S_, .f32⟩
  | .hbm, ⟨26, _⟩ => ⟨S4x2048x128, .f32⟩
  | .hbm, ⟨27, _⟩ => ⟨S8192x128, .f32⟩
  | .hbm, ⟨28, _⟩ => ⟨S4x128x2048, .f32⟩
  | _, _ => ⟨S8192x17664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v5 : Ref sig .tc := ⟨.hbm, 22, rfl⟩
abbrev main_v6 : Ref sig .tc := ⟨.hbm, 23, rfl⟩
abbrev main_call1_call0_cst : Ref sig .tc := ⟨.hbm, 24, rfl⟩
abbrev main_call1_call0_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Kernel8.lean ====
abbrev S512x2048 : Shape := ⟨2, ![512, 2048]⟩
abbrev S4x1x2048 : Shape := ⟨3, ![4, 1, 2048]⟩
abbrev S4x2048x17664 : Shape := ⟨3, ![4, 2048, 17664]⟩
abbrev S512x17664 : Shape := ⟨2, ![512, 17664]⟩
abbrev S1x1x2048 : Shape := ⟨3, ![1, 1, 2048]⟩
abbrev S1x2048x768 : Shape := ⟨3, ![1, 2048, 768]⟩
abbrev S512x768 : Shape := ⟨2, ![512, 768]⟩
abbrev S512 : Shape := ⟨1, ![512]⟩
abbrev S512x1 : Shape := ⟨2, ![512, 1]⟩
abbrev S1x2048 : Shape := ⟨2, ![1, 2048]⟩
abbrev S2048x768 : Shape := ⟨2, ![2048, 768]⟩

abbrev nBuf : Space → Nat
  | .hbm => 4
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S4x1x2048, .f32⟩
  | .hbm, ⟨2, _⟩ => ⟨S4x2048x17664, .bf16⟩
  | .hbm, ⟨3, _⟩ => ⟨S512x17664, .f32⟩
  | .local _ .vmem, ⟨0, _⟩ => ⟨S512x2048, .f32⟩
  | .local _ .vmem, ⟨1, _⟩ => ⟨S1x1x2048, .f32⟩
  | .local _ .vmem, ⟨2, _⟩ => ⟨S1x2048x768, .bf16⟩
  | .local _ .vmem, ⟨3, _⟩ => ⟨S1x2048x768, .bf16⟩
  | .local _ .vmem, ⟨4, _⟩ => ⟨S512x768, .f32⟩
  | .local _ .vmem, ⟨5, _⟩ => ⟨S512x768, .f32⟩
  | .local _ .vmem, ⟨6, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 23], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S512x2048 : Shape := ⟨2, ![512, 2048]⟩
abbrev S4x1x2048 : Shape := ⟨3, ![4, 1, 2048]⟩
abbrev S4x2048x17664 : Shape := ⟨3, ![4, 2048, 17664]⟩
abbrev S1x1x2048 : Shape := ⟨3, ![1, 1, 2048]⟩
abbrev S1x2048 : Shape := ⟨2, ![1, 2048]⟩
abbrev S_ : Shape := ⟨0, ![]⟩
abbrev S512 : Shape := ⟨1, ![512]⟩
abbrev S512x1 : Shape := ⟨2, ![512, 1]⟩
abbrev S1x2048x17664 : Shape := ⟨3, ![1, 2048, 17664]⟩
abbrev S2048x17664 : Shape := ⟨2, ![2048, 17664]⟩
abbrev S512x17664 : Shape := ⟨2, ![512, 17664]⟩

abbrev nBuf : Space → Nat
  | .hbm => 24
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S4x1x2048, .f32⟩
  | .hbm, ⟨2, _⟩ => ⟨S4x2048x17664, .bf16⟩
  | .hbm, ⟨3, _⟩ => ⟨S1x1x2048, .f32⟩
  | .hbm, ⟨4, _⟩ => ⟨S1x2048, .f32⟩
  | .hbm, ⟨5, _⟩ => ⟨S512x2048, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S512x2048, .bf16⟩
  | .hbm, ⟨21, _⟩ => ⟨S1x2048x17664, .bf16⟩
  | .hbm, ⟨22, _⟩ => ⟨S2048x17664, .bf16⟩
  | .hbm, ⟨23, _⟩ => ⟨S512x17664, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel9.lean ====
abbrev S512x8192 : Shape := ⟨2, ![512, 8192]⟩
abbrev S4x8192x2048 : Shape := ⟨3, ![4, 8192, 2048]⟩
abbrev S512x2048 : Shape := ⟨2, ![512, 2048]⟩
abbrev S4x1x2048 : Shape := ⟨3, ![4, 1, 2048]⟩
abbrev S512x1024 : Shape := ⟨2, ![512, 1024]⟩
abbrev S1x1024x2048 : Shape := ⟨3, ![1, 1024, 2048]⟩
abbrev S1x1x2048 : Shape := ⟨3, ![1, 1, 2048]⟩
abbrev S1024x2048 : Shape := ⟨2, ![1024, 2048]⟩
abbrev S512 : Shape := ⟨1, ![512]⟩
abbrev S512x1 : Shape := ⟨2, ![512, 1]⟩
abbrev S1x2048 : Shape := ⟨2, ![1, 2048]⟩

abbrev nBuf : Space → Nat
  | .hbm => 5
  | .vmem => 8
  | .smem => 0
  | _ => 0

abbrev bufTy : (tb : Table) → Fin (tcTables nBuf tb) → BufTy
  | .hbm, ⟨0, _⟩ => ⟨S512x8192, .bf16⟩
  | .hbm, ⟨1, _⟩ => ⟨S4x8192x2048, .bf16⟩
  | .hbm, ⟨2, _⟩ => ⟨S512x2048, .f32⟩
  | .hbm, ⟨3, _⟩ => ⟨S4x1x2048, .f32⟩
  | .hbm, ⟨4, _⟩ => ⟨S512x2048, .f32⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x2048, .f32⟩
  | .local _ .vmem, ⟨5, _⟩ => ⟨S1x1x2048, .f32⟩
  | .local _ .vmem, ⟨6, _⟩ => ⟨S512x2048, .f32⟩
  | .local _ .vmem, ⟨7, _⟩ => ⟨S512x2048, .f32⟩
  | _, _ => ⟨S512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference9Ideal.lean ====
abbrev S512x8192 : Shape := ⟨2, ![512, 8192]⟩
abbrev S4x8192x2048 : Shape := ⟨3, ![4, 8192, 2048]⟩
abbrev S512x2048 : Shape := ⟨2, ![512, 2048]⟩
abbrev S4x1x2048 : Shape := ⟨3, ![4, 1, 2048]⟩
abbrev S1x8192x2048 : Shape := ⟨3, ![1, 8192, 2048]⟩
abbrev S8192x2048 : Shape := ⟨2, ![8192, 2048]⟩
abbrev S1x1x2048 : Shape := ⟨3, ![1, 1, 2048]⟩
abbrev S1x2048 : Shape := ⟨2, ![1, 2048]⟩
abbrev S_ : Shape := ⟨0, ![]⟩
abbrev S512 : Shape := ⟨1, ![512]⟩
abbrev S512x1 : Shape := ⟨2, ![512, 1]⟩

abbrev nBuf : Space → Nat
  | .hbm => 25
  | .vmem => 0
  | .smem => 0
  | _ => 0

abbrev bufTy : (tb : Table) → Fin (tcTables nBuf tb) → BufTy
  | .hbm, ⟨0, _⟩ => ⟨S512x8192, .bf16⟩
  | .hbm, ⟨1, _⟩ => ⟨S4x8192x2048, .bf16⟩
  | .hbm, ⟨2, _⟩ => ⟨S512x2048, .f32⟩
  | .hbm, ⟨3, _⟩ => ⟨S4x1x2048, .f32⟩
  | .hbm, ⟨4, _⟩ => ⟨S1x8192x2048, .bf16⟩
  | .hbm, ⟨5, _⟩ => ⟨S8192x2048, .bf16⟩
  | .hbm, ⟨6, _⟩ => ⟨S512x2048, .f32⟩
  | .hbm, ⟨7, _⟩ => ⟨S1x1x2048, .f32⟩
  | .hbm, ⟨8, _⟩ => ⟨S1x2048, .f32⟩
  | .hbm, ⟨9, _⟩ => ⟨S512x2048, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S512x2048, .f32⟩
  | .hbm, ⟨24, _⟩ => ⟨S512x2048, .f32⟩
  | _, _ => ⟨S512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel10.lean ====
abbrev S4x1024 : Shape := ⟨2, ![4, 1024]⟩
abbrev S1024 : Shape := ⟨1, ![1024]⟩
abbrev S1x1024 : Shape := ⟨2, ![1, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .local _ .vmem, ⟨0, _⟩ => ⟨S4x1024, .f32⟩
  | .local _ .vmem, ⟨1, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference10Ideal.lean ====
abbrev S4x1024 : Shape := ⟨2, ![4, 1024]⟩
abbrev S_ : Shape := ⟨0, ![]⟩
abbrev S1024 : Shape := ⟨1, ![1024]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S_, .f32⟩
  | .hbm, ⟨17, _⟩ => ⟨S4x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S4x1024, .f32⟩
  | .hbm, ⟨22, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel11.lean ====
abbrev S8192x17664 : Shape := ⟨2, ![8192, 17664]⟩
abbrev S4x1x1024 : Shape := ⟨3, ![4, 1, 1024]⟩
abbrev S4x1x128 : Shape := ⟨3, ![4, 1, 128]⟩
abbrev S4x8x128x128 : Shape := ⟨4, ![4, 8, 128, 128]⟩
abbrev S8192x1024 : Shape := ⟨2, ![8192, 1024]⟩
abbrev S64x1024 : Shape := ⟨2, ![64, 1024]⟩
abbrev S1x1x1024 : Shape := ⟨3, ![1, 1, 1024]⟩
abbrev S1x1x128 : Shape := ⟨3, ![1, 1, 128]⟩
abbrev S1x8x128x128 : Shape := ⟨4, ![1, 8, 128, 128]⟩
abbrev S8x128x128 : Shape := ⟨3, ![8, 128, 128]⟩
abbrev S1x1x128x128 : Shape := ⟨4, ![1, 1, 128, 128]⟩
abbrev S128x128 : Shape := ⟨2, ![128, 128]⟩
abbrev S1x128x128 : Shape := ⟨3, ![1, 128, 128]⟩
abbrev S64x1 : Shape := ⟨2, ![64, 1]⟩
abbrev S1x1024 : Shape := ⟨2, ![1, 1024]⟩
abbrev S64x64 : Shape := ⟨2, ![64, 64]⟩
abbrev S8x8x128 : Shape := ⟨3, ![8, 8, 128]⟩
abbrev S64x128 : Shape := ⟨2, ![64, 128]⟩
abbrev S1x64x128 : Shape := ⟨3, ![1, 64, 128]⟩
abbrev S2x32x128 : Shape := ⟨3, ![2, 32, 128]⟩
abbrev S2x1x128 : Shape := ⟨3, ![2, 1, 128]⟩
abbrev S4x16x128 : Shape := ⟨3, ![4, 16, 128]⟩
abbrev S8x1x128 : Shape := ⟨3, ![8, 1, 128]⟩
abbrev S8x8 : Shape := ⟨2, ![8, 8]⟩
abbrev S8x8x1 : Shape := ⟨3, ![8, 8, 1]⟩
abbrev S8x128 : Shape := ⟨2, ![8, 128]⟩
abbrev S1x128 : Shape := ⟨2, ![1, 128]⟩
abbrev S128x64 : Shape := ⟨2, ![128, 64]⟩
abbrev S64 : Shape := ⟨1, ![64]⟩

abbrev nBuf : Space → Nat
  | .hbm => 6
  | .vmem => 17
  | .smem => 0
  | _ => 0

abbrev bufTy : (tb : Table) → Fin (tcTables nBuf tb) → BufTy
  | .hbm, ⟨0, _⟩ => ⟨S8192x17664, .f32⟩
  | .hbm, ⟨1, _⟩ => ⟨S4x1x1024, .f32⟩
  | .hbm, ⟨2, _⟩ => ⟨S4x1x128, .f32⟩
  | .hbm, ⟨3, _⟩ => ⟨S4x8x128x128, .f32⟩
  | .hbm, ⟨4, _⟩ => ⟨S8192x1024, .bf16⟩
  | .hbm, ⟨5, _⟩ => ⟨S4x8x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S1x1x1024, .f32⟩
  | .local _ .vmem, ⟨9, _⟩ => ⟨S1x1x128, .f32⟩
  | .local _ .vmem, ⟨10, _⟩ => ⟨S1x8x128x128, .f32⟩
  | .local _ .vmem, ⟨11, _⟩ => ⟨S1x8x128x128, .f32⟩
  | .local _ .vmem, ⟨12, _⟩ => ⟨S64x1024, .bf16⟩
  | .local _ .vmem, ⟨13, _⟩ => ⟨S64x1024, .bf16⟩
  | .local _ .vmem, ⟨14, _⟩ => ⟨S1x8x128x128, .f32⟩
  | .local _ .vmem, ⟨15, _⟩ => ⟨S1x8x128x128, .f32⟩
  | .local _ .vmem, ⟨16, _⟩ => ⟨S8x128x128, .f32⟩
  | _, _ => ⟨S8192x17664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v4361 : BitVec 1 := Scalar.cmpi .eq arg1 c31_i32
  let v4362 : BitVec 32 := Scalar.extui v4361
  let c0_i32_1188 : BitVec 32 := 0#32
  let v4363 : BitVec 1 := Scalar.cmpi .ne v4362 c0_i32_1188
  v4363

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c13_i32 : BitVec 32 := 13#32
  let c0_i32 : BitVec 32 := 0#32
  ![v1.toNat, c13_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c14_i32 : BitVec 32 := 14#32
  let c0_i32 : BitVec 32 := 0#32
  ![v1.toNat, c14_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c15_i32 : BitVec 32 := 15#32
  let c0_i32 : BitVec 32 := 0#32
  ![v1.toNat, c15_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c16_i32 : BitVec 32 := 16#32
  let c0_i32 : BitVec 32 := 0#32
  ![v1.toNat, c16_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference11Ideal.lean ====
abbrev S8192x17664 : Shape := ⟨2, ![8192, 17664]⟩
abbrev S4x1x1024 : Shape := ⟨3, ![4, 1, 1024]⟩
abbrev S4x1x128 : Shape := ⟨3, ![4, 1, 128]⟩
abbrev S4x8x128x128 : Shape := ⟨4, ![4, 8, 128, 128]⟩
abbrev S8192x1024 : Shape := ⟨2, ![8192, 1024]⟩
abbrev S1x1x1024 : Shape := ⟨3, ![1, 1, 1024]⟩
abbrev S1x1024 : Shape := ⟨2, ![1, 1024]⟩
abbrev S_ : Shape := ⟨0, ![]⟩
abbrev S4x32x64x8x128 : Shape := ⟨5, ![4, 32, 64, 8, 128]⟩
abbrev S32x4x8x64x128 : Shape := ⟨5, ![32, 4, 8, 64, 128]⟩
abbrev S1x4x8x64x128 : Shape := ⟨5, ![1, 4, 8, 64, 128]⟩
abbrev S4x8x64x128 : Shape := ⟨4, ![4, 8, 64, 128]⟩
abbrev S4x8x1x128 : Shape := ⟨4, ![4, 8, 1, 128]⟩
abbrev S4x8x128 : Shape := ⟨3, ![4, 8, 128]⟩
abbrev S4x8x128x1 : Shape := ⟨4, ![4, 8, 128, 1]⟩

abbrev nBuf : Space → Nat
  | .hbm => 109
  | .vmem => 0
  | .smem => 0
  | _ => 0

abbrev bufTy : (tb : Table) → Fin (tcTables nBuf tb) → BufTy
  | .hbm, ⟨0, _⟩ => ⟨S8192x17664, .f32⟩
  | .hbm, ⟨1, _⟩ => ⟨S4x1x1024, .f32⟩
  | .hbm, ⟨2, _⟩ => ⟨S4x1x128, .f32⟩
  | .hbm, ⟨3, _⟩ => ⟨S4x8x128x128, .f32⟩
  | .hbm, ⟨4, _⟩ => ⟨S8192x1024, .f32⟩
  | .hbm, ⟨5, _⟩ => ⟨S8192x1024, .f32⟩
  | .hbm, ⟨6, _⟩ => ⟨S1x1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .i1⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .i1⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S4x32x64x8x128, .f32⟩
  | .hbm, ⟨60, _⟩ => ⟨S32x4x8x64x128, .f32⟩
  | .hbm, ⟨61, _⟩ => ⟨S4x32x64x8x128, .f32⟩
  | .hbm, ⟨62, _⟩ => ⟨S32x4x8x64x128, .f32⟩
  | .hbm, ⟨63, _⟩ => ⟨S4x32x64x8x128, .f32⟩
  | .hbm, ⟨64, _⟩ => ⟨S32x4x8x64x128, .f32⟩
  | .hbm, ⟨65, _⟩ => ⟨S_, .i32⟩
  | .hbm, ⟨66, _⟩ => ⟨S32x4x8x64x128, .f32⟩
  | .hbm, ⟨67, _⟩ => ⟨S32x4x8x64x128, .f32⟩
  | .hbm, ⟨68, _⟩ => ⟨S32x4x8x64x128, .f32⟩
  | .hbm, ⟨69, _⟩ => ⟨S_, .i32⟩
  | .hbm, ⟨70, _⟩ => ⟨S4x8x128x128, .f32⟩
  | .hbm, ⟨71, _⟩ => ⟨S_, .i32⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S1x4x8x64x128, .f32⟩
  | .hbm, ⟨78, _⟩ => ⟨S4x8x64x128, .f32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S1x4x8x64x128, .f32⟩
  | .hbm, ⟨84, _⟩ => ⟨S4x8x64x128, .f32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S1x4x8x64x128, .f32⟩
  | .hbm, ⟨90, _⟩ => ⟨S4x8x64x128, .f32⟩
  | .hbm, ⟨91, _⟩ => ⟨S_, .f32⟩
  | .hbm, ⟨92, _⟩ => ⟨S_, .f32⟩
  | .hbm, ⟨93, _⟩ => ⟨S4x8x64x128, .f32⟩
  | .hbm, ⟨94, _⟩ => ⟨S4x8x1x128, .f32⟩
  | .hbm, ⟨95, _⟩ => ⟨S4x8x128, .f32⟩
  | .hbm, ⟨96, _⟩ => ⟨S4x8x128, .f32⟩
  | .hbm, ⟨97, _⟩ => ⟨S4x8x128x1, .f32⟩
  | .hbm, ⟨98, _⟩ => ⟨S4x8x128x128, .f32⟩
  | .hbm, ⟨99, _⟩ => ⟨S4x8x128x128, .f32⟩
  | .hbm, ⟨100, _⟩ => ⟨S4x8x1x128, .f32⟩
  | .hbm, ⟨101, _⟩ => ⟨S4x8x64x128, .f32⟩
  | .hbm, ⟨102, _⟩ => ⟨S4x8x64x128, .f32⟩
  | .hbm, ⟨103, _⟩ => ⟨S4x8x64x128, .f32⟩
  | .hbm, ⟨104, _⟩ => ⟨S4x8x64x128, .f32⟩
  | .hbm, ⟨105, _⟩ => ⟨S4x8x128x128, .f32⟩
  | .hbm, ⟨106, _⟩ => ⟨S4x8x128x128, .f32⟩
  | .hbm, ⟨107, _⟩ => ⟨S_, .i32⟩
  | .hbm, ⟨108, _⟩ => ⟨S_, .i32⟩
  | _, _ => ⟨S8192x17664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c : Ref sig .tc := ⟨.hbm, 65, rfl⟩
abbrev main_v42_0 : Ref sig .tc := ⟨.hbm, 66, rfl⟩
abbrev main_v42_1 : Ref sig .tc := ⟨.hbm, 67, rfl⟩
abbrev main_v42_2 : Ref sig .tc := ⟨.hbm, 68, rfl⟩
abbrev main_v42_3 : Ref sig .tc := ⟨.hbm, 69, rfl⟩
abbrev main_v42_4 : Ref sig .tc := ⟨.hbm, 70, rfl⟩
abbrev main_while0c_c_7 : Ref sig .tc := ⟨.hbm, 71, rfl⟩
abbrev main_while0c_v43 : Ref sig .tc := ⟨.hbm, 72, rfl⟩
abbrev main_while0b_call1_c : Ref sig .tc := ⟨.hbm, 73, rfl⟩
abbrev main_while0b_call1_c_0 : Ref sig .tc := ⟨.hbm, 74, rfl⟩
abbrev main_while0b_call1_c_1 : Ref sig .tc := ⟨.hbm, 75, rfl⟩
abbrev main_while0b_call1_c_2 : Ref sig .tc := ⟨.hbm, 76, rfl⟩
abbrev main_while0b_call1_v0 : Ref sig .tc := ⟨.hbm, 77, rfl⟩
abbrev main_while0b_v43 : Ref sig .tc := ⟨.hbm, 78, rfl⟩
abbrev main_while0b_call2_c : Ref sig .tc := ⟨.hbm, 79, rfl⟩
abbrev main_while0b_call2_c_0 : Ref sig .tc := ⟨.hbm, 80, rfl⟩
abbrev main_while0b_call2_c_1 : Ref sig .tc := ⟨.hbm, 81, rfl⟩
abbrev main_while0b_call2_c_2 : Ref sig .tc := ⟨.hbm, 82, rfl⟩
abbrev main_while0b_call2_v0 : Ref sig .tc := ⟨.hbm, 83, rfl⟩
abbrev main_while0b_v44 : Ref sig .tc := ⟨.hbm, 84, rfl⟩
abbrev main_while0b_call3_c : Ref sig .tc := ⟨.hbm, 85, rfl⟩
abbrev main_while0b_call3_c_0 : Ref sig .tc := ⟨.hbm, 86, rfl⟩
abbrev main_while0b_call3_c_1 : Ref sig .tc := ⟨.hbm, 87, rfl⟩
abbrev main_while0b_call3_c_2 : Ref sig .tc := ⟨.hbm, 88, rfl⟩
abbrev main_while0b_call3_v0 : Ref sig .tc := ⟨.hbm, 89, rfl⟩
abbrev main_while0b_v45 : Ref sig .tc := ⟨.hbm, 90, rfl⟩
abbrev main_while0b_call4_call0_cst : Ref sig .tc := ⟨.hbm, 91, rfl⟩
abbrev main_while0b_call4_call0_v0 : Ref sig .tc := ⟨.hbm, 92, rfl⟩
abbrev main_while0b_v46 : Ref sig .tc := ⟨.hbm, 93, rfl⟩
abbrev main_while0b_v47 : Ref sig .tc := ⟨.hbm, 94, rfl⟩
abbrev main_while0b_v48 : Ref sig .tc := ⟨.hbm, 95, rfl⟩
abbrev main_while0b_v49 : Ref sig .tc := ⟨.hbm, 96, rfl⟩
abbrev main_while0b_v50 : Ref sig .tc := ⟨.hbm, 97, rfl⟩
abbrev main_while0b_v51 : Ref sig .tc := ⟨.hbm, 98, rfl⟩
abbrev main_while0b_v52 : Ref sig .tc := ⟨.hbm, 99, rfl⟩
abbrev main_while0b_v53 : Ref sig .tc := ⟨.hbm, 100, rfl⟩
abbrev main_while0b_v54 : Ref sig .tc := ⟨.hbm, 101, rfl⟩
abbrev main_while0b_v55 : Ref sig .tc := ⟨.hbm, 102, rfl⟩
abbrev main_while0b_v56 : Ref sig .tc := ⟨.hbm, 103, rfl⟩
abbrev main_while0b_v57 : Ref sig .tc := ⟨.hbm, 104, rfl⟩
abbrev main_while0b_v58 : Ref sig .tc := ⟨.hbm, 105, rfl⟩
abbrev main_while0b_v59 : Ref sig .tc := ⟨.hbm, 106, rfl⟩
abbrev main_while0b_c_7 : Ref sig .tc := ⟨.hbm, 107, rfl⟩
abbrev main_while0b_v60 : Ref sig .tc := ⟨.hbm, 108, rfl⟩

abbrev nD : Nat := 1
abbrev τ : Topo := Topo.v7x

variable {F : FTy → Type} [FloatOps F]

abbrev main_while0_count : Scf.Loop 32 := ⟨0#32, 32#32, 1#32⟩
-- ==== Kernel12.lean ====
abbrev S512x17664 : Shape := ⟨2, ![512, 17664]⟩
abbrev S4x1x1024 : Shape := ⟨3, ![4, 1, 1024]⟩
abbrev S4x1x128 : Shape := ⟨3, ![4, 1, 128]⟩
abbrev S8x8x128x128 : Shape := ⟨4, ![8, 8, 128, 128]⟩
abbrev S512x1024 : Shape := ⟨2, ![512, 1024]⟩
abbrev S64x1024 : Shape := ⟨2, ![64, 1024]⟩
abbrev S1x1x1024 : Shape := ⟨3, ![1, 1, 1024]⟩
abbrev S1x1x128 : Shape := ⟨3, ![1, 1, 128]⟩
abbrev S1x8x128x128 : Shape := ⟨4, ![1, 8, 128, 128]⟩
abbrev S8x128x128 : Shape := ⟨3, ![8, 128, 128]⟩
abbrev S1x1x128x128 : Shape := ⟨4, ![1, 1, 128, 128]⟩
abbrev S128x128 : Shape := ⟨2, ![128, 128]⟩
abbrev S1x128x128 : Shape := ⟨3, ![1, 128, 128]⟩
abbrev S64x1 : Shape := ⟨2, ![64, 1]⟩
abbrev S1x1024 : Shape := ⟨2, ![1, 1024]⟩
abbrev S64x64 : Shape := ⟨2, ![64, 64]⟩
abbrev S8x8x128 : Shape := ⟨3, ![8, 8, 128]⟩
abbrev S64x128 : Shape := ⟨2, ![64, 128]⟩
abbrev S1x64x128 : Shape := ⟨3, ![1, 64, 128]⟩
abbrev S2x32x128 : Shape := ⟨3, ![2, 32, 128]⟩
abbrev S2x1x128 : Shape := ⟨3, ![2, 1, 128]⟩
abbrev S4x16x128 : Shape := ⟨3, ![4, 16, 128]⟩
abbrev S8x1x128 : Shape := ⟨3, ![8, 1, 128]⟩
abbrev S8x8 : Shape := ⟨2, ![8, 8]⟩
abbrev S8x8x1 : Shape := ⟨3, ![8, 8, 1]⟩
abbrev S8x128 : Shape := ⟨2, ![8, 128]⟩
abbrev S1x128 : Shape := ⟨2, ![1, 128]⟩
abbrev S128x64 : Shape := ⟨2, ![128, 64]⟩
abbrev S64 : Shape := ⟨1, ![64]⟩

abbrev nBuf : Space → Nat
  | .hbm => 6
  | .vmem => 17
  | .smem => 0
  | _ => 0

abbrev bufTy : (tb : Table) → Fin (tcTables nBuf tb) → BufTy
  | .hbm, ⟨0, _⟩ => ⟨S512x17664, .f32⟩
  | .hbm, ⟨1, _⟩ => ⟨S4x1x1024, .f32⟩
  | .hbm, ⟨2, _⟩ => ⟨S4x1x128, .f32⟩
  | .hbm, ⟨3, _⟩ => ⟨S8x8x128x128, .f32⟩
  | .hbm, ⟨4, _⟩ => ⟨S512x1024, .bf16⟩
  | .hbm, ⟨5, _⟩ => ⟨S8x8x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S1x1x1024, .f32⟩
  | .local _ .vmem, ⟨9, _⟩ => ⟨S1x1x128, .f32⟩
  | .local _ .vmem, ⟨10, _⟩ => ⟨S1x8x128x128, .f32⟩
  | .local _ .vmem, ⟨11, _⟩ => ⟨S1x8x128x128, .f32⟩
  | .local _ .vmem, ⟨12, _⟩ => ⟨S64x1024, .bf16⟩
  | .local _ .vmem, ⟨13, _⟩ => ⟨S64x1024, .bf16⟩
  | .local _ .vmem, ⟨14, _⟩ => ⟨S1x8x128x128, .f32⟩
  | .local _ .vmem, ⟨15, _⟩ => ⟨S1x8x128x128, .f32⟩
  | .local _ .vmem, ⟨16, _⟩ => ⟨S8x128x128, .f32⟩
  | _, _ => ⟨S512x17664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_1189 : BitVec 32 := 0#32
  let v4361 : BitVec 1 := Scalar.cmpi .eq arg1 c0_i32_1189
  let v4362 : BitVec 32 := Scalar.extui v4361
  let c0_i32_1190 : BitVec 32 := 0#32
  let v4363 : BitVec 1 := Scalar.cmpi .ne v4362 c0_i32_1190
  v4363

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c13_i32 : BitVec 32 := 13#32
  let c0_i32 : BitVec 32 := 0#32
  ![v1.toNat, c13_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c14_i32 : BitVec 32 := 14#32
  let c0_i32 : BitVec 32 := 0#32
  ![v1.toNat, c14_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c15_i32 : BitVec 32 := 15#32
  let c0_i32 : BitVec 32 := 0#32
  ![v1.toNat, c15_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c16_i32 : BitVec 32 := 16#32
  let c0_i32 : BitVec 32 := 0#32
  ![v1.toNat, c16_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference12Ideal.lean ====
abbrev S512x17664 : Shape := ⟨2, ![512, 17664]⟩
abbrev S4x1x1024 : Shape := ⟨3, ![4, 1, 1024]⟩
abbrev S4x1x128 : Shape := ⟨3, ![4, 1, 128]⟩
abbrev S8x8x128x128 : Shape := ⟨4, ![8, 8, 128, 128]⟩
abbrev S8x64x17664 : Shape := ⟨3, ![8, 64, 17664]⟩
abbrev S8x4x17664 : Shape := ⟨3, ![8, 4, 17664]⟩
abbrev S8x4x1024 : Shape := ⟨3, ![8, 4, 1024]⟩
abbrev S1x1x1024 : Shape := ⟨3, ![1, 1, 1024]⟩
abbrev S1x1024 : Shape := ⟨2, ![1, 1024]⟩
abbrev S_ : Shape := ⟨0, ![]⟩
abbrev S8x4x8x128 : Shape := ⟨4, ![8, 4, 8, 128]⟩
abbrev S8x8x4x128 : Shape := ⟨4, ![8, 8, 4, 128]⟩
abbrev S8x8x1x128 : Shape := ⟨4, ![8, 8, 1, 128]⟩
abbrev S8x8x128 : Shape := ⟨3, ![8, 8, 128]⟩
abbrev S8x8x128x1 : Shape := ⟨4, ![8, 8, 128, 1]⟩

abbrev nBuf : Space → Nat
  | .hbm => 86
  | .vmem => 0
  | .smem => 0
  | _ => 0

abbrev bufTy : (tb : Table) → Fin (tcTables nBuf tb) → BufTy
  | .hbm, ⟨0, _⟩ => ⟨S512x17664, .f32⟩
  | .hbm, ⟨1, _⟩ => ⟨S4x1x1024, .f32⟩
  | .hbm, ⟨2, _⟩ => ⟨S4x1x128, .f32⟩
  | .hbm, ⟨3, _⟩ => ⟨S8x8x128x128, .f32⟩
  | .hbm, ⟨4, _⟩ => ⟨S8x64x17664, .f32⟩
  | .hbm, ⟨5, _⟩ => ⟨S8x4x17664, .f32⟩
  | .hbm, ⟨6, _⟩ => ⟨S8x4x1024, .f32⟩
  | .hbm, ⟨7, _⟩ => ⟨S8x4x1024, .f32⟩
  | .hbm, ⟨8, _⟩ => ⟨S1x1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8x4x1024, .f32⟩
  | .hbm, ⟨17, _⟩ => ⟨S_, .f32⟩
  | .hbm, ⟨18, _⟩ => ⟨S8x4x1024, .f32⟩
  | .hbm, ⟨19, _⟩ => ⟨S8x4x1024, .f32⟩
  | .hbm, ⟨20, _⟩ => ⟨S8x4x1024, .f32⟩
  | .hbm, ⟨21, _⟩ => ⟨S8x4x1024, .f32⟩
  | .hbm, ⟨22, _⟩ => ⟨S8x4x1024, .i1⟩
  | .hbm, ⟨23, _⟩ => ⟨S8x4x1024, .f32⟩
  | .hbm, ⟨24, _⟩ => ⟨S8x4x1024, .f32⟩
  | .hbm, ⟨25, _⟩ => ⟨S8x4x1024, .f32⟩
  | .hbm, ⟨26, _⟩ => ⟨S8x4x1024, .f32⟩
  | .hbm, ⟨27, _⟩ => ⟨S8x4x1024, .f32⟩
  | .hbm, ⟨28, _⟩ => ⟨S8x4x1024, .f32⟩
  | .hbm, ⟨29, _⟩ => ⟨S8x4x1024, .f32⟩
  | .hbm, ⟨30, _⟩ => ⟨S8x4x1024, .f32⟩
  | .hbm, ⟨31, _⟩ => ⟨S8x4x1024, .f32⟩
  | .hbm, ⟨32, _⟩ => ⟨S1x1x1024, .f32⟩
  | .hbm, ⟨33, _⟩ => ⟨S8x4x1024, .f32⟩
  | .hbm, ⟨34, _⟩ => ⟨S8x4x1024, .f32⟩
  | .hbm, ⟨35, _⟩ => ⟨S1x1x1024, .f32⟩
  | .hbm, ⟨36, _⟩ => ⟨S8x4x1024, .f32⟩
  | .hbm, ⟨37, _⟩ => ⟨S8x4x1024, .f32⟩
  | .hbm, ⟨38, _⟩ => ⟨S8x4x1024, .f32⟩
  | .hbm, ⟨39, _⟩ => ⟨S8x4x1024, .f32⟩
  | .hbm, ⟨40, _⟩ => ⟨S8x4x1024, .i1⟩
  | .hbm, ⟨41, _⟩ => ⟨S8x4x1024, .f32⟩
  | .hbm, ⟨42, _⟩ => ⟨S8x4x1024, .f32⟩
  | .hbm, ⟨43, _⟩ => ⟨S8x4x1024, .f32⟩
  | .hbm, ⟨44, _⟩ => ⟨S8x4x1024, .f32⟩
  | .hbm, ⟨45, _⟩ => ⟨S8x4x1024, .f32⟩
  | .hbm, ⟨46, _⟩ => ⟨S8x4x1024, .f32⟩
  | .hbm, ⟨47, _⟩ => ⟨S8x4x1024, .f32⟩
  | .hbm, ⟨48, _⟩ => ⟨S8x4x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S8x4x1024, .f32⟩
  | .hbm, ⟨53, _⟩ => ⟨S8x4x1024, .f32⟩
  | .hbm, ⟨54, _⟩ => ⟨S8x4x1024, .f32⟩
  | .hbm, ⟨55, _⟩ => ⟨S_, .f32⟩
  | .hbm, ⟨56, _⟩ => ⟨S8x4x1024, .f32⟩
  | .hbm, ⟨57, _⟩ => ⟨S8x4x1024, .f32⟩
  | .hbm, ⟨58, _⟩ => ⟨S_, .f32⟩
  | .hbm, ⟨59, _⟩ => ⟨S8x4x1024, .f32⟩
  | .hbm, ⟨60, _⟩ => ⟨S8x4x1024, .f32⟩
  | .hbm, ⟨61, _⟩ => ⟨S1x1x1024, .f32⟩
  | .hbm, ⟨62, _⟩ => ⟨S8x4x1024, .f32⟩
  | .hbm, ⟨63, _⟩ => ⟨S8x4x1024, .f32⟩
  | .hbm, ⟨64, _⟩ => ⟨S8x4x8x128, .f32⟩
  | .hbm, ⟨65, _⟩ => ⟨S8x8x4x128, .f32⟩
  | .hbm, ⟨66, _⟩ => ⟨S8x4x8x128, .f32⟩
  | .hbm, ⟨67, _⟩ => ⟨S8x8x4x128, .f32⟩
  | .hbm, ⟨68, _⟩ => ⟨S8x4x8x128, .f32⟩
  | .hbm, ⟨69, _⟩ => ⟨S8x8x4x128, .f32⟩
  | .hbm, ⟨70, _⟩ => ⟨S_, .f32⟩
  | .hbm, ⟨71, _⟩ => ⟨S_, .f32⟩
  | .hbm, ⟨72, _⟩ => ⟨S8x8x4x128, .f32⟩
  | .hbm, ⟨73, _⟩ => ⟨S8x8x1x128, .f32⟩
  | .hbm, ⟨74, _⟩ => ⟨S8x8x128, .f32⟩
  | .hbm, ⟨75, _⟩ => ⟨S8x8x128, .f32⟩
  | .hbm, ⟨76, _⟩ => ⟨S8x8x128x1, .f32⟩
  | .hbm, ⟨77, _⟩ => ⟨S8x8x128x128, .f32⟩
  | .hbm, ⟨78, _⟩ => ⟨S8x8x128x128, .f32⟩
  | .hbm, ⟨79, _⟩ => ⟨S8x8x1x128, .f32⟩
  | .hbm, ⟨80, _⟩ => ⟨S8x8x4x128, .f32⟩
  | .hbm, ⟨81, _⟩ => ⟨S8x8x4x128, .f32⟩
  | .hbm, ⟨82, _⟩ => ⟨S8x8x4x128, .f32⟩
  | .hbm, ⟨83, _⟩ => ⟨S8x8x4x128, .f32⟩
  | .hbm, ⟨84, _⟩ => ⟨S8x8x128x128, .f32⟩
  | .hbm, ⟨85, _⟩ => ⟨S8x8x128x128, .f32⟩
  | _, _ => ⟨S512x17664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_1 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_call0_cst : Ref sig .tc := ⟨.hbm, 70, rfl⟩
abbrev main_call1_call0_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Proof.Attn.Parts.lean ====
module

public import proofs.«01_k».proof.Proof.Gen.KernelIdeal.Frame
public import proofs.«01_k».proof.Proof.Gen.KernelIdeal.Skeleton

/-! The attention kernel's body as its three guarded parts, one after the other. -/

@[expose] public section

set_option synthInstance.maxSize 4096

noncomputable section

namespace Cert.KernelIdeal.Attn

open Cert.KernelIdeal Cert.KernelIdeal.Gen Idealize.ShloMosaic Idealize.SL.Sem

variable {F : FTy → Type} [FloatOps F] [Named F]

/-- The key block is the first. -/
abbrev isFirst (i : grid0.Coords) : Prop := Scalar.cmpi .ne (Scalar.extui (Scalar.cmpi .eq (BitVec.ofNat 32 (i 2).val) 0#32)) 0#32 = 1#1
/-- The key block does not lie after the query block. -/
abbrev isVisible (i : grid0.Coords) : Prop :=
  Scalar.cmpi .ne (Scalar.extui (Scalar.cmpi .sle (BitVec.ofNat 32 (i 2).val) (BitVec.ofNat 32 (i 1).val))) 0#32 = 1#1
/-- The key block is the query block. -/
abbrev isDiagonal (i : grid0.Coords) : Prop := k0_cond3 i = 1#1

/-- The first `pl.when`: the running maximum starts at the mask, the running sums at zero. -/
def initPart (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x128x512 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x1024 .f32) (harg11 : arg11.IsWhole) :
    Prog (TpuEff nD τ sig (Elt F) Λ₀ .tc) PUnit := do
  let v10 : Vec F S512x128 .f32 ← Prog.lift (.load arg9 (Rect.unit (s := S512x128) ![0, 0] S512x128.size inb_S512x128_S512x128_0_0).toLoadRect (View.loadsAt_vmem h_S512x128))
  Prog.lift (.store arg9 (Rect.unit (s := S512x128) ![0, 0] S512x128.size inb_S512x128_S512x128_0_0) (k0_pay1 (F := F)) Finset.univ (View.stores_vmem_bits_univ h_S512x128 rfl) (.inl rfl))
  let v14 : Vec F S512x128 .f32 ← Prog.lift (.load arg10 (Rect.unit (s := S512x128) ![0, 0] S512x128.size inb_S512x128_S512x128_0_0).toLoadRect (View.loadsAt_vmem h_S512x128))
  Prog.lift (.store arg10 (Rect.unit (s := S512x128) ![0, 0] S512x128.size inb_S512x128_S512x128_0_0) (k0_pay2 (F := F)) Finset.univ (View.stores_vmem_bits_univ h_S512x128 rfl) (.inl rfl))
  let v18 : Vec F S512x1024 .f32 ← Prog.lift (.load arg11 (Rect.unit (s := S512x1024) ![0, 0] S512x1024.size inb_S512x1024_S512x1024_0_0).toLoadRect (View.loadsAt_vmem h_S512x1024))
  Prog.lift (.store arg11 (Rect.unit (s := S512x1024) ![0, 0] S512x1024.size inb_S512x1024_S512x1024_0_0) (k0_pay3 (F := F)) Finset.univ (View.stores_vmem_bits_univ h_S512x1024 rfl) (.inl rfl))
  pure ⟨⟩

/-- The second `pl.when`: one block of keys folded into the running maximum, sum and accumulator of each head. -/
def updatePart (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x128x512 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x1024 .f32) (harg11 : arg11.IsWhole) :
    Prog (TpuEff nD τ sig (Elt F) Λ₀ .tc) PUnit := do
  let arg1 : BitVec 32 := BitVec.ofNat 32 (i 1).val
  let arg2 : BitVec 32 := BitVec.ofNat 32 (i 2).val
  let ⟨v17, v37, v39, v42, v47⟩ : Σ' (v17 : IVec S512x512 1) (v37 : FVec F S512x1 .f32) (v39 : FVec F S512x1 .f32) (v42 : FVec F S512x512 .f32), FVec F S512x1 .f32 ← k0_part1 i arg3 harg3 arg4 harg4 arg5 harg5 arg6 harg6 arg7 harg7 arg8 harg8 arg9 harg9 arg10 harg10 arg11 harg11 arg1 arg2
  let v80 : FVec F S512x512 .f32 ← k0_part2 i arg3 harg3 arg4 harg4 arg5 harg5 arg6 harg6 arg7 harg7 arg8 harg8 arg9 harg9 arg10 harg10 arg11 harg11 v17 v37 v39 v42 v47
  let ⟨v116, cst_62⟩ : Σ' (v116 : FVec F S512x512 .f32), F .f32 ← k0_part3 i arg3 harg3 arg4 harg4 arg5 harg5 arg6 harg6 arg7 harg7 arg8 harg8 arg9 harg9 arg10 harg10 arg11 harg11 v80
  let ⟨v131, v152⟩ : Σ' (v131 : FVec F S512x1 .f32), FVec F S512x128 .f32 ← k0_part4 i arg3 harg3 arg4 harg4 arg5 harg5 arg6 harg6 arg7 harg7 arg8 harg8 arg9 harg9 arg10 harg10 arg11 harg11 v17 v116 cst_62
  let ⟨v178, v180, v183, v188⟩ : Σ' (v178 : FVec F S512x1 .f32) (v180 : FVec F S512x1 .f32) (v183 : FVec F S512x512 .f32), FVec F S512x1 .f32 ← k0_part5 i arg3 harg3 arg4 harg4 arg5 harg5 arg6 harg6 arg7 harg7 arg8 harg8 arg9 harg9 arg10 harg10 arg11 harg11 v17 v131 v152
  let ⟨v221, v222, v223⟩ : Σ' (v221 : FVec F S512x512 .f32) (v222 : Vec F S512x1 .f32), FVec F S512 .f32 ← k0_part6 i arg3 harg3 arg4 harg4 arg5 harg5 arg6 harg6 arg7 harg7 arg8 harg8 arg9 harg9 arg10 harg10 arg11 harg11 v17 v178 v180 v183 v188
  let v259 : FVec F S512x512 .f32 ← k0_part7 i arg3 harg3 arg4 harg4 arg5 harg5 arg6 harg6 arg7 harg7 arg8 harg8 arg9 harg9 arg10 harg10 arg11 harg11 v221 v222 v223
  let v272 : FVec F S512x1 .f32 ← k0_part8 i arg3 harg3 arg4 harg4 arg5 harg5 arg6 harg6 arg7 harg7 arg8 harg8 arg9 harg9 arg10 harg10 arg11 harg11 v17 v259
  let ⟨v319, v321, v324⟩ : Σ' (v319 : FVec F S512x1 .f32) (v321 : FVec F S512x1 .f32), FVec F S512x512 .f32 ← k0_part9 i arg3 harg3 arg4 harg4 arg5 harg5 arg6 harg6 arg7 harg7 arg8 harg8 arg9 harg9 arg10 harg10 arg11 harg11 v17 v272
  let ⟨v362, v366, v367⟩ : Σ' (v362 : FVec F S512x512 .f32) (v366 : FVec F S512x1 .f32), FVec F S512x1 .f32 ← k0_part10 i arg3 harg3 arg4 harg4 arg5 harg5 arg6 harg6 arg7 harg7 arg8 harg8 arg9 harg9 arg10 harg10 arg11 harg11 v17 v319 v321 v324
  let v372 : Vec F S512x1 .f32 ← Prog.lift (.load arg10 (Rect.unit (s := S512x128) ![0, 7] S512x1.size inb_S512x128_S512x1_0_7).toLoadRect (View.loadsAt_vmem h_S512x1))
  let v377 : Vec F S512x1 .f32 ← Prog.lift (.load arg10 (Rect.unit (s := S512x128) ![0, 7] S512x1.size inb_S512x128_S512x1_0_7).toLoadRect (View.loadsAt_vmem h_S512x1))
  Prog.lift (.store arg10 (Rect.unit (s := S512x128) ![0, 7] S512x1.size inb_S512x128_S512x1_0_7) (k0_pay6 v362 v366 v367 v372) Finset.univ (View.stores_vmem_bits_univ h_S512x1 rfl) (.inl rfl))
  let v380 : Vec F S512x128 .f32 ← Prog.lift (.load arg11 (Rect.unit (s := S512x1024) ![0, 896] S512x128.size inb_S512x1024_S512x128_0_896).toLoadRect (View.loadsAt_vmem h_S512x128))
  let v384 : Vec F S512x128 .f32 ← Prog.lift (.load arg5 (Rect.unit (s := S512x1024) ![0, 896] S512x128.size inb_S512x1024_S512x128_0_896).toLoadRect (View.loadsAt_vmem h_S512x128))
  let v388 : Vec F S512x128 .f32 ← Prog.lift (.load arg11 (Rect.unit (s := S512x1024) ![0, 896] S512x128.size inb_S512x1024_S512x128_0_896).toLoadRect (View.loadsAt_vmem h_S512x128))
  Prog.lift (.store arg11 (Rect.unit (s := S512x1024) ![0, 896] S512x128.size inb_S512x1024_S512x128_0_896) (k0_pay7 v362 v366 v367 v380 v384) Finset.univ (View.stores_vmem_bits_univ h_S512x128 rfl) (.inl rfl))
  let v391 : Vec F S512x1 .f32 ← Prog.lift (.load arg9 (Rect.unit (s := S512x128) ![0, 7] S512x1.size inb_S512x128_S512x1_0_7).toLoadRect (View.loadsAt_vmem h_S512x1))
  Prog.lift (.store arg9 (Rect.unit (s := S512x128) ![0, 7] S512x1.size inb_S512x128_S512x1_0_7) (k0_pay8 v366) Finset.univ (View.stores_vmem_bits_univ h_S512x1 rfl) (.inl rfl))
  pure ⟨⟩

/-- The third `pl.when`: the accumulators divided by the running sums, one tile of columns per head. -/
def finalPart (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x128x512 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x1024 .f32) (harg11 : arg11.IsWhole) :
    Prog (TpuEff nD τ sig (Elt F) Λ₀ .tc) PUnit := do
  let v36 : FVec F S512x128 .f32 ← k0_part11 i arg3 harg3 arg4 harg4 arg5 harg5 arg6 harg6 arg7 harg7 arg8 harg8 arg9 harg9 arg10 harg10 arg11 harg11
  let v38 : Vec F S512x128 .bf16 ← Prog.lift (.load arg8 (Rect.unit (s := S512x1024) ![0, 512] S512x128.size inb_S512x1024_S512x128_0_512).toLoadRect (View.loadsAt_vmem h_S512x128))
  Prog.lift (.store arg8 (Rect.unit (s := S512x1024) ![0, 512] S512x128.size inb_S512x1024_S512x128_0_512) (k0_pay9 v36) Finset.univ (View.stores_vmem h_S512x128 (harg8.storeExact_slice rfl _ packedbf16_S512x1024_S512x128_0_512) (fun _ => rfl)) (.inl rfl))
  let v39 : Vec F S512x128 .f32 ← Prog.lift (.load arg11 (Rect.unit (s := S512x1024) ![0, 640] S512x128.size inb_S512x1024_S512x128_0_640).toLoadRect (View.loadsAt_vmem h_S512x128))
  let v40 : Vec F S512x1 .f32 ← Prog.lift (.load arg10 (Rect.unit (s := S512x128) ![0, 5] S512x1.size inb_S512x128_S512x1_0_5).toLoadRect (View.loadsAt_vmem h_S512x1))
  let v44 : Vec F S512x128 .bf16 ← Prog.lift (.load arg8 (Rect.unit (s := S512x1024) ![0, 640] S512x128.size inb_S512x1024_S512x128_0_640).toLoadRect (View.loadsAt_vmem h_S512x128))
  Prog.lift (.store arg8 (Rect.unit (s := S512x1024) ![0, 640] S512x128.size inb_S512x1024_S512x128_0_640) (k0_pay10 v39 v40) Finset.univ (View.stores_vmem h_S512x128 (harg8.storeExact_slice rfl _ packedbf16_S512x1024_S512x128_0_640) (fun _ => rfl)) (.inl rfl))
  let v45 : Vec F S512x128 .f32 ← Prog.lift (.load arg11 (Rect.unit (s := S512x1024) ![0, 768] S512x128.size inb_S512x1024_S512x128_0_768).toLoadRect (View.loadsAt_vmem h_S512x128))
  let v46 : Vec F S512x1 .f32 ← Prog.lift (.load arg10 (Rect.unit (s := S512x128) ![0, 6] S512x1.size inb_S512x128_S512x1_0_6).toLoadRect (View.loadsAt_vmem h_S512x1))
  let v50 : Vec F S512x128 .bf16 ← Prog.lift (.load arg8 (Rect.unit (s := S512x1024) ![0, 768] S512x128.size inb_S512x1024_S512x128_0_768).toLoadRect (View.loadsAt_vmem h_S512x128))
  Prog.lift (.store arg8 (Rect.unit (s := S512x1024) ![0, 768] S512x128.size inb_S512x1024_S512x128_0_768) (k0_pay11 v45 v46) Finset.univ (View.stores_vmem h_S512x128 (harg8.storeExact_slice rfl _ packedbf16_S512x1024_S512x128_0_768) (fun _ => rfl)) (.inl rfl))
  let v51 : Vec F S512x128 .f32 ← Prog.lift (.load arg11 (Rect.unit (s := S512x1024) ![0, 896] S512x128.size inb_S512x1024_S512x128_0_896).toLoadRect (View.loadsAt_vmem h_S512x128))
  let v52 : Vec F S512x1 .f32 ← Prog.lift (.load arg10 (Rect.unit (s := S512x128) ![0, 7] S512x1.size inb_S512x128_S512x1_0_7).toLoadRect (View.loadsAt_vmem h_S512x1))
  let v56 : Vec F S512x128 .bf16 ← Prog.lift (.load arg8 (Rect.unit (s := S512x1024) ![0, 896] S512x128.size inb_S512x1024_S512x128_0_896).toLoadRect (View.loadsAt_vmem h_S512x128))
  Prog.lift (.store arg8 (Rect.unit (s := S512x1024) ![0, 896] S512x128.size inb_S512x1024_S512x128_0_896) (k0_pay12 v51 v52) Finset.univ (View.stores_vmem h_S512x128 (harg8.storeExact_slice rfl _ packedbf16_S512x1024_S512x128_0_896) (fun _ => rfl)) (.inl rfl))
  pure ⟨⟩

set_option maxRecDepth 65536 in
/-- The printed body is the three parts, each under its condition. -/
theorem body_eq (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x128x512 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x1024 .f32) (harg11 : arg11.IsWhole) :
    cc0_fox_attn_prompt (F := F) i arg3 harg3 arg4 harg4 arg5 harg5 arg6 harg6 arg7 harg7 arg8 harg8 arg9 harg9 arg10 harg10 arg11 harg11
      = (do
          if _h : isFirst i then initPart i arg3 harg3 arg4 harg4 arg5 harg5 arg6 harg6 arg7 harg7 arg8 harg8 arg9 harg9 arg10 harg10 arg11 harg11 else pure ⟨⟩
          if _h : isVisible i then updatePart i arg3 harg3 arg4 harg4 arg5 harg5 arg6 harg6 arg7 harg7 arg8 harg8 arg9 harg9 arg10 harg10 arg11 harg11 else pure ⟨⟩
          if _h : isDiagonal i then finalPart i arg3 harg3 arg4 harg4 arg5 harg5 arg6 harg6 arg7 harg7 arg8 harg8 arg9 harg9 arg10 harg10 arg11 harg11 else pure ⟨⟩) := by
  rw [cc0_fox_attn_prompt_eq_skeleton]
  rfl

end Cert.KernelIdeal.Attn

end
-- ==== Proof.Attn.Runs.lean ====
module

public import proofs.«01_k».proof.Proof.Attn.Parts

/-! Each part of the attention kernel's body run on whole buffers: what it stores, as the pieces the run finds. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x128x512 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x1024 .f32) (harg11 : arg11.IsWhole)

/-- The first part stores its constants over the whole of the three scratch buffers. -/
def initRun (xs0 xs1 : Vec F S512x128 .f32) (xs2 : Vec F S512x1024 .f32) :
    Σ' (LM : List (View.Piece (Elt F) S512x128 .f32)), Σ' (LL : List (View.Piece (Elt F) S512x128 .f32)), { LA : List (View.Piece (Elt F) S512x1024 .f32) //
      ∀ (E : Set ℕ) (K : PUnit → sProp 𝕄),
        iprop(owns (c : Thread nD τ) arg9 fullShare xs0 ∗ owns (c : Thread nD τ) arg10 fullShare xs1 ∗ owns (c : Thread nD τ) arg11 fullShare xs2
            ∗ (iprop((∃ f, arg9.view.loc (c : Thread nD τ) ↦[arg9.view.set]{fullShare} arg9.view.writes (Elt F) f LM) ∗ (∃ f, arg10.view.loc (c : Thread nD τ) ↦[arg10.view.set]{fullShare} arg10.view.writes (Elt F) f LL) ∗ (∃ f, arg11.view.loc (c : Thread nD τ) ↦[arg11.view.set]{fullShare} arg11.view.writes (Elt F) f LA)) -∗ K ⟨⟩))
          ⊢ wp frame (wpE (defs₀ (F := F)) Variants.none c none) E (initPart i arg3 harg3 arg4 harg4 arg5 harg5 arg6 harg6 arg7 harg7 arg8 harg8 arg9 harg9 arg10 harg10 arg11 harg11) K } := by
  refine ⟨?_, ?_, ?_, fun E K => ?run⟩
  case run =>
    unfold initPart
    unfold owns
    iintro ⟨⟨%fs0, %hfs0, HS0⟩, ⟨%fs1, %hfs1, HS1⟩, ⟨%fs2, %hfs2, HS2⟩, Hk⟩
    sl_exec
    sl_step
    iapply Hk
    isplitl [HS0]; · iexists _; iexact HS0
    isplitl [HS1]; · iexists _; iexact HS1
    iexists _; iexact HS2

set_option maxHeartbeats 1000000 in
/-- The second part reads the query, key and value blocks and the running sums, and rewrites one column of the running maximum
    and of the running sum, and one tile of the accumulator, per head. -/
def updateRun (x0 x1 x2 : Vec F S512x1024 .f32) (x3 : Vec F S512x128 .f32) (x4 : Vec F S1x128x512 .f32)
    (xs0 xs1 : Vec F S512x128 .f32) (xs2 : Vec F S512x1024 .f32) :
    Σ' (LM : List (View.Piece (Elt F) S512x128 .f32)), Σ' (LL : List (View.Piece (Elt F) S512x128 .f32)), { LA : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg9.view.loc (c : Thread nD τ) ↦[arg9.view.set]{fullShare} arg9.view.writes (Elt F) (harg9.unread xs0) LM) ∗ (arg10.view.loc (c : Thread nD τ) ↦[arg10.view.set]{fullShare} arg10.view.writes (Elt F) (harg10.unread xs1) LL) ∗ (arg11.view.loc (c : Thread nD τ) ↦[arg11.view.set]{fullShare} arg11.view.writes (Elt F) (harg11.unread xs2) LA)) -∗ K ⟨⟩))
          ⊢ wp frame (wpE (defs₀ (F := F)) Variants.none c none) E (updatePart i arg3 harg3 arg4 harg4 arg5 harg5 arg6 harg6 arg7 harg7 arg8 harg8 arg9 harg9 arg10 harg10 arg11 harg11) K } := by
  refine ⟨?_, ?_, ?_, fun E K => ?run⟩
  case run =>
    unfold updatePart
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexact HS0
    isplitl [HS1]; · iexact HS1
    iexact HS2

/-- The third part reads the running sum and the accumulator and stores the eight tiles of the output block. -/
def finalRun (xs1 : Vec F S512x128 .f32) (xs2 : Vec F S512x1024 .f32) :
    { LO : List (View.Piece (Elt F) S512x1024 .bf16) //
      ∀ (E : Set ℕ) (K : PUnit → sProp 𝕄),
        iprop((∃ d, owns (c : Thread nD τ) arg8 fullShare d) ∗ owns (c : Thread nD τ) arg10 fullShare xs1 ∗ owns (c : Thread nD τ) arg11 fullShare xs2
            ∗ (iprop((∃ f, arg8.view.loc (c : Thread nD τ) ↦[arg8.view.set]{fullShare} arg8.view.writes (Elt F) f LO) ∗ owns (c : Thread nD τ) arg10 fullShare xs1 ∗ owns (c : Thread nD τ) arg11 fullShare xs2) -∗ K ⟨⟩))
          ⊢ wp frame (wpE (defs₀ (F := F)) Variants.none c none) E (finalPart i arg3 harg3 arg4 harg4 arg5 harg5 arg6 harg6 arg7 harg7 arg8 harg8 arg9 harg9 arg10 harg10 arg11 harg11) K } := by
  refine ⟨?_, fun E K => ?run⟩
  case run =>
    unfold finalPart
    simp only [k0_part11_eq_skeleton]
    unfold owns
    iintro ⟨⟨%d5, %f5, -, H5⟩, ⟨%fs1, %hfs1, HS1⟩, ⟨%fs2, %hfs2, HS2⟩, Hk⟩
    obtain rfl := harg10.eq_unread hfs1; obtain rfl := harg11.eq_unread hfs2
    sl_exec
    sl_step
    iapply Hk
    isplitl [H5]; · iexists _; iexact H5
    isplitl [HS1]
    · iexists _; isplitr; · ipureintro; exact harg10.read_unread _
      iexact HS1
    iexists _; isplitr; · ipureintro; exact harg11.read_unread _
    iexact HS2

end Cert.KernelIdeal.Attn

end
-- ==== Proof.Attn.Pieces.lean ====
module

public import proofs.«01_k».proof.Proof.Attn.Runs

/-! The pieces the runs find, written once for a head `h`: column `h` of the two narrow scratch buffers, columns
`128 h ‥ 128 h + 127` of the wide one and of the output. -/

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F] [Named F]

theorem col_inb (h : Fin 8) : ∀ a, (![0, h.val] : Fin 2 → ℕ) a + S512x1.size a ≤ S512x128.size a :=
  Fin.forall_fin_two.mpr ⟨by show 0 + 512 ≤ 512; omega, by show h.val + 1 ≤ 128; omega⟩
theorem tile_inb (h : Fin 8) : ∀ a, (![0, 128 * h.val] : Fin 2 → ℕ) a + S512x128.size a ≤ S512x1024.size a :=
  Fin.forall_fin_two.mpr ⟨by show 0 + 512 ≤ 512; omega, by show 128 * h.val + 128 ≤ 1024; omega⟩
theorem row_inb (h : Fin 8) : ∀ a, (![0, h.val, 0] : Fin 3 → ℕ) a + S1x1x512.size a ≤ S1x128x512.size a := by
  intro a; fin_cases a
  · show 0 + 1 ≤ 1; omega
  · show h.val + 1 ≤ 128; omega
  · show 0 + 512 ≤ 512; omega

/-- Column `h` of a 512×128 buffer. -/
abbrev colRect (h : Fin 8) : Rect S512x128 := Rect.unit (s := S512x128) ![0, h.val] S512x1.size (col_inb h)
/-- The columns of head `h` of a 512×1024 buffer. -/
abbrev tileRect (h : Fin 8) : Rect S512x1024 := Rect.unit (s := S512x1024) ![0, 128 * h.val] S512x128.size (tile_inb h)
/-- Row `h` of a 1×128×512 buffer. -/
abbrev rowRect (h : Fin 8) : Rect S1x128x512 := Rect.unit (s := S1x128x512) ![0, h.val, 0] S1x1x512.size (row_inb h)

/-- A column stored, and a tile stored. -/
def colPiece (P : Fin 8 → Vec F S512x1 .f32) (h : Fin 8) : View.Piece (Elt F) S512x128 .f32 := ⟨colRect h, P h⟩
def tilePiece {e : EltTy} (P : Fin 8 → Vec F S512x128 e) (h : Fin 8) : View.Piece (Elt F) S512x1024 e := ⟨tileRect h, P h⟩

/-- The heads, the last one first. -/
def heads : List (Fin 8) := [7, 6, 5, 4, 3, 2, 1, 0]

/-- The masked scores of one head over one key block. -/
def score (i : grid0.Coords) (q k : Vec F S512x128 .f32) (ct : Vec F S512x1 .f32) (cr : Vec F S1x1x512 .f32) : FVec F S512x512 .f32 :=
  k0_pay22 (k0_pay13 (BitVec.ofNat 32 (i 1).val) (BitVec.ofNat 32 (i 2).val)) q k ct cr

variable (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x128x512 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x1024 .f32) (harg11 : arg11.IsWhole)

/-- Head `h`'s scores, from the buffers as the body loads them. -/
def scoreAt (x0 x1 : Vec F S512x1024 .f32) (x3 : Vec F S512x128 .f32) (x4 : Vec F S1x128x512 .f32) (h : Fin 8) : FVec F S512x512 .f32 :=
  score i (View.readAt (Elt F) arg3.view (tileRect h).toLoadRect (harg3.unread x0)) (View.readAt (Elt F) arg4.view (tileRect h).toLoadRect (harg4.unread x1))
    (View.readAt (Elt F) arg6.view (colRect h).toLoadRect (harg6.unread x3)) (View.readAt (Elt F) arg7.view (rowRect h).toLoadRect (harg7.unread x4))

theorem initRun_M (xs0 xs1 : Vec F S512x128 .f32) (xs2 : Vec F S512x1024 .f32) :
    (initRun c i arg3 harg3 arg4 harg4 arg5 harg5 arg6 harg6 arg7 harg7 arg8 harg8 arg9 harg9 arg10 harg10 arg11 harg11 xs0 xs1 xs2).1 = [⟨Rect.unit (s := S512x128) ![0, 0] S512x128.size inb_S512x128_S512x128_0_0, k0_pay1⟩] := rfl
theorem initRun_L (xs0 xs1 : Vec F S512x128 .f32) (xs2 : Vec F S512x1024 .f32) :
    (initRun c i arg3 harg3 arg4 harg4 arg5 harg5 arg6 harg6 arg7 harg7 arg8 harg8 arg9 harg9 arg10 harg10 arg11 harg11 xs0 xs1 xs2).2.1 = [⟨Rect.unit (s := S512x128) ![0, 0] S512x128.size inb_S512x128_S512x128_0_0, k0_pay2⟩] := rfl
theorem initRun_A (xs0 xs1 : Vec F S512x128 .f32) (xs2 : Vec F S512x1024 .f32) :
    (initRun c i arg3 harg3 arg4 harg4 arg5 harg5 arg6 harg6 arg7 harg7 arg8 harg8 arg9 harg9 arg10 harg10 arg11 harg11 xs0 xs1 xs2).2.2.1 = [⟨Rect.unit (s := S512x1024) ![0, 0] S512x1024.size inb_S512x1024_S512x1024_0_0, k0_pay3⟩] := rfl

theorem updateRun_M (x0 x1 x2 : Vec F S512x1024 .f32) (x3 : Vec F S512x128 .f32) (x4 : Vec F S1x128x512 .f32)
    (xs0 xs1 : Vec F S512x128 .f32) (xs2 : Vec F S512x1024 .f32) :
    (updateRun c i arg3 harg3 arg4 harg4 arg5 harg5 arg6 harg6 arg7 harg7 arg8 harg8 arg9 harg9 arg10 harg10 arg11 harg11 x0 x1 x2 x3 x4 xs0 xs1 xs2).1
      = heads.map (colPiece fun h => k0_pay28 (scoreAt i arg3 harg3 arg4 harg4 arg6 harg6 arg7 harg7 x0 x1 x3 x4 h)
          (View.readAt (Elt F) arg9.view (colRect h).toLoadRect (harg9.unread xs0))) := rfl

theorem updateRun_L (x0 x1 x2 : Vec F S512x1024 .f32) (x3 : Vec F S512x128 .f32) (x4 : Vec F S1x128x512 .f32)
    (xs0 xs1 : Vec F S512x128 .f32) (xs2 : Vec F S512x1024 .f32) :
    (updateRun c i arg3 harg3 arg4 harg4 arg5 harg5 arg6 harg6 arg7 harg7 arg8 harg8 arg9 harg9 arg10 harg10 arg11 harg11 x0 x1 x2 x3 x4 xs0 xs1 xs2).2.1
      = heads.map (colPiece fun h => k0_pay26 (scoreAt i arg3 harg3 arg4 harg4 arg6 harg6 arg7 harg7 x0 x1 x3 x4 h)
          (View.readAt (Elt F) arg9.view (colRect h).toLoadRect (harg9.unread xs0))
          (View.readAt (Elt F) arg10.view (colRect h).toLoadRect (harg10.unread xs1))) := rfl

theorem updateRun_A (x0 x1 x2 : Vec F S512x1024 .f32) (x3 : Vec F S512x128 .f32) (x4 : Vec F S1x128x512 .f32)
    (xs0 xs1 : Vec F S512x128 .f32) (xs2 : Vec F S512x1024 .f32) :
    (updateRun c i arg3 harg3 arg4 harg4 arg5 harg5 arg6 harg6 arg7 harg7 arg8 harg8 arg9 harg9 arg10 harg10 arg11 harg11 x0 x1 x2 x3 x4 xs0 xs1 xs2).2.2.1
      = heads.map (tilePiece fun h => k0_pay27 (scoreAt i arg3 harg3 arg4 harg4 arg6 harg6 arg7 harg7 x0 x1 x3 x4 h)
          (View.readAt (Elt F) arg9.view (colRect h).toLoadRect (harg9.unread xs0))
          (View.readAt (Elt F) arg11.view (tileRect h).toLoadRect (harg11.unread xs2))
          (View.readAt (Elt F) arg5.view (tileRect h).toLoadRect (harg5.unread x2))) := rfl

theorem finalRun_O (xs1 : Vec F S512x128 .f32) (xs2 : Vec F S512x1024 .f32) :
    (finalRun c i arg3 harg3 arg4 harg4 arg5 harg5 arg6 harg6 arg7 harg7 arg8 harg8 arg9 harg9 arg10 harg10 arg11 harg11 xs1 xs2).1
      = heads.map (tilePiece fun h => k0_pay72 (View.readAt (Elt F) arg11.view (tileRect h).toLoadRect (harg11.unread xs2))
          (View.readAt (Elt F) arg10.view (colRect h).toLoadRect (harg10.unread xs1))) := rfl

end Cert.KernelIdeal.Attn

end
-- ==== Proof.Attn.Payload.lean ====
module

public import proofs.«01_k».proof.Proof.Attn.Pieces
public import Idealize.ShloMosaic.Lib.Pipeline.ValueKit
public import Idealize.ShloMosaic.Lib.Pointwise

/-! The values the three parts of the body store, entry by entry over the extended reals. -/

@[expose] public section

set_option maxRecDepth 16384

noncomputable section

namespace Cert.KernelIdeal.Attn

open Cert.KernelIdeal Cert.KernelIdeal.Gen
open Idealize.ShloMosaic Idealize.ShloMosaic.TcCoe

/-- The f32 pattern of −∞, and the named mask constant, are the least extended real. -/
theorem negInf : Ideal.ofBits FTy.f32 0xFF800000#32 = (⊥ : EReal) := by
  simp [Ideal.ofBits, Ideal.ieee]
theorem mask_eq : (Named.named (F := Ideal) κ "mask" 0xF149F2CA#32 : Ideal .f32) = (⊥ : EReal) := rfl

/-- The scale, `128^(−1/2)` as the program prints it. -/
abbrev scale : EReal := Ideal.ofBits FTy.f32 0x3DB504F3#32

/-- Query row `512 i + r` sees key row `512 j + s`. -/
def sees (i : grid0.Coords) (r s : Fin 512) : Prop := 512 * (i 2).val + s.val ≤ 512 * (i 1).val + r.val
instance (i : grid0.Coords) (r s : Fin 512) : Decidable (sees i r s) := by unfold sees; infer_instance

theorem score_apply (i : grid0.Coords) (q k : Vec Ideal S512x128 .f32) (ct : Vec Ideal S512x1 .f32) (cr : Vec Ideal S1x1x512 .f32) (r s : Fin 512) :
    score (F := Ideal) i q k ct cr (ix2 r s)
      = if sees i r s then (∑ x, q (ix2 r x) * k (ix2 s x)) * scale + ct (ix2 r 0) - cr (ix3 0 0 s) else (⊥ : EReal) := by
  unfold score
  pointwise [k0_pay22, k0_pay13]
  have h1 : (i 1).val < 4 := (i 1).isLt
  have h2 : (i 2).val < 4 := (i 2).isLt
  have h3 := r.isLt
  have h4 := s.isLt
  have hc : IntOp.cmpi CmpIPredicate.sge (IntOp.addi (Scalar.muli (BitVec.ofNat 32 ↑(i 1)) 512#32) (BitVec.ofNat 32 ↑r))
        (IntOp.addi (Scalar.muli (BitVec.ofNat 32 ↑(i 2)) 512#32) (BitVec.ofNat 32 ↑s)) = 1#1 ↔ sees i r s := by
    have e : ∀ a b : ℕ, IntOp.addi (Scalar.muli (BitVec.ofNat 32 a) 512#32) (BitVec.ofNat 32 b) = BitVec.ofNat 32 (512 * a + b) := by
      intro a b
      show BitVec.ofNat 32 a * BitVec.ofNat 32 512 + BitVec.ofNat 32 b = _
      rw [← BitVec.ofNat_mul, ← BitVec.ofNat_add, mul_comm]
    rw [e, e, Idealize.ShloMosaic.WordCmp.cmpi_sge_ofNat_eq_one_iff (by norm_num; omega) (by norm_num; omega)]
    rfl
  unfold Scalar.select
  by_cases hs : sees i r s
  · exact (if_pos (hc.mpr hs)).trans (if_pos hs).symm
  · exact (if_neg fun h => hs (hc.mp h)).trans (mask_eq.trans (if_neg hs).symm)

theorem newM_apply (s : FVec Ideal S512x512 .f32) (m : Vec Ideal S512x1 .f32) (r : Fin 512) :
    k0_pay28 (F := Ideal) s m (ix2 r 0) = max (m (ix2 r 0)) (Finset.fold max (⊥ : EReal) (fun x => s (ix2 r x)) Finset.univ) := by
  pointwise [k0_pay28, k0_pay23]
  rw [negInf]

theorem newL_apply (s : FVec Ideal S512x512 .f32) (m l : Vec Ideal S512x1 .f32) (r : Fin 512) :
    k0_pay26 (F := Ideal) s m l (ix2 r 0)
      = Ideal.exp (m (ix2 r 0) - max (m (ix2 r 0)) (Finset.fold max (⊥ : EReal) (fun x => s (ix2 r x)) Finset.univ)) * l (ix2 r 0)
        + ∑ x, Ideal.exp (s (ix2 r x) - max (m (ix2 r 0)) (Finset.fold max (⊥ : EReal) (fun x => s (ix2 r x)) Finset.univ)) := by
  pointwise [k0_pay26, k0_pay25, k0_pay24, k0_pay23]
  rw [negInf]

theorem newA_apply (s : FVec Ideal S512x512 .f32) (m : Vec Ideal S512x1 .f32) (acc v : Vec Ideal S512x128 .f32) (r : Fin 512) (d : Fin 128) :
    k0_pay27 (F := Ideal) s m acc v (ix2 r d)
      = Ideal.exp (m (ix2 r 0) - max (m (ix2 r 0)) (Finset.fold max (⊥ : EReal) (fun x => s (ix2 r x)) Finset.univ)) * acc (ix2 r d)
        + ∑ x, Ideal.exp (s (ix2 r x) - max (m (ix2 r 0)) (Finset.fold max (⊥ : EReal) (fun x => s (ix2 r x)) Finset.univ)) * v (ix2 x d) := by
  pointwise [k0_pay27, k0_pay25, k0_pay24, k0_pay23]
  rw [negInf]

theorem out_apply (l : Vec Ideal S512x1 .f32) (acc : Vec Ideal S512x128 .f32) (r : Fin 512) (d : Fin 128) :
    k0_pay72 (F := Ideal) acc l (ix2 r d) = Ideal.div (acc (ix2 r d)) (l (ix2 r 0)) := by
  pointwise [k0_pay72]

theorem initM_apply (r : Fin 512) (h : Fin 128) : k0_pay1 (F := Ideal) (ix2 r h) = (⊥ : EReal) := by
  pointwise [k0_pay1]
  exact mask_eq
theorem initL_apply (r : Fin 512) (h : Fin 128) : k0_pay2 (F := Ideal) (ix2 r h) = (0 : EReal) := by
  pointwise [k0_pay2]
theorem initA_apply (r : Fin 512) (h : Fin 1024) : k0_pay3 (F := Ideal) (ix2 r h) = (0 : EReal) := by
  pointwise [k0_pay3]

end Cert.KernelIdeal.Attn

end
-- ==== Proof.Attn.Reads.lean ====
module

public import proofs.«01_k».proof.Proof.Attn.Payload
public import Idealize.ShloMosaic.Lib.WholeRead

/-! Reading the pieces back: an entry of column or tile `h` of a rewritten buffer is the entry of head `h`'s piece. -/

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F] [Named F]

/-- Column `h`, and column `128 h + d`. -/
abbrev hcol (h : Fin 8) : Fin 128 := ⟨h.val, by omega⟩
abbrev hlane (h : Fin 8) (d : Fin 128) : Fin 1024 := ⟨128 * h.val + d.val, by omega⟩

theorem col_emb (h : Fin 8) (r : Fin 512) : (colRect h).emb (ix2 r (0 : Fin 1)) = ix2 r (hcol h) := by
  funext a; apply Fin.ext
  rw [Rect.emb_apply]
  fin_cases a <;> simp [colRect, ix2, Rect.unit]
theorem tile_emb (h : Fin 8) (r : Fin 512) (d : Fin 128) : (tileRect h).emb (ix2 r d) = ix2 r (hlane h d) := by
  funext a; apply Fin.ext
  rw [Rect.emb_apply]
  fin_cases a <;> simp [tileRect, ix2, Rect.unit]
theorem row_emb (h : Fin 8) (s : Fin 512) : (rowRect h).emb (ix3 (0 : Fin 1) (0 : Fin 1) s) = ix3 (0 : Fin 1) (hcol h) s := by
  funext a; apply Fin.ext
  rw [Rect.emb_apply]
  fin_cases a <;> simp [rowRect, ix3, Rect.unit]

theorem mem_heads (h : Fin 8) : h ∈ heads := by revert h; decide

variable {sp : Space} {m : Memref sig .tc sp S512x128 .f32} {e : EltTy} {n : Memref sig .tc sp S512x1024 e} {p : Memref sig .tc sp S1x128x512 .f32}

theorem load_col (hm : m.IsWhole) (X : Vec F S512x128 .f32) (h : Fin 8) (r : Fin 512) :
    View.readAt (Elt F) m.view (colRect h).toLoadRect (hm.unread X) (ix2 r (0 : Fin 1)) = X (ix2 r (hcol h)) :=
  (hm.readAt_unread X _ _).trans (congrArg X (col_emb h r))
theorem load_tile (hn : n.IsWhole) (X : Vec F S512x1024 e) (h : Fin 8) (r : Fin 512) (d : Fin 128) :
    View.readAt (Elt F) n.view (tileRect h).toLoadRect (hn.unread X) (ix2 r d) = X (ix2 r (hlane h d)) :=
  (hn.readAt_unread X _ _).trans (congrArg X (tile_emb h r d))
theorem load_row (hp : p.IsWhole) (X : Vec F S1x128x512 .f32) (h : Fin 8) (s : Fin 512) :
    View.readAt (Elt F) p.view (rowRect h).toLoadRect (hp.unread X) (ix3 (0 : Fin 1) (0 : Fin 1) s) = X (ix3 (0 : Fin 1) (hcol h) s) :=
  (hp.readAt_unread X _ _).trans (congrArg X (row_emb h s))

theorem read_cols (v : View sig .tc sp S512x128 .f32) (f : v.ty.Contents (Elt F)) (P : Fin 8 → Vec F S512x1 .f32) (h : Fin 8) (r : Fin 512) :
    v.read (Elt F) (v.writes (Elt F) f (heads.map (colPiece P))) (ix2 r (hcol h)) = P h (ix2 r (0 : Fin 1)) := by
  rw [← col_emb h r]
  refine View.read_writes_of_unique v f (colPiece P h) (ix2 r (0 : Fin 1)) _ (List.mem_map_of_mem (mem_heads h)) fun q hq hx => ?_
  obtain ⟨g, -, rfl⟩ := List.mem_map.mp hq
  have hx' : ix2 r (hcol h) ∈ (colRect g).set := by rw [← col_emb h r]; exact hx
  have h1 := Rect.mem_set_unit.mp hx' 1
  have h2 : g.val ≤ h.val ∧ h.val < g.val + 1 := h1
  rw [show g = h from Fin.ext (by omega)]

theorem read_tiles (v : View sig .tc sp S512x1024 e) (f : v.ty.Contents (Elt F)) (P : Fin 8 → Vec F S512x128 e) (h : Fin 8) (r : Fin 512) (d : Fin 128) :
    v.read (Elt F) (v.writes (Elt F) f (heads.map (tilePiece P))) (ix2 r (hlane h d)) = P h (ix2 r d) := by
  rw [← tile_emb h r d]
  refine View.read_writes_of_unique v f (tilePiece P h) (ix2 r d) _ (List.mem_map_of_mem (mem_heads h)) fun q hq hx => ?_
  obtain ⟨g, -, rfl⟩ := List.mem_map.mp hq
  have hx' : ix2 r (hlane h d) ∈ (tileRect g).set := by rw [← tile_emb h r d]; exact hx
  have h1 := Rect.mem_set_unit.mp hx' 1
  have h2 : 128 * g.val ≤ 128 * h.val + d.val ∧ 128 * h.val + d.val < 128 * g.val + 128 := h1
  rw [show g = h from Fin.ext (by omega)]

end Cert.KernelIdeal.Attn

end
-- ==== Proof.Attn.Body.lean ====
module

public import proofs.«01_k».proof.Proof.Attn.Reads

/-! The whole body of the attention kernel at one grid point: which relation its scratch buffers and its output block satisfy
afterwards, whatever the point. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The masked score of query row `r` and key row `s` of the blocks `x0` and `x1`, for head `h`. -/
def sco (i : grid0.Coords) (x0 x1 : Vec Ideal S512x1024 .f32) (x3 : Vec Ideal S512x128 .f32) (x4 : Vec Ideal S1x128x512 .f32)
    (h : Fin 8) (r s : Fin 512) : EReal :=
  if sees i r s then (∑ d : Fin 128, x0 (ix2 r (hlane h d)) * x1 (ix2 s (hlane h d))) * scale + x3 (ix2 r (hcol h)) - x4 (ix3 (0 : Fin 1) (hcol h) s)
  else ⊥

/-- The state before the first key block. -/
def Started (m l : Vec Ideal S512x128 .f32) (a : Vec Ideal S512x1024 .f32) : Prop :=
  ∀ (h : Fin 8) (r : Fin 512), m (ix2 r (hcol h)) = (⊥ : EReal) ∧ l (ix2 r (hcol h)) = (0 : EReal) ∧ ∀ d : Fin 128, a (ix2 r (hlane h d)) = (0 : EReal)

/-- The state `m l a` becomes `m' l' a'` by the key block. -/
def Updated (i : grid0.Coords) (x0 x1 x2 : Vec Ideal S512x1024 .f32) (x3 : Vec Ideal S512x128 .f32) (x4 : Vec Ideal S1x128x512 .f32)
    (m l : Vec Ideal S512x128 .f32) (a : Vec Ideal S512x1024 .f32) (m' l' : Vec Ideal S512x128 .f32) (a' : Vec Ideal S512x1024 .f32) : Prop :=
  ∀ (h : Fin 8) (r : Fin 512), ∀ M : EReal, M = max (m (ix2 r (hcol h))) (Finset.fold max (⊥ : EReal) (fun s => sco i x0 x1 x3 x4 h r s) Finset.univ) →
    m' (ix2 r (hcol h)) = M
    ∧ l' (ix2 r (hcol h)) = Ideal.exp (m (ix2 r (hcol h)) - M) * l (ix2 r (hcol h)) + ∑ s, Ideal.exp (sco i x0 x1 x3 x4 h r s - M)
    ∧ ∀ d : Fin 128, a' (ix2 r (hlane h d)) = Ideal.exp (m (ix2 r (hcol h)) - M) * a (ix2 r (hlane h d))
        + ∑ s, Ideal.exp (sco i x0 x1 x3 x4 h r s - M) * x2 (ix2 s (hlane h d))

/-- The output block is the accumulator over the sum. -/
def Finished (l : Vec Ideal S512x128 .f32) (a : Vec Ideal S512x1024 .f32) (o : Vec Ideal S512x1024 .bf16) : Prop :=
  ∀ (h : Fin 8) (r : Fin 512) (d : Fin 128), o (ix2 r (hlane h d)) = Ideal.div (a (ix2 r (hlane h d))) (l (ix2 r (hcol h)))

/-- What each part of the body does, when it runs and when it does not. -/
def Rel1 (i : grid0.Coords) (m l : Vec Ideal S512x128 .f32) (a : Vec Ideal S512x1024 .f32) (m' l' : Vec Ideal S512x128 .f32) (a' : Vec Ideal S512x1024 .f32) : Prop :=
  (isFirst i → Started m' l' a') ∧ (¬ isFirst i → m' = m ∧ l' = l ∧ a' = a)
def Rel2 (i : grid0.Coords) (x0 x1 x2 : Vec Ideal S512x1024 .f32) (x3 : Vec Ideal S512x128 .f32) (x4 : Vec Ideal S1x128x512 .f32)
    (m l : Vec Ideal S512x128 .f32) (a : Vec Ideal S512x1024 .f32) (m' l' : Vec Ideal S512x128 .f32) (a' : Vec Ideal S512x1024 .f32) : Prop :=
  isVisible i → Updated i x0 x1 x2 x3 x4 m l a m' l' a'
def Rel3 (i : grid0.Coords) (l : Vec Ideal S512x128 .f32) (a : Vec Ideal S512x1024 .f32) (d5 o : Vec Ideal S512x1024 .bf16) : Prop :=
  (isDiagonal i → Finished l a o) ∧ (¬ isDiagonal i → o = d5)

variable (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x128x512 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x1024 .f32) (harg11 : arg11.IsWhole)

theorem scoreAt_apply (x0 x1 : Vec Ideal S512x1024 .f32) (x3 : Vec Ideal S512x128 .f32) (x4 : Vec Ideal S1x128x512 .f32) (h : Fin 8) (r s : Fin 512) :
    scoreAt (F := Ideal) i arg3 harg3 arg4 harg4 arg6 harg6 arg7 harg7 x0 x1 x3 x4 h (ix2 r s) = sco i x0 x1 x3 x4 h r s := by
  unfold scoreAt sco
  rw [score_apply]
  refine congrArg (fun z => if sees i r s then z else (⊥ : EReal)) ?_
  rw [load_col harg6 x3 h r, load_row harg7 x4 h s]
  refine congrArg (fun z : EReal => z * scale + _ - _) (Finset.sum_congr rfl fun d _ => ?_)
  rw [load_tile harg3 x0 h r d, load_tile harg4 x1 h s d]

theorem whole_emb (r : Fin 512) (k : Fin 128) :
    (Rect.unit (s := S512x128) ![0, 0] S512x128.size inb_S512x128_S512x128_0_0).emb (ix2 r k) = ix2 r k := by
  refine funext (Fin.forall_fin_two.mpr ⟨Fin.ext ?_, Fin.ext ?_⟩)
  · show 0 + 1 * r.val = r.val
    omega
  · show 0 + 1 * k.val = k.val
    omega
theorem whole_emb' (r : Fin 512) (k : Fin 1024) :
    (Rect.unit (s := S512x1024) ![0, 0] S512x1024.size inb_S512x1024_S512x1024_0_0).emb (ix2 r k) = ix2 r k := by
  refine funext (Fin.forall_fin_two.mpr ⟨Fin.ext ?_, Fin.ext ?_⟩)
  · show 0 + 1 * r.val = r.val
    omega
  · show 0 + 1 * k.val = k.val
    omega

theorem read_whole (v : View sig .tc .vmem S512x128 .f32) (f : v.ty.Contents (Elt Ideal)) (P : Vec Ideal S512x128 .f32) (r : Fin 512) (k : Fin 128) :
    v.read (Elt Ideal) (v.writes (Elt Ideal) f [⟨Rect.unit (s := S512x128) ![0, 0] S512x128.size inb_S512x128_S512x128_0_0, P⟩]) (ix2 r k) = P (ix2 r k) := by
  have := View.read_writes_of_unique v f (⟨Rect.unit (s := S512x128) ![0, 0] S512x128.size inb_S512x128_S512x128_0_0, P⟩ : View.Piece (Elt Ideal) S512x128 .f32)
    (ix2 r k) [⟨Rect.unit (s := S512x128) ![0, 0] S512x128.size inb_S512x128_S512x128_0_0, P⟩] (List.mem_singleton.mpr rfl) fun q hq _ => List.mem_singleton.mp hq
  exact (congrArg (v.read (Elt Ideal) _) (whole_emb r k).symm).trans this
theorem read_whole' (v : View sig .tc .vmem S512x1024 .f32) (f : v.ty.Contents (Elt Ideal)) (P : Vec Ideal S512x1024 .f32) (r : Fin 512) (k : Fin 1024) :
    v.read (Elt Ideal) (v.writes (Elt Ideal) f [⟨Rect.unit (s := S512x1024) ![0, 0] S512x1024.size inb_S512x1024_S512x1024_0_0, P⟩]) (ix2 r k) = P (ix2 r k) := by
  have := View.read_writes_of_unique v f (⟨Rect.unit (s := S512x1024) ![0, 0] S512x1024.size inb_S512x1024_S512x1024_0_0, P⟩ : View.Piece (Elt Ideal) S512x1024 .f32)
    (ix2 r k) [⟨Rect.unit (s := S512x1024) ![0, 0] S512x1024.size inb_S512x1024_S512x1024_0_0, P⟩] (List.mem_singleton.mpr rfl) fun q hq _ => List.mem_singleton.mp hq
  exact (congrArg (v.read (Elt Ideal) _) (whole_emb' r k).symm).trans this

/-- The pieces of the second part satisfy its relation. -/
theorem updated_of (x0 x1 x2 : Vec Ideal S512x1024 .f32) (x3 : Vec Ideal S512x128 .f32) (x4 : Vec Ideal S1x128x512 .f32)
    (m l : Vec Ideal S512x128 .f32) (a : Vec Ideal S512x1024 .f32) :
    Updated i x0 x1 x2 x3 x4 m l a
      (arg9.view.read (Elt Ideal) (arg9.view.writes (Elt Ideal) (harg9.unread m) (heads.map (colPiece fun h => k0_pay28 (scoreAt i arg3 harg3 arg4 harg4 arg6 harg6 arg7 harg7 x0 x1 x3 x4 h)
          (View.readAt (Elt Ideal) arg9.view (colRect h).toLoadRect (harg9.unread m))))))
      (arg10.view.read (Elt Ideal) (arg10.view.writes (Elt Ideal) (harg10.unread l) (heads.map (colPiece fun h => k0_pay26 (scoreAt i arg3 harg3 arg4 harg4 arg6 harg6 arg7 harg7 x0 x1 x3 x4 h)
          (View.readAt (Elt Ideal) arg9.view (colRect h).toLoadRect (harg9.unread m))
          (View.readAt (Elt Ideal) arg10.view (colRect h).toLoadRect (harg10.unread l))))))
      (arg11.view.read (Elt Ideal) (arg11.view.writes (Elt Ideal) (harg11.unread a) (heads.map (tilePiece fun h => k0_pay27 (scoreAt i arg3 harg3 arg4 harg4 arg6 harg6 arg7 harg7 x0 x1 x3 x4 h)
          (View.readAt (Elt Ideal) arg9.view (colRect h).toLoadRect (harg9.unread m))
          (View.readAt (Elt Ideal) arg11.view (tileRect h).toLoadRect (harg11.unread a))
          (View.readAt (Elt Ideal) arg5.view (tileRect h).toLoadRect (harg5.unread x2)))))) := by
  rintro h r M rfl
  refine ⟨?_, ?_, fun d => ?_⟩
  · rw [read_cols, newM_apply, load_col harg9 m h r]
    simp only [scoreAt_apply]
  · rw [read_cols, newL_apply, load_col harg9 m h r, load_col harg10 l h r]
    simp only [scoreAt_apply]
  · rw [read_tiles, newA_apply, load_col harg9 m h r, load_tile harg11 a h r d]
    simp only [scoreAt_apply]
    refine congrArg (fun z : EReal => _ + z) (Finset.sum_congr rfl fun s _ => ?_)
    rw [load_tile harg5 x2 h s d]

/-- The pieces of the third part satisfy its relation. -/
theorem finished_of (l : Vec Ideal S512x128 .f32) (a : Vec Ideal S512x1024 .f32) (f : arg8.view.ty.Contents (Elt Ideal)) :
    Finished l a (arg8.view.read (Elt Ideal) (arg8.view.writes (Elt Ideal) f (heads.map (tilePiece fun h => k0_pay72 (View.readAt (Elt Ideal) arg11.view (tileRect h).toLoadRect (harg11.unread a))
          (View.readAt (Elt Ideal) arg10.view (colRect h).toLoadRect (harg10.unread l)))))) := by
  intro h r d
  rw [read_tiles, out_apply, load_col harg10 l h r, load_tile harg11 a h r d]

/-- The first part. -/
theorem init_spec (m l : Vec Ideal S512x128 .f32) (a : Vec Ideal S512x1024 .f32) (E : Set ℕ) (K : PUnit → sProp 𝕄) :
    iprop(owns (c : Thread nD τ) arg9 fullShare m ∗ owns (c : Thread nD τ) arg10 fullShare l ∗ owns (c : Thread nD τ) arg11 fullShare a
        ∗ (iprop(∃ m' l' a', ⌜Rel1 i m l a m' l' a'⌝ ∗ owns (c : Thread nD τ) arg9 fullShare m' ∗ owns (c : Thread nD τ) arg10 fullShare l' ∗ owns (c : Thread nD τ) arg11 fullShare a') -∗ K ⟨⟩))
      ⊢ wp frame (wpE (defs₀ (F := Ideal)) Variants.none c none) E
          (if _h : isFirst i then initPart i arg3 harg3 arg4 harg4 arg5 harg5 arg6 harg6 arg7 harg7 arg8 harg8 arg9 harg9 arg10 harg10 arg11 harg11 else pure ⟨⟩) K := by
  by_cases hc : isFirst i
  · rw [dif_pos hc]
    iintro ⟨H9, H10, H11, Hk⟩
    iapply (initRun (F := Ideal) c i arg3 harg3 arg4 harg4 arg5 harg5 arg6 harg6 arg7 harg7 arg8 harg8 arg9 harg9 arg10 harg10 arg11 harg11 m l a).2.2.2 E K
    isplitl [H9]; · iexact H9
    isplitl [H10]; · iexact H10
    isplitl [H11]; · iexact H11
    rw [initRun_A, initRun_L, initRun_M]
    iintro ⟨⟨%f0, H9⟩, ⟨%f1, H10⟩, ⟨%f2, H11⟩⟩
    iapply Hk
    iexists (arg9.view.read (Elt Ideal) (arg9.view.writes (Elt Ideal) f0 [⟨Rect.unit (s := S512x128) ![0, 0] S512x128.size inb_S512x128_S512x128_0_0, k0_pay1 (F := Ideal)⟩]))
    iexists (arg10.view.read (Elt Ideal) (arg10.view.writes (Elt Ideal) f1 [⟨Rect.unit (s := S512x128) ![0, 0] S512x128.size inb_S512x128_S512x128_0_0, k0_pay2 (F := Ideal)⟩]))
    iexists (arg11.view.read (Elt Ideal) (arg11.view.writes (Elt Ideal) f2 [⟨Rect.unit (s := S512x1024) ![0, 0] S512x1024.size inb_S512x1024_S512x1024_0_0, k0_pay3 (F := Ideal)⟩]))
    isplitr
    · ipureintro
      refine ⟨fun _ h r => ⟨?_, ?_, fun d => ?_⟩, fun hn => absurd hc hn⟩
      · rw [read_whole]; exact initM_apply r (hcol h)
      · rw [read_whole]; exact initL_apply r (hcol h)
      · rw [read_whole']; exact initA_apply r (hlane h d)
    unfold owns
    isplitl [H9]
    · iexists _; isplitr; · ipureintro; rfl
      iexact H9
    isplitl [H10]
    · iexists _; isplitr; · ipureintro; rfl
      iexact H10
    iexists _; isplitr; · ipureintro; rfl
    iexact H11
  · rw [dif_neg hc]
    iintro ⟨H9, H10, H11, Hk⟩
    sl_step
    iapply Hk
    iexists m; iexists l; iexists a
    isplitr
    · ipureintro; exact ⟨fun h => absurd h hc, fun _ => ⟨rfl, rfl, rfl⟩⟩
    isplitl [H9]; · iexact H9
    isplitl [H10]; · iexact H10
    iexact H11

/-- The second part. -/
theorem update_spec (x0 x1 x2 : Vec Ideal S512x1024 .f32) (x3 : Vec Ideal S512x128 .f32) (x4 : Vec Ideal S1x128x512 .f32)
    (m l : Vec Ideal S512x128 .f32) (a : Vec Ideal S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare m ∗ owns (c : Thread nD τ) arg10 fullShare l ∗ owns (c : Thread nD τ) arg11 fullShare a
        ∗ (iprop(∃ m' l' a', ⌜Rel2 i x0 x1 x2 x3 x4 m l a m' l' a'⌝ ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare m' ∗ owns (c : Thread nD τ) arg10 fullShare l' ∗ owns (c : Thread nD τ) arg11 fullShare a') -∗ K ⟨⟩))
      ⊢ wp frame (wpE (defs₀ (F := Ideal)) Variants.none c none) E
          (if _h : isVisible i then updatePart i arg3 harg3 arg4 harg4 arg5 harg5 arg6 harg6 arg7 harg7 arg8 harg8 arg9 harg9 arg10 harg10 arg11 harg11 else pure ⟨⟩) K := by
  by_cases hc : isVisible i
  · rw [dif_pos hc]
    iintro ⟨H3, H4, H5, H6, H7, H9, H10, H11, Hk⟩
    iapply (updateRun (F := Ideal) c i arg3 harg3 arg4 harg4 arg5 harg5 arg6 harg6 arg7 harg7 arg8 harg8 arg9 harg9 arg10 harg10 arg11 harg11 x0 x1 x2 x3 x4 m l a).2.2.2 E K
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    iintro ⟨H3, H4, H5, H6, H7, H9, H10, H11⟩
    iapply Hk
    iexists (arg9.view.read (Elt Ideal) (arg9.view.writes (Elt Ideal) (harg9.unread m) (updateRun (F := Ideal) c i arg3 harg3 arg4 harg4 arg5 harg5 arg6 harg6 arg7 harg7 arg8 harg8 arg9 harg9 arg10 harg10 arg11 harg11 x0 x1 x2 x3 x4 m l a).1))
    iexists (arg10.view.read (Elt Ideal) (arg10.view.writes (Elt Ideal) (harg10.unread l) (updateRun (F := Ideal) c i arg3 harg3 arg4 harg4 arg5 harg5 arg6 harg6 arg7 harg7 arg8 harg8 arg9 harg9 arg10 harg10 arg11 harg11 x0 x1 x2 x3 x4 m l a).2.1))
    iexists (arg11.view.read (Elt Ideal) (arg11.view.writes (Elt Ideal) (harg11.unread a) (updateRun (F := Ideal) c i arg3 harg3 arg4 harg4 arg5 harg5 arg6 harg6 arg7 harg7 arg8 harg8 arg9 harg9 arg10 harg10 arg11 harg11 x0 x1 x2 x3 x4 m l a).2.2.1))
    isplitr
    · ipureintro
      intro _
      rw [updateRun_A, updateRun_L, updateRun_M]
      exact updated_of i arg3 harg3 arg4 harg4 arg5 harg5 arg6 harg6 arg7 harg7 arg9 harg9 arg10 harg10 arg11 harg11 x0 x1 x2 x3 x4 m l a
    isplitl [H3]; · iexact H3
    isplitl [H4]; · iexact H4
    isplitl [H5]; · iexact H5
    isplitl [H6]; · iexact H6
    isplitl [H7]; · iexact H7
    unfold owns
    isplitl [H9]
    · iexists _; isplitr; · ipureintro; rfl
      iexact H9
    isplitl [H10]
    · iexists _; isplitr; · ipureintro; rfl
      iexact H10
    iexists _; isplitr; · ipureintro; rfl
    iexact H11
  · rw [dif_neg hc]
    iintro ⟨H3, H4, H5, H6, H7, H9, H10, H11, Hk⟩
    sl_step
    iapply Hk
    iexists m; iexists l; iexists a
    isplitr
    · ipureintro; exact fun h => absurd h hc
    isplitl [H3]; · iexact H3
    isplitl [H4]; · iexact H4
    isplitl [H5]; · iexact H5
    isplitl [H6]; · iexact H6
    isplitl [H7]; · iexact H7
    isplitl [H9]; · iexact H9
    isplitl [H10]; · iexact H10
    iexact H11

/-- The third part. -/
theorem final_spec (l : Vec Ideal S512x128 .f32) (a : Vec Ideal S512x1024 .f32) (d5 : Vec Ideal S512x1024 .bf16) (E : Set ℕ) (K : PUnit → sProp 𝕄) :
    iprop(owns (c : Thread nD τ) arg8 fullShare d5 ∗ owns (c : Thread nD τ) arg10 fullShare l ∗ owns (c : Thread nD τ) arg11 fullShare a
        ∗ (iprop(∃ o, ⌜Rel3 i l a d5 o⌝ ∗ owns (c : Thread nD τ) arg8 fullShare o ∗ owns (c : Thread nD τ) arg10 fullShare l ∗ owns (c : Thread nD τ) arg11 fullShare a) -∗ K ⟨⟩))
      ⊢ wp frame (wpE (defs₀ (F := Ideal)) Variants.none c none) E
          (if _h : isDiagonal i then finalPart i arg3 harg3 arg4 harg4 arg5 harg5 arg6 harg6 arg7 harg7 arg8 harg8 arg9 harg9 arg10 harg10 arg11 harg11 else pure ⟨⟩) K := by
  by_cases hc : isDiagonal i
  · rw [dif_pos hc]
    iintro ⟨H8, H10, H11, Hk⟩
    iapply (finalRun (F := Ideal) c i arg3 harg3 arg4 harg4 arg5 harg5 arg6 harg6 arg7 harg7 arg8 harg8 arg9 harg9 arg10 harg10 arg11 harg11 l a).2 E K
    isplitl [H8]; · iexists _; iexact H8
    isplitl [H10]; · iexact H10
    isplitl [H11]; · iexact H11
    rw [finalRun_O]
    iintro ⟨⟨%f, H8⟩, H10, H11⟩
    iapply Hk
    iexists (arg8.view.read (Elt Ideal) (arg8.view.writes (Elt Ideal) f (heads.map (tilePiece fun h => k0_pay72 (View.readAt (Elt Ideal) arg11.view (tileRect h).toLoadRect (harg11.unread a))
          (View.readAt (Elt Ideal) arg10.view (colRect h).toLoadRect (harg10.unread l))))))
    isplitr
    · ipureintro
      exact ⟨fun _ => finished_of arg8 arg10 harg10 arg11 harg11 l a f, fun hn => absurd hc hn⟩
    isplitl [H8]
    · unfold owns
      iexists _; isplitr; · ipureintro; rfl
      iexact H8
    isplitl [H10]; · iexact H10
    iexact H11
  · rw [dif_neg hc]
    iintro ⟨H8, H10, H11, Hk⟩
    sl_step
    iapply Hk
    iexists d5
    isplitr
    · ipureintro; exact ⟨fun h => absurd h hc, fun _ => rfl⟩
    isplitl [H8]; · iexact H8
    isplitl [H10]; · iexact H10
    iexact H11

/-- The body is the three parts in sequence. -/
theorem body_seq : cc0_fox_attn_prompt (F := Ideal) i arg3 harg3 arg4 harg4 arg5 harg5 arg6 harg6 arg7 harg7 arg8 harg8 arg9 harg9 arg10 harg10 arg11 harg11
    = ((if _h : isFirst i then initPart i arg3 harg3 arg4 harg4 arg5 harg5 arg6 harg6 arg7 harg7 arg8 harg8 arg9 harg9 arg10 harg10 arg11 harg11 else pure ⟨⟩) >>= fun _ =>
      (if _h : isVisible i then updatePart i arg3 harg3 arg4 harg4 arg5 harg5 arg6 harg6 arg7 harg7 arg8 harg8 arg9 harg9 arg10 harg10 arg11 harg11 else pure ⟨⟩) >>= fun _ =>
        (if _h : isDiagonal i then finalPart i arg3 harg3 arg4 harg4 arg5 harg5 arg6 harg6 arg7 harg7 arg8 harg8 arg9 harg9 arg10 harg10 arg11 harg11 else pure ⟨⟩)) := by
  rw [body_eq]
  by_cases h1 : isFirst i
  · rw [dif_pos h1, dif_pos h1]
    by_cases h2 : isVisible i
    · rw [dif_pos h2, dif_pos h2]
    · rw [dif_neg h2, dif_neg h2]; rfl
  · rw [dif_neg h1, dif_neg h1]
    by_cases h2 : isVisible i
    · rw [dif_pos h2, dif_pos h2]; rfl
    · rw [dif_neg h2, dif_neg h2]; rfl

/-- The whole body. -/
theorem body_spec (x0 x1 x2 : Vec Ideal S512x1024 .f32) (x3 : Vec Ideal S512x128 .f32) (x4 : Vec Ideal S1x128x512 .f32)
    (d5 : Vec Ideal S512x1024 .bf16) (m l : Vec Ideal S512x128 .f32) (a : Vec Ideal S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare d5 ∗ owns (c : Thread nD τ) arg9 fullShare m ∗ owns (c : Thread nD τ) arg10 fullShare l ∗ owns (c : Thread nD τ) arg11 fullShare a
        ∗ (iprop(∃ m1 l1 a1 m2 l2 a2 o, ⌜Rel1 i m l a m1 l1 a1 ∧ Rel2 i x0 x1 x2 x3 x4 m1 l1 a1 m2 l2 a2 ∧ Rel3 i l2 a2 d5 o⌝
            ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare o ∗ owns (c : Thread nD τ) arg9 fullShare m2 ∗ owns (c : Thread nD τ) arg10 fullShare l2 ∗ owns (c : Thread nD τ) arg11 fullShare a2) -∗ K ⟨⟩))
      ⊢ wp frame (wpE (defs₀ (F := Ideal)) Variants.none c none) E (cc0_fox_attn_prompt i arg3 harg3 arg4 harg4 arg5 harg5 arg6 harg6 arg7 harg7 arg8 harg8 arg9 harg9 arg10 harg10 arg11 harg11) K := by
  rw [body_seq, wp_bind]
  iintro ⟨H3, H4, H5, H6, H7, H8, H9, H10, H11, Hk⟩
  iapply init_spec c i arg3 harg3 arg4 harg4 arg5 harg5 arg6 harg6 arg7 harg7 arg8 harg8 arg9 harg9 arg10 harg10 arg11 harg11 m l a E _
  isplitl [H9]; · iexact H9
  isplitl [H10]; · iexact H10
  isplitl [H11]; · iexact H11
  iintro ⟨%m1, %l1, %a1, %h1, H9, H10, H11⟩
  rw [wp_bind]
  iapply update_spec c i arg3 harg3 arg4 harg4 arg5 harg5 arg6 harg6 arg7 harg7 arg8 harg8 arg9 harg9 arg10 harg10 arg11 harg11 x0 x1 x2 x3 x4 m1 l1 a1 E _
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  iintro ⟨%m2, %l2, %a2, %h2, H3, H4, H5, H6, H7, H9, H10, H11⟩
  iapply final_spec c i arg3 harg3 arg4 harg4 arg5 harg5 arg6 harg6 arg7 harg7 arg8 harg8 arg9 harg9 arg10 harg10 arg11 harg11 l2 a2 d5 E _
  isplitl [H8]; · iexact H8
  isplitl [H10]; · iexact H10
  isplitl [H11]; · iexact H11
  iintro ⟨%o, %h3, H8, H10, H11⟩
  iapply Hk
  iexists m1; iexists l1; iexists a1; iexists m2; iexists l2; iexists a2; iexists o
  isplitr
  · ipureintro; exact ⟨h1, h2, h3⟩
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Attn

end
-- ==== Proof.Attn.Softmax.lean ====
module

public import Idealize.ShloMosaic.PureOps.Ideal.Laws
public import Idealize.ShloMosaic.Lib.IdealHost

/-! A softmax over keys taken block by block, over the extended reals. `s k` is the score of key `k` and `v k` its value; the
blocks hold 512 keys each. The running maximum, the running sum and the accumulator after `j` blocks are those of the first
`512 j` keys, and the quotient after the last visible block is the plain softmax over all keys. -/

@[expose] public section

noncomputable section

namespace Cert.KernelIdeal.Softmax

open Idealize.ShloMosaic Finset

/-- The maximum over the first `512 j` keys. -/
def top (s : ℕ → EReal) (j : ℕ) : EReal := (range (512 * j)).sup s

/-- What block `j` leaves of a running maximum, a running sum and an accumulator. -/
def nextM (s : ℕ → EReal) (j : ℕ) (m : EReal) : EReal :=
  max m ((univ : Finset (Fin 512)).fold max ⊥ fun x => s (512 * j + x.val))
def nextL (s : ℕ → EReal) (j : ℕ) (m l : EReal) : EReal :=
  Ideal.exp (m - nextM s j m) * l + ∑ x : Fin 512, Ideal.exp (s (512 * j + x.val) - nextM s j m)
def nextA (s v : ℕ → EReal) (j : ℕ) (m a : EReal) : EReal :=
  Ideal.exp (m - nextM s j m) * a + ∑ x : Fin 512, Ideal.exp (s (512 * j + x.val) - nextM s j m) * v (512 * j + x.val)

/-- The running maximum, sum and accumulator after `j` blocks. -/
def runM (s : ℕ → EReal) : ℕ → EReal
  | 0 => ⊥
  | j + 1 => nextM s j (runM s j)
def runL (s : ℕ → EReal) : ℕ → EReal
  | 0 => 0
  | j + 1 => nextL s j (runM s j) (runL s j)
def runA (s v : ℕ → EReal) : ℕ → EReal
  | 0 => 0
  | j + 1 => nextA s v j (runM s j) (runA s v j)

/-- The sum and the accumulator over the first `512 j` keys, relative to their maximum. -/
def den (s : ℕ → EReal) (j : ℕ) : EReal := ∑ k ∈ range (512 * j), Ideal.exp (s k - top s j)
def num (s v : ℕ → EReal) (j : ℕ) : EReal := ∑ k ∈ range (512 * j), Ideal.exp (s k - top s j) * v k

theorem top_zero (s : ℕ → EReal) : top s 0 = ⊥ := rfl
theorem den_zero (s : ℕ → EReal) : den s 0 = 0 := rfl
theorem num_zero (s v : ℕ → EReal) : num s v 0 = 0 := rfl

theorem exp_bot : Ideal.exp ⊥ = 0 := rfl

theorem exp_nonneg (x : EReal) : 0 ≤ Ideal.exp x := by
  induction x with
  | bot => exact le_rfl
  | top => exact le_top
  | coe r => exact EReal.coe_nonneg.mpr (Real.exp_pos r).le

theorem exp_ne_top {x : EReal} (h : x ≠ ⊤) : Ideal.exp x ≠ ⊤ := by
  induction x with
  | bot => exact EReal.zero_ne_top
  | top => exact absurd rfl h
  | coe r => exact EReal.coe_ne_top _

theorem exp_pos_coe (r : ℝ) : 0 < Ideal.exp (r : EReal) := EReal.coe_pos.mpr (Real.exp_pos r)

/-- A nonnegative real factor goes through a sum. -/
theorem mul_sum_of_nonneg {ι : Type*} (t : Finset ι) (f : ι → EReal) {a : EReal} (h0 : 0 ≤ a) (ht : a ≠ ⊤) :
    a * ∑ x ∈ t, f x = ∑ x ∈ t, a * f x := by
  classical
  induction t using Finset.induction_on with
  | empty => simp
  | insert x t hx ih => rw [sum_insert hx, sum_insert hx, EReal.left_distrib_of_nonneg_of_ne_top h0 ht, ih]

/-- Changing the maximum a score is taken relative to. -/
theorem exp_shift {a b : ℝ} {x : EReal} (hx : x ≠ ⊤) :
    Ideal.exp ((a : EReal) - (b : EReal)) * Ideal.exp (x - (a : EReal)) = Ideal.exp (x - (b : EReal)) := by
  induction x with
  | bot => rw [EReal.bot_sub, EReal.bot_sub, exp_bot, mul_zero]
  | top => exact absurd rfl hx
  | coe r =>
    rw [← EReal.coe_sub, ← EReal.coe_sub, ← EReal.coe_sub]
    show (Real.exp _ : EReal) * (Real.exp _ : EReal) = (Real.exp _ : EReal)
    rw [← EReal.coe_mul, ← Real.exp_add]
    congr 2; ring

theorem top_succ (s : ℕ → EReal) (j : ℕ) : nextM s j (top s j) = top s (j + 1) := by
  unfold nextM top
  apply le_antisymm
  · refine max_le (Finset.sup_mono fun k hk => ?_) (Finset.sup_le fun x _ => Finset.le_sup (f := s) ?_)
    · rw [mem_range] at hk ⊢; omega
    · have := x.isLt; rw [mem_range]; omega
  · refine Finset.sup_le fun k hk => ?_
    rw [mem_range] at hk
    by_cases h : k < 512 * j
    · exact le_max_of_le_left (Finset.le_sup (f := s) (mem_range.mpr h))
    · refine le_max_of_le_right ?_
      have := Finset.le_sup (s := (univ : Finset (Fin 512))) (f := fun x => s (512 * j + x.val)) (mem_univ ⟨k - 512 * j, by omega⟩)
      have e : 512 * j + (k - 512 * j) = k := by omega
      simp only [e] at this
      exact this

variable {s : ℕ → EReal}

/-- The maximum over a nonempty prefix is a real number. -/
theorem top_real (h0 : s 0 ≠ ⊥) (ht : ∀ k, s k ≠ ⊤) (j : ℕ) (hj : 0 < j) : ∃ r : ℝ, top s j = (r : EReal) := by
  have hb : top s j ≠ ⊥ := fun e => h0 (le_bot_iff.mp (e ▸ Finset.le_sup (f := s) (mem_range.mpr (by omega))))
  have hT : top s j ≠ ⊤ := by
    unfold top
    refine ne_of_lt ((Finset.sup_lt_iff (by exact bot_lt_top)).mpr fun k _ => lt_top_iff_ne_top.mpr (ht k))
  exact ⟨_, (EReal.coe_toReal hT hb).symm⟩

theorem sum_split (f : ℕ → EReal) (j : ℕ) :
    ∑ k ∈ range (512 * (j + 1)), f k = ∑ k ∈ range (512 * j), f k + ∑ x : Fin 512, f (512 * j + x.val) := by
  rw [show 512 * (j + 1) = 512 * j + 512 by ring, Finset.sum_range_add, Finset.sum_range]
  simp only [Finset.sum_range]

theorem rescale (h0 : s 0 ≠ ⊥) (ht : ∀ k, s k ≠ ⊤) (w : ℕ → EReal) (j : ℕ) :
    Ideal.exp (top s j - top s (j + 1)) * ∑ k ∈ range (512 * j), Ideal.exp (s k - top s j) * w k
      = ∑ k ∈ range (512 * j), Ideal.exp (s k - top s (j + 1)) * w k := by
  rcases Nat.eq_zero_or_pos j with rfl | hj
  · simp
  · obtain ⟨a, ha⟩ := top_real h0 ht j hj
    obtain ⟨b, hb⟩ := top_real h0 ht (j + 1) (by omega)
    rw [ha, hb, mul_sum_of_nonneg _ _ (exp_nonneg _) (exp_ne_top (by rw [← EReal.coe_sub]; exact EReal.coe_ne_top _))]
    refine Finset.sum_congr rfl fun k _ => ?_
    rw [← mul_assoc, exp_shift (ht k)]

theorem den_succ (h0 : s 0 ≠ ⊥) (ht : ∀ k, s k ≠ ⊤) (j : ℕ) : nextL s j (top s j) (den s j) = den s (j + 1) := by
  have h := rescale h0 ht (fun _ => 1) j
  simp only [mul_one] at h
  unfold nextL den
  rw [top_succ, h, sum_split]

theorem num_succ (h0 : s 0 ≠ ⊥) (ht : ∀ k, s k ≠ ⊤) (v : ℕ → EReal) (j : ℕ) :
    nextA s v j (top s j) (num s v j) = num s v (j + 1) := by
  unfold nextA num
  rw [top_succ, rescale h0 ht v, sum_split]

theorem exp_ref_ne_top (h0 : s 0 ≠ ⊥) (ht : ∀ k, s k ≠ ⊤) (j : ℕ) (hj : 0 < j) (k : ℕ) : Ideal.exp (s k - top s j) ≠ ⊤ := by
  obtain ⟨a, ha⟩ := top_real h0 ht j hj
  refine exp_ne_top ?_
  rw [ha]
  generalize hx : s k = x
  have := ht k
  rw [hx] at this
  induction x with
  | bot => simp
  | top => exact absurd rfl this
  | coe r => rw [← EReal.coe_sub]; exact EReal.coe_ne_top _

/-- The sum over a nonempty prefix is a positive real number. -/
theorem den_pos (h0 : s 0 ≠ ⊥) (ht : ∀ k, s k ≠ ⊤) (j : ℕ) (hj : 0 < j) : 0 < den s j ∧ den s j ≠ ⊤ := by
  constructor
  · refine lt_of_lt_of_le ?_ (Finset.single_le_sum (f := fun k => Ideal.exp (s k - top s j)) (fun k _ => exp_nonneg _)
      (mem_range.mpr (by omega : 0 < 512 * j)))
    obtain ⟨a, ha⟩ := top_real h0 ht j hj
    have hr : s 0 = ((s 0).toReal : EReal) := (EReal.coe_toReal (ht 0) h0).symm
    rw [ha, hr, ← EReal.coe_sub]; exact exp_pos_coe _
  · unfold den
    refine Finset.sum_induction _ (fun x : EReal => x ≠ ⊤) (fun a b ha hb => ?_) EReal.zero_ne_top fun k _ => exp_ref_ne_top h0 ht j hj k
    exact EReal.add_ne_top ha hb

/-- After `j` blocks the running values are those of the first `512 j` keys. -/
theorem run_eq (h0 : s 0 ≠ ⊥) (ht : ∀ k, s k ≠ ⊤) (v : ℕ → EReal) :
    ∀ j, runM s j = top s j ∧ runL s j = den s j ∧ runA s v j = num s v j
  | 0 => ⟨rfl, rfl, rfl⟩
  | j + 1 => by
    obtain ⟨h1, h2, h3⟩ := run_eq h0 ht v j
    refine ⟨?_, ?_, ?_⟩
    · show nextM s j (runM s j) = _
      rw [h1, top_succ]
    · show nextL s j (runM s j) (runL s j) = _
      rw [h1, h2, den_succ h0 ht]
    · show nextA s v j (runM s j) (runA s v j) = _
      rw [h1, h3, num_succ h0 ht]

/-- Keys whose score is −∞ change neither the maximum nor a weighted sum: the plain softmax over `512 J` keys, of which those past
    the first `512 j` are masked, is the quotient after `j` blocks. -/
theorem softmax_eq (h0 : s 0 ≠ ⊥) (ht : ∀ k, s k ≠ ⊤) (v : ℕ → EReal) (j J : ℕ) (hj : 0 < j) (hJ : j ≤ J)
    (hmask : ∀ k, 512 * j ≤ k → s k = ⊥) :
    Ideal.div (num s v j) (den s j)
      = ∑ k ∈ range (512 * J), Ideal.div (Ideal.exp (s k - top s J)) (den s J) * v k := by
  have hsub : range (512 * j) ⊆ range (512 * J) := range_mono (by omega)
  have hM : top s J = top s j := by
    apply le_antisymm
    · refine Finset.sup_le fun k _ => ?_
      by_cases h : k < 512 * j
      · exact Finset.le_sup (f := s) (mem_range.mpr h)
      · rw [hmask k (by omega)]; exact bot_le
    · exact Finset.sup_mono hsub
  have hz : ∀ k, k ∉ range (512 * j) → Ideal.exp (s k - top s j) = 0 := fun k hk => by
    rw [hmask k (by rw [mem_range] at hk; omega)]
    rw [EReal.bot_sub, exp_bot]
  have hL : den s J = den s j := by
    unfold den
    rw [hM]
    exact (Finset.sum_subset hsub fun k _ hk => hz k hk).symm
  obtain ⟨hp, hT⟩ := den_pos h0 ht j hj
  rw [hM, hL, ← Finset.sum_subset hsub fun k _ hk => by rw [hz k hk, Ideal.zero_div hp.ne', zero_mul]]
  unfold Ideal.div num
  simp only [hp.ne', if_false]
  have hi0 : 0 ≤ (den s j)⁻¹ := EReal.inv_nonneg_of_nonneg hp.le
  have hiT : (den s j)⁻¹ ≠ ⊤ := by
    lift den s j to ℝ using ⟨hT, (lt_of_le_of_lt bot_le hp).ne'⟩ with r hr
    rw [← EReal.coe_inv]; exact EReal.coe_ne_top _
  rw [mul_comm, mul_sum_of_nonneg _ _ hi0 hiT]
  refine Finset.sum_congr rfl fun k _ => ?_
  rw [← mul_assoc, mul_comm (den s j)⁻¹]

end Cert.KernelIdeal.Softmax

end
-- ==== Proof.Attn.State.lean ====
module

public import proofs.«01_k».proof.Proof.Attn.Body
public import proofs.«01_k».proof.Proof.Attn.Softmax
public import proofs.«01_k».proof.Proof.Gen.KernelIdeal.Frame
public import Idealize.ShloMosaic.Lib.Pipeline.TableIdle

/-! What the scratch buffers hold between grid points, and what the output blocks hold, as functions of the argument arrays. -/

@[expose] public section

set_option maxRecDepth 16384

noncomputable section

namespace Cert.KernelIdeal.Attn

open Cert.KernelIdeal Cert.KernelIdeal.Gen
open Idealize.ShloMosaic Idealize.ShloMosaic.TcCoe
open Idealize.SL.Sem
open Cert.KernelIdeal.Softmax

/-- Indices of the argument arrays by natural numbers. -/
abbrev tok (n : ℕ) : Fin 8192 := ⟨n % 8192, Nat.mod_lt _ (by norm_num)⟩
abbrev lane (n : ℕ) : Fin 17664 := ⟨n % 17664, Nat.mod_lt _ (by norm_num)⟩
abbrev seqn (b : ℕ) : Fin 4 := ⟨b % 4, Nat.mod_lt _ (by norm_num)⟩
abbrev key (k : ℕ) : Fin 2048 := ⟨k % 2048, Nat.mod_lt _ (by norm_num)⟩

section Rows
variable (X : FVec Ideal S8192x17664 .f32) (Ct : FVec Ideal S8192x128 .f32) (Cr : FVec Ideal S4x128x2048 .f32)

/-- The unmasked score of sequence `b`, head `h`, query `R`, key `k`. -/
def logit (b : ℕ) (h : Fin 8) (R k : ℕ) : EReal :=
  (∑ d : Fin 128, X (ix2 (tok (2048 * b + R)) (lane (6144 + (128 * h.val + d.val)))) * X (ix2 (tok (2048 * b + k)) (lane (7168 + (128 * h.val + d.val))))) * scale
    + Ct (ix2 (tok (2048 * b + R)) (hcol h)) - Cr (ix3 (seqn b) (hcol h) (key k))

/-- The scores of one query, the keys after it masked. -/
def srow (b : ℕ) (h : Fin 8) (R : ℕ) : ℕ → EReal := fun k => if k ≤ R then logit X Ct Cr b h R k else ⊥

/-- Lane `d` of the values. -/
def vcol (b : ℕ) (h : Fin 8) (d : Fin 128) : ℕ → EReal := fun k => X (ix2 (tok (2048 * b + k)) (lane (8192 + (128 * h.val + d.val))))

/-- The scratch buffers after `n` key blocks of query block `i` of sequence `b`. -/
def StateAt (b i n : ℕ) (m l : Vec Ideal S512x128 .f32) (a : Vec Ideal S512x1024 .f32) : Prop :=
  ∀ (h : Fin 8) (r : Fin 512), m (ix2 r (hcol h)) = runM (srow X Ct Cr b h (512 * i + r.val)) n
    ∧ l (ix2 r (hcol h)) = runL (srow X Ct Cr b h (512 * i + r.val)) n
    ∧ ∀ d : Fin 128, a (ix2 r (hlane h d)) = runA (srow X Ct Cr b h (512 * i + r.val)) (vcol X b h d) n

/-- Output block `i` of sequence `b`: the accumulator over the sum, after the diagonal block. -/
def outBlk (b i : ℕ) : Vec Ideal S512x1024 .bf16 := fun y =>
  Ideal.div (runA (srow X Ct Cr b ⟨(y 1).val / 128 % 8, Nat.mod_lt _ (by norm_num)⟩ (512 * i + (y 0).val))
      (vcol X b ⟨(y 1).val / 128 % 8, Nat.mod_lt _ (by norm_num)⟩ ⟨(y 1).val % 128, Nat.mod_lt _ (by norm_num)⟩) (i + 1))
    (runL (srow X Ct Cr b ⟨(y 1).val / 128 % 8, Nat.mod_lt _ (by norm_num)⟩ (512 * i + (y 0).val)) (i + 1))

variable {X Ct Cr}

theorem state_zero {b i : ℕ} {m l : Vec Ideal S512x128 .f32} {a : Vec Ideal S512x1024 .f32} (h : Started m l a) : StateAt X Ct Cr b i 0 m l a :=
  fun hd r => ⟨(h hd r).1, (h hd r).2.1, fun d => (h hd r).2.2 d⟩

/-- One key block, once the blocks' scores and values are known to be the arrays'. -/
theorem state_succ {b i j : ℕ} {g : grid0.Coords} {x0 x1 x2 : Vec Ideal S512x1024 .f32} {x3 : Vec Ideal S512x128 .f32} {x4 : Vec Ideal S1x128x512 .f32}
    {m l : Vec Ideal S512x128 .f32} {a : Vec Ideal S512x1024 .f32} {m' l' : Vec Ideal S512x128 .f32} {a' : Vec Ideal S512x1024 .f32}
    (hs : ∀ (h : Fin 8) (r s : Fin 512), sco g x0 x1 x3 x4 h r s = srow X Ct Cr b h (512 * i + r.val) (512 * j + s.val))
    (hv : ∀ (h : Fin 8) (s : Fin 512) (d : Fin 128), x2 (ix2 s (hlane h d)) = vcol X b h d (512 * j + s.val))
    (h1 : StateAt X Ct Cr b i j m l a) (h2 : Updated g x0 x1 x2 x3 x4 m l a m' l' a') : StateAt X Ct Cr b i (j + 1) m' l' a' := by
  intro h r
  obtain ⟨e1, e2, e3⟩ := h1 h r
  obtain ⟨f1, f2, f3⟩ := h2 h r _ rfl
  simp only [e1, e2, hs] at f1 f2 f3
  refine ⟨f1, f2, fun d => ?_⟩
  refine (f3 d).trans ?_
  rw [e3 d]
  simp only [hv]
  rfl

/-- The stored output block. -/
theorem out_of_state {b i : ℕ} {m l : Vec Ideal S512x128 .f32} {a : Vec Ideal S512x1024 .f32} {o : Vec Ideal S512x1024 .bf16}
    (h1 : StateAt X Ct Cr b i (i + 1) m l a) (h2 : Finished l a o) : o = outBlk X Ct Cr b i := by
  funext y
  obtain ⟨r, k, rfl⟩ : ∃ (r : Fin 512) (k : Fin 1024), y = ix2 r k := ⟨y 0, y 1, eq_ix2 y⟩
  have hk := k.isLt
  have e : k = hlane ⟨k.val / 128 % 8, Nat.mod_lt _ (by norm_num)⟩ ⟨k.val % 128, Nat.mod_lt _ (by norm_num)⟩ := by
    apply Fin.ext
    show k.val = 128 * (k.val / 128 % 8) + k.val % 128
    omega
  have := h2 ⟨k.val / 128 % 8, Nat.mod_lt _ (by norm_num)⟩ r ⟨k.val % 128, Nat.mod_lt _ (by norm_num)⟩
  rw [← e] at this
  rw [this]
  obtain ⟨-, f2, f3⟩ := h1 ⟨k.val / 128 % 8, Nat.mod_lt _ (by norm_num)⟩ r
  have f4 := f3 ⟨k.val % 128, Nat.mod_lt _ (by norm_num)⟩
  rw [← e] at f4
  rw [f2, f4]
  rfl

end Rows

end Cert.KernelIdeal.Attn

end
-- ==== Proof.Attn.Blocks.lean ====
module

public import proofs.«01_k».proof.Proof.Attn.State
public import Idealize.ShloMosaic.Lib.Pipeline.ValueKit

/-! The blocks the windows stage, read at an index as entries of the argument arrays. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL.Sem
open Idealize.ShloMosaic.Pipeline (Dat Cfg Window)
open Cert.KernelIdeal.Softmax

variable (m : (ℓ : Loc nD τ sig) → Buf (Elt Ideal) ℓ) (c : Dev nD)

/-- The three argument arrays of device `c`. -/
abbrev aX : FVec Ideal S8192x17664 .f32 := m ((c : Thread nD τ).loc main_arg0)
abbrev aCt : FVec Ideal S8192x128 .f32 := m ((c : Thread nD τ).loc main_arg1)
abbrev aCr : FVec Ideal S4x128x2048 .f32 := m ((c : Thread nD τ).loc main_arg2)

/-- Where each window's block lies, in the number of the point. -/
theorem idx : ∀ t : Fin cfg0.N, win0_0.index t = ![t.val / 16 * 4 + t.val / 4 % 4, 6]
    ∧ win0_1.index t = ![t.val / 16 * 4 + min (t.val % 4) (t.val / 4 % 4), 7]
    ∧ win0_2.index t = ![t.val / 16 * 4 + min (t.val % 4) (t.val / 4 % 4), 8]
    ∧ win0_3.index t = ![t.val / 16 * 4 + t.val / 4 % 4, 0]
    ∧ win0_4.index t = ![t.val / 16, 0, min (t.val % 4) (t.val / 4 % 4)]
    ∧ win0_5.index t = ![t.val / 16 * 4 + t.val / 4 % 4, 0] := by decide +kernel

theorem idx0 (t : Fin cfg0.N) : win0_0.index t = ![t.val / 16 * 4 + t.val / 4 % 4, 6] := (idx t).1
theorem idx1 (t : Fin cfg0.N) : win0_1.index t = ![t.val / 16 * 4 + min (t.val % 4) (t.val / 4 % 4), 7] := (idx t).2.1
theorem idx2 (t : Fin cfg0.N) : win0_2.index t = ![t.val / 16 * 4 + min (t.val % 4) (t.val / 4 % 4), 8] := (idx t).2.2.1
theorem idx3 (t : Fin cfg0.N) : win0_3.index t = ![t.val / 16 * 4 + t.val / 4 % 4, 0] := (idx t).2.2.2.1
theorem idx4 (t : Fin cfg0.N) : win0_4.index t = ![t.val / 16, 0, min (t.val % 4) (t.val / 4 % 4)] := (idx t).2.2.2.2.1
theorem idx5 (t : Fin cfg0.N) : win0_5.index t = ![t.val / 16 * 4 + t.val / 4 % 4, 0] := (idx t).2.2.2.2.2

theorem q_at (t : Fin cfg0.N) (r : Fin 512) (k : Fin 1024) :
    X0_0 m c t (ix2 r k) = aX m c (ix2 (tok (2048 * (t.val / 16) + (512 * (t.val / 4 % 4) + r.val))) (lane (6144 + k.val))) := by
  have hN : t.val < 64 := Nat.lt_of_lt_of_eq t.isLt N_0
  unfold X0_0 Window.fill
  rw [dif_pos (moved0_0 t _)]
  unfold iblk
  rw [View.read_apply]
  blk_ext [iblk, V, idx0 t, tok, lane]

theorem k_at (t : Fin cfg0.N) (hv : t.val % 4 ≤ t.val / 4 % 4) (r : Fin 512) (k : Fin 1024) :
    X0_1 m c t (ix2 r k) = aX m c (ix2 (tok (2048 * (t.val / 16) + (512 * (t.val % 4) + r.val))) (lane (7168 + k.val))) := by
  have hN : t.val < 64 := Nat.lt_of_lt_of_eq t.isLt N_0
  have e := idx1 t
  rw [min_eq_left hv] at e
  unfold X0_1 Window.fill
  rw [dif_pos (moved0_1 t _)]
  blk_ext [iblk, V, e, tok, lane]

theorem v_at (t : Fin cfg0.N) (hv : t.val % 4 ≤ t.val / 4 % 4) (r : Fin 512) (k : Fin 1024) :
    X0_2 m c t (ix2 r k) = aX m c (ix2 (tok (2048 * (t.val / 16) + (512 * (t.val % 4) + r.val))) (lane (8192 + k.val))) := by
  have hN : t.val < 64 := Nat.lt_of_lt_of_eq t.isLt N_0
  have e := idx2 t
  rw [min_eq_left hv] at e
  unfold X0_2 Window.fill
  rw [dif_pos (moved0_2 t _)]
  blk_ext [iblk, V, e, tok, lane]

theorem ct_at (t : Fin cfg0.N) (r : Fin 512) (k : Fin 128) :
    iblk m c 3 t (ix2 r k) = aCt m c (ix2 (tok (2048 * (t.val / 16) + (512 * (t.val / 4 % 4) + r.val))) k) := by
  have hN : t.val < 64 := Nat.lt_of_lt_of_eq t.isLt N_0
  blk_ext [iblk, V, idx3 t, tok]

theorem cr_at (t : Fin cfg0.N) (hv : t.val % 4 ≤ t.val / 4 % 4) (k : Fin 128) (s : Fin 512) :
    iblk m c 4 t (ix3 0 k s) = aCr m c (ix3 (seqn (t.val / 16)) k (key (512 * (t.val % 4) + s.val))) := by
  have hN : t.val < 64 := Nat.lt_of_lt_of_eq t.isLt N_0
  have e := idx4 t
  rw [min_eq_left hv] at e
  blk_ext [iblk, V, e, seqn, key]

/-- The scores of a visible block. -/
theorem sco_at (t : Fin cfg0.N) (hv : t.val % 4 ≤ t.val / 4 % 4) (h : Fin 8) (r s : Fin 512) :
    sco (grid0.coords t) (X0_0 m c t) (X0_1 m c t) (iblk m c 3 t) (iblk m c 4 t) h r s
      = srow (aX m c) (aCt m c) (aCr m c) (t.val / 16) h (512 * (t.val / 4 % 4) + r.val) (512 * (t.val % 4) + s.val) := by
  have e1 : (grid0.coords t 1).val = t.val / 4 % 4 := Pipeline.Grid.coords_val t 1 (by decide) rfl
  have e2 : (grid0.coords t 2).val = t.val / 1 % 4 := Pipeline.Grid.coords_val t 2 (by decide) rfl
  rw [Nat.div_one] at e2
  have hi : sees (grid0.coords t) r s ↔ 512 * (t.val % 4) + s.val ≤ 512 * (t.val / 4 % 4) + r.val := by
    unfold sees
    rw [e1, e2]
  unfold sco srow
  by_cases hc : 512 * (t.val % 4) + s.val ≤ 512 * (t.val / 4 % 4) + r.val
  · rw [if_pos (hi.mpr hc), if_pos hc]
    unfold logit
    simp only [q_at, k_at m c t hv, ct_at, cr_at m c t hv]
  · rw [if_neg (fun h => hc (hi.mp h)), if_neg hc]

theorem val_at (t : Fin cfg0.N) (hv : t.val % 4 ≤ t.val / 4 % 4) (h : Fin 8) (s : Fin 512) (d : Fin 128) :
    X0_2 m c t (ix2 s (hlane h d)) = vcol (aX m c) (t.val / 16) h d (512 * (t.val % 4) + s.val) := v_at m c t hv s _

end Cert.KernelIdeal.Attn

end
-- ==== Proof.Attn.Frame.lean ====
module

public import proofs.«01_k».proof.Proof.Attn.Blocks

/-! The launch of the attention kernel: what its scratch buffers hold between grid points, the body at every point, the run, and the
array it leaves. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Softmax

local notation "𝕄" => MT nD τ sig Unit (Elt Ideal) ℕ (UR sig nD τ) ℕ

variable (m : (ℓ : Loc nD τ sig) → Buf (Elt Ideal) ℓ) (ρ : Dev nD → PrngReg) (c : Dev nD)

/-! ## The branch conditions, in the number of the point -/

theorem first_iff (t : Fin cfg0.N) : isFirst (grid0.coords t) ↔ t.val % 4 = 0 := by
  have ht : t.val < 64 := Nat.lt_of_lt_of_eq t.isLt N_0
  have e2 : (grid0.coords t 2).val = t.val / 1 % 4 := Pipeline.Grid.coords_val t 2 (by decide) rfl
  simp only [isFirst, e2]
  word_cmp

theorem visible_iff : ∀ t : Fin cfg0.N, isVisible (grid0.coords t) ↔ t.val % 4 ≤ t.val / 4 % 4 :=
  (by decide +kernel : ∀ t : Fin grid0.N, isVisible (grid0.coords t) ↔ t.val % 4 ≤ t.val / 4 % 4)

theorem diagonal_iff : ∀ t : Fin cfg0.N, isDiagonal (grid0.coords t) ↔ t.val / 4 % 4 = t.val % 4 :=
  (by decide +kernel : ∀ t : Fin grid0.N, isDiagonal (grid0.coords t) ↔ t.val / 4 % 4 = t.val % 4)

/-- The output block is left alone exactly off the diagonal. -/
theorem idle5_iff : ∀ t : Fin cfg0.N, cfg0.idle 5 (grid0.coords t) = !decide (t.val / 4 % 4 = t.val % 4) :=
  (by decide +kernel : ∀ t : Fin grid0.N, cfg0.idle 5 (grid0.coords t) = !decide (t.val / 4 % 4 = t.val % 4))

theorem fresh5 (n : ℕ) (hn : n ≤ cfg0.N) : cfg0.fresh 5 n = decide (n % 4 ≤ n / 4 % 4) :=
  Cfg.fresh_tab (cfg := cfg0) 5 (fun n => decide (n % 4 ≤ n / 4 % 4)) rfl (by decide +kernel) n hn

/-! ## The invariant -/

/-- Before point `n` the scratch buffers hold the running values of the query block, while it still has key blocks to see. -/
def Good (n : ℕ) (sm sl : Vec Ideal S512x128 .f32) (sa : Vec Ideal S512x1024 .f32) : Prop :=
  n % 4 ≠ 0 → n % 4 ≤ n / 4 % 4 + 1 → StateAt (aX m c) (aCt m c) (aCr m c) (n / 16) (n / 4 % 4) (n % 4) sm sl sa

variable {m c}

/-- After a visible key block the scratch buffers hold one block more. -/
theorem stepped (t : Fin cfg0.N) (hv : t.val % 4 ≤ t.val / 4 % 4) {sm sl : Vec Ideal S512x128 .f32} {sa : Vec Ideal S512x1024 .f32}
    {m1 l1 : Vec Ideal S512x128 .f32} {a1 : Vec Ideal S512x1024 .f32} {m2 l2 : Vec Ideal S512x128 .f32} {a2 : Vec Ideal S512x1024 .f32}
    (hg : Good m c t.val sm sl sa) (h1 : Rel1 (grid0.coords t) sm sl sa m1 l1 a1)
    (h2 : Rel2 (grid0.coords t) (X0_0 m c t) (X0_1 m c t) (X0_2 m c t) (iblk m c 3 t) (iblk m c 4 t) m1 l1 a1 m2 l2 a2) :
    StateAt (aX m c) (aCt m c) (aCr m c) (t.val / 16) (t.val / 4 % 4) (t.val % 4 + 1) m2 l2 a2 := by
  have hs : StateAt (aX m c) (aCt m c) (aCr m c) (t.val / 16) (t.val / 4 % 4) (t.val % 4) m1 l1 a1 := by
    by_cases h0 : t.val % 4 = 0
    · rw [h0]
      exact state_zero (h1.1 ((first_iff t).mpr h0))
    · obtain ⟨e1, e2, e3⟩ := h1.2 (fun h => h0 ((first_iff t).mp h))
      subst e1 e2 e3
      exact hg h0 (by omega)
  exact state_succ (sco_at m c t hv) (val_at m c t hv) hs (h2 ((visible_iff t).mpr hv))

theorem good_succ (t : Fin cfg0.N) {sm sl : Vec Ideal S512x128 .f32} {sa : Vec Ideal S512x1024 .f32}
    {m1 l1 : Vec Ideal S512x128 .f32} {a1 : Vec Ideal S512x1024 .f32} {m2 l2 : Vec Ideal S512x128 .f32} {a2 : Vec Ideal S512x1024 .f32}
    (hg : Good m c t.val sm sl sa) (h1 : Rel1 (grid0.coords t) sm sl sa m1 l1 a1)
    (h2 : Rel2 (grid0.coords t) (X0_0 m c t) (X0_1 m c t) (X0_2 m c t) (iblk m c 3 t) (iblk m c 4 t) m1 l1 a1 m2 l2 a2) :
    Good m c (t.val + 1) m2 l2 a2 := by
  intro hn hle
  have := stepped t (by omega) hg h1 h2
  have e1 : (t.val + 1) / 16 = t.val / 16 := by omega
  have e2 : (t.val + 1) / 4 % 4 = t.val / 4 % 4 := by omega
  have e3 : (t.val + 1) % 4 = t.val % 4 + 1 := by omega
  rw [e1, e2, e3]
  exact this

theorem out_diag (t : Fin cfg0.N) (hd : t.val / 4 % 4 = t.val % 4) {sm sl : Vec Ideal S512x128 .f32} {sa : Vec Ideal S512x1024 .f32}
    {m1 l1 : Vec Ideal S512x128 .f32} {a1 : Vec Ideal S512x1024 .f32} {m2 l2 : Vec Ideal S512x128 .f32} {a2 : Vec Ideal S512x1024 .f32}
    {d5 o : Vec Ideal S512x1024 .bf16}
    (hg : Good m c t.val sm sl sa) (h1 : Rel1 (grid0.coords t) sm sl sa m1 l1 a1)
    (h2 : Rel2 (grid0.coords t) (X0_0 m c t) (X0_1 m c t) (X0_2 m c t) (iblk m c 3 t) (iblk m c 4 t) m1 l1 a1 m2 l2 a2)
    (h3 : Rel3 (grid0.coords t) l2 a2 d5 o) : o = outBlk (aX m c) (aCt m c) (aCr m c) (t.val / 16) (t.val / 4 % 4) := by
  have := stepped t (by omega) hg h1 h2
  rw [← hd] at this
  exact out_of_state this (h3.1 ((diagonal_iff t).mpr hd))

variable (m c)

/-- The scratch buffers between points, and the generator register. -/
def Inv (n : ℕ) : sProp 𝕄 :=
  iprop(∃ sm sl sa, ⌜Good m c n sm sl sa⌝ ∗ owns (c : Thread nD τ) (Memref.whole cc0_scratch0 : Memref sig .tc .vmem S512x128 .f32) fullShare sm
    ∗ owns (c : Thread nD τ) (Memref.whole cc0_scratch1 : Memref sig .tc .vmem S512x128 .f32) fullShare sl
    ∗ owns (c : Thread nD τ) (Memref.whole cc0_scratch2 : Memref sig .tc .vmem S512x1024 .f32) fullShare sa ∗ (∃ r, prngReg c r))

/-- The launch's scratch buffers as owned at some contents. -/
theorem PhiA_eq : (Pipeline.ΦA spec0 c : sProp 𝕄)
      = iprop(iprop((∃ d, owns (c : Thread nD τ) (Memref.whole cc0_scratch0 : Memref sig .tc .vmem S512x128 .f32) fullShare d)
        ∗ (∃ d, owns (c : Thread nD τ) (Memref.whole cc0_scratch1 : Memref sig .tc .vmem S512x128 .f32) fullShare d)
        ∗ (∃ d, owns (c : Thread nD τ) (Memref.whole cc0_scratch2 : Memref sig .tc .vmem S512x1024 .f32) fullShare d)) ∗ (∃ r, prngReg c r)) := by
  unfold Pipeline.ΦA; rw [scopedRest0_eq]; simp only [owns_whole]; try rfl

/-- The proof data: the inputs keep their blocks, the output block holds the query block's result, the invariant is `Inv`. -/
def dats (_ : Fin 1) (c : Dev nD) : Dat τ (Elt Ideal) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => outBlk (aX m c) (aCt m c) (aCr m c) (t.val / 16) (t.val / 4 % 4)
  Φ t := Inv m c t.val
  q w := Pipeline.shareOf spec0 w
  owed _ := 0

theorem A_eq (c : Dev nD) (w : Fin cfg0.W) : (dats m 0 c).A w = V m c (Pipeline.arrRef spec0 w) := by dsimp only [dats]

theorem after_0 (t : Fin cfg0.N) : (dats m 0 c).after 0 t = X0_0 m c t := by dsimp only [dats]
theorem after_1 (t : Fin cfg0.N) : (dats m 0 c).after 1 t = X0_1 m c t := by dsimp only [dats]
theorem after_2 (t : Fin cfg0.N) : (dats m 0 c).after 2 t = X0_2 m c t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = outBlk (aX m c) (aCt m c) (aCr m c) (t.val / 16) (t.val / 4 % 4) := by dsimp only [dats]

theorem before_0 (t : Fin cfg0.N) (d) : (dats m 0 c).before 0 t d = X0_0 m c t := before0_0_of m (dats m 0 c) (A_eq m c 0) (after_0 m c) t d
theorem before_1 (t : Fin cfg0.N) (d) : (dats m 0 c).before 1 t d = X0_1 m c t := before0_1_of m (dats m 0 c) (A_eq m c 1) (after_1 m c) t d
theorem before_2 (t : Fin cfg0.N) (d) : (dats m 0 c).before 2 t d = X0_2 m c t := before0_2_of m (dats m 0 c) (A_eq m c 2) (after_2 m c) t d
theorem before_3 (t : Fin cfg0.N) (d) : (dats m 0 c).before 3 t d = iblk m c 3 t := before0_3_of m (dats m 0 c) (A_eq m c 3) (after_3 m c) t d
theorem before_4 (t : Fin cfg0.N) (d) : (dats m 0 c).before 4 t d = iblk m c 4 t := before0_4_of m (dats m 0 c) (A_eq m c 4) (after_4 m c) t d

/-- Past the diagonal the output buffer still holds the query block's result. -/
theorem before_5 (t : Fin cfg0.N) (ht : ¬ t.val % 4 ≤ t.val / 4 % 4) (d) :
    (dats m 0 c).before 5 t d = outBlk (aX m c) (aCt m c) (aCr m c) (t.val / 16) (t.val / 4 % 4) := by
  have hN : t.val < 64 := Nat.lt_of_lt_of_eq t.isLt N_0
  rw [Dat.before_out_traj (dats m 0 c) 5 rfl (fun _ _ => rfl) (fun t h0 hi hf => ?_) t.val t rfl d, fresh5 _ t.isLt.le, if_neg (by simpa using ht), after_5]
  · have e1 : (t.val - 1) / 16 = t.val / 16 := by omega
    have e2 : (t.val - 1) / 4 % 4 = t.val / 4 % 4 := by omega
    show outBlk _ _ _ ((t.val - 1) / 16) ((t.val - 1) / 4 % 4) = _
    rw [e1, e2]
  · rw [fresh5 _ t.isLt.le] at hf
    have hf' : ¬ t.val % 4 ≤ t.val / 4 % 4 := by simpa using hf
    rw [after_5, after_5]
    have e1 : (t.val - 1) / 16 = t.val / 16 := by omega
    have e2 : (t.val - 1) / 4 % 4 = t.val / 4 % 4 := by omega
    show _ = outBlk _ _ _ ((t.val - 1) / 16) ((t.val - 1) / 4 % 4)
    rw [e1, e2]

/-! ## The body at a point -/

def bodyPre (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_0 (t : Fin cfg0.N) : (dats m 0 c).leavesExact 0 t = owns (c : Thread nD τ) (win0_0.stage (cfg0.slots t 0)) fullShare (X0_0 m c t) := by
  unfold Dat.leavesExact; rw [show cfg0.idle 0 (grid0.coords t) = false from rfl, after_0]
theorem leaves_1 (t : Fin cfg0.N) : (dats m 0 c).leavesExact 1 t = owns (c : Thread nD τ) (win0_1.stage (cfg0.slots t 1)) fullShare (X0_1 m c t) := by
  unfold Dat.leavesExact; rw [show cfg0.idle 1 (grid0.coords t) = false from rfl, after_1]
theorem leaves_2 (t : Fin cfg0.N) : (dats m 0 c).leavesExact 2 t = owns (c : Thread nD τ) (win0_2.stage (cfg0.slots t 2)) fullShare (X0_2 m c t) := by
  unfold Dat.leavesExact; rw [show cfg0.idle 2 (grid0.coords t) = false from rfl, after_2]
theorem leaves_3 (t : Fin cfg0.N) : (dats m 0 c).leavesExact 3 t = owns (c : Thread nD τ) (win0_3.stage (cfg0.slots t 3)) fullShare (iblk m c 3 t) := by
  unfold Dat.leavesExact; rw [show cfg0.idle 3 (grid0.coords t) = false from rfl, after_3]
theorem leaves_4 (t : Fin cfg0.N) : (dats m 0 c).leavesExact 4 t = owns (c : Thread nD τ) (win0_4.stage (cfg0.slots t 4)) fullShare (iblk m c 4 t) := by
  unfold Dat.leavesExact; rw [show cfg0.idle 4 (grid0.coords t) = false from rfl, after_4]

/-- Whatever the point, the output buffer is handed back as the pipeline wants it. -/
theorem leaves_5 (t : Fin cfg0.N) (d) (o : Vec Ideal S512x1024 .bf16)
    (h1 : t.val / 4 % 4 = t.val % 4 → o = outBlk (aX m c) (aCt m c) (aCr m c) (t.val / 16) (t.val / 4 % 4))
    (h2 : ¬ t.val / 4 % 4 = t.val % 4 → o = (dats m 0 c).before 5 t d) :
    owns (c : Thread nD τ) (win0_5.stage (cfg0.slots t 5)) fullShare o ⊢ ((dats m 0 c).leavesExact 5 t : sProp 𝕄) := by
  by_cases hd : t.val / 4 % 4 = t.val % 4
  · rw [show (dats m 0 c).leavesExact 5 t = owns (c : Thread nD τ) (win0_5.stage (cfg0.slots t 5)) fullShare ((dats m 0 c).after 5 t) from by
      unfold Dat.leavesExact; rw [idle5_iff t, decide_eq_true hd]; rfl, after_5, h1 hd]
  · by_cases hf : t.val % 4 = 3
    · rw [show (dats m 0 c).leavesExact 5 t = owns (c : Thread nD τ) (win0_5.stage (cfg0.slots t 5)) fullShare ((dats m 0 c).after 5 t) from by
        unfold Dat.leavesExact; rw [idle5_iff t, decide_eq_false hd, (flush0_5 t).mpr hf]; rfl, after_5, h2 hd, before_5 m c t (by omega)]
    · rw [Dat.leavesExact_idle (dats m 0 c) 5 t (by rw [idle5_iff t, decide_eq_false hd]; rfl) (Bool.eq_false_iff.mpr fun h => hf ((flush0_5 t).mp h)), h2 hd]
      iintro H
      iexists d
      iexact H

set_option maxHeartbeats 4000000 in
theorem sound_body (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [leaves_0, leaves_1, leaves_2, leaves_3, leaves_4]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  unfold Inv
  iintro ⟨⟨%sm, %sl, %sa, %hg, HS0, HS1, HS2, Hg⟩, Ho, ⟨%d0, H0⟩, ⟨%d1, H1⟩, ⟨%d2, H2⟩, ⟨%d3, H3⟩, ⟨%d4, H4⟩, ⟨%d5, H5⟩⟩
  iapply (body_spec c (grid0.coords t) _ _ _ _ _ _ _ _ _ _ _ _ _ _ _ _ _ _ (X0_0 m c t) (X0_1 m c t) (X0_2 m c t) (iblk m c 3 t) (iblk m c 4 t) ((dats m 0 c).before 5 t d5) sm sl sa Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨%m1, %l1, %a1, %m2, %l2, %a2, %o, %hr, H0, H1, H2, H3, H4, H5, HS0, HS1, HS2⟩
  obtain ⟨r1, r2, r3⟩ := hr
  isplitl [HS0 HS1 HS2 Hg]
  · iexists m2
    iexists l2
    iexists a2
    isplitr
    · ipureintro; exact good_succ t hg r1 r2
    isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  iapply (leaves_5 m c t d5 o (fun hd => out_diag t hd hg r1 r2 r3) (fun hd => r3.2 (fun h => hd ((diagonal_iff t).mp h))))
  iexact H5

/-- The body table's row at a point is the body there. -/
theorem defs₀_row (t : Fin cfg0.N) : defs₀ (F := Ideal) .tc cfg0.body (cfg0.bodyArgs t (cfg0.slots t)) = bodyAt0 t := by
  unfold defs₀; rw [Defs.onTc_tc]

theorem body_obligation : BodyObligation (dats m 0 c) (defs₀ (F := Ideal)) Variants.none () Set.univ := fun t => by
  rw [bigSep_W0, bigSep_W0, defs₀_row]
  exact triple_restated (sound_body m c t) rfl .rfl fun _ => .rfl

theorem hin : Pipeline.ΦA spec0 c ⊢ (dats m 0 c).Φ 0 := by
  rw [show (dats m 0 c).Φ 0 = Inv m c 0 from rfl, PhiA_eq]
  unfold Inv
  iintro ⟨⟨⟨%d0, H0⟩, ⟨%d1, H1⟩, ⟨%d2, H2⟩⟩, Hg⟩
  iexists d0
  iexists d1
  iexists d2
  isplitr
  · ipureintro; exact fun h => absurd rfl h
  isplitl [H0]; · iexact H0
  isplitl [H1]; · iexact H1
  isplitl [H2]; · iexact H2
  iexact Hg

theorem hout : (dats m 0 c).Φ (Fin.last cfg0.N) ⊢ Pipeline.ΦA spec0 c := by
  rw [show (dats m 0 c).Φ (Fin.last cfg0.N) = Inv m c cfg0.N from rfl, PhiA_eq]
  unfold Inv
  iintro ⟨%sm, %sl, %sa, %hg, H0, H1, H2, Hg⟩
  isplitl [H0 H1 H2]
  · isplitl [H0]
    · iexists _; iexact H0
    isplitl [H1]
    · iexists _; iexact H1
    iexists _; iexact H2
  iexact Hg

/-! ## The run -/

set_option backward.isDefEq.respectTransparency.types false in
/-- Every execution ends with the arrays as the proof data says, and every semaphore at zero. -/
theorem run_main_quiescent : θ_run defs (onTc (τ := τ) (main (F := Ideal))) (s₀ m ρ)
    (fun r => Pipeline.FramePost cfgs (dats m) (0 : Fin 1) (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) (0 : Fin 1) (V m)) :=
  (θ_run defs _ _).mono (fun _ h => h.1) (run_main_quiescent m ρ)

/-- The array the kernel leaves: block by block, the query blocks' results. -/
def outArr : FVec Ideal S8192x1024 .bf16 := fun y =>
  Ideal.div (runA (srow (aX m c) (aCt m c) (aCr m c) ((y 0).val / 2048) ⟨(y 1).val / 128 % 8, Nat.mod_lt _ (by norm_num)⟩ ((y 0).val % 2048))
      (vcol (aX m c) ((y 0).val / 2048) ⟨(y 1).val / 128 % 8, Nat.mod_lt _ (by norm_num)⟩ ⟨(y 1).val % 128, Nat.mod_lt _ (by norm_num)⟩) ((y 0).val / 512 % 4 + 1))
    (runL (srow (aX m c) (aCt m c) (aCr m c) ((y 0).val / 2048) ⟨(y 1).val / 128 % 8, Nat.mod_lt _ (by norm_num)⟩ ((y 0).val % 2048)) ((y 0).val / 512 % 4 + 1))

theorem final : (dats m 0 c).arrAt 5 (cfgs 0).N = outArr m c := by
  refine (dats m 0 c).arrAt_eq_of_covers 5 _ (by decide +kernel) fun t hf y => ?_
  have hN : t.val < 64 := Nat.lt_of_lt_of_eq t.isLt N_0
  have hy0 : (y 0).val < 512 := (y 0).isLt
  have hy1 : (y 1).val < 1024 := (y 1).isLt
  blk_simp
  rw [after_5]
  have e0 : ((((cfg0.win 5).blk t).view.emb y) 0 : ℕ) = (t.val / 16 * 4 + t.val / 4 % 4) * 512 + (y 0).val := by
    blk_simp [idx5 t]
  have e1 : ((((cfg0.win 5).blk t).view.emb y) 1 : ℕ) = (y 1).val := by
    blk_simp [idx5 t]
  unfold outArr outBlk
  simp only [e0, e1]
  have f1 : ((t.val / 16 * 4 + t.val / 4 % 4) * 512 + (y 0).val) / 2048 = t.val / 16 := by omega
  have f2 : ((t.val / 16 * 4 + t.val / 4 % 4) * 512 + (y 0).val) % 2048 = 512 * (t.val / 4 % 4) + (y 0).val := by omega
  have f3 : ((t.val / 16 * 4 + t.val / 4 % 4) * 512 + (y 0).val) / 512 % 4 = t.val / 4 % 4 := by omega
  rw [f1, f2, f3]

end Cert.KernelIdeal.Attn

end
-- ==== Proof.Attn.RefRead.lean ====
module

public import proofs.«01_k».proof.Proof.Gen.ReferenceIdeal.Run
public import proofs.«01_k».proof.Proof.Attn.Frame
public import Idealize.ShloMosaic.Lib.Pointwise

/-! The reference's attention, read at an index. -/

@[expose] public section

set_option maxRecDepth 16384

noncomputable section

namespace Cert.ReferenceIdeal.Attn

open Cert.ReferenceIdeal Cert.ReferenceIdeal.Gen Cert.ReferenceIdeal.Value
open Idealize.ShloMosaic Idealize.ShloMosaic.TcCoe Idealize.ShloMosaic.Tactic
open Cert.KernelIdeal.Attn (tok lane seqn key hcol srow vcol logit negInf)

/-- The masked scores of the reference. -/
def scoreT (X : FVec Ideal S8192x17664 .f32) (Ct : FVec Ideal S8192x128 .f32) (Cr : FVec Ideal S4x128x2048 .f32) : FVec Ideal S4x8x2048x2048 .f32 :=
  select (broadcastInDim S4x8x2048x2048 ![2, 3] bcast_S2048x2048_S4x8x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (subf (addf (mulf (Host.dotGeneral dot_S4x2048x8x128_S4x2048x8x128_S4x8x2048x2048_3_3_1_1_02_02 none (truncf .bf16 (shapeCast _ (extractStridedSlice S8192x1024 ![0, 6144] X slices_S8192x17664_S8192x1024_0_6144) shapeCasts_S8192x1024_S4x2048x8x128) bitsLt_bf16_f32) (truncf .bf16 (shapeCast _ (extractStridedSlice S8192x1024 ![0, 7168] X slices_S8192x17664_S8192x1024_0_7168) shapeCasts_S8192x1024_S4x2048x8x128) bitsLt_bf16_f32)) (broadcastInDim S4x8x2048x2048 ![] bcast_S_S4x8x2048x2048 (constant S_ .f32 0x3DB504F3#32))) (broadcastInDim S4x8x2048x2048 ![0, 1, 2, 3] bcast_S4x8x2048x1_S4x8x2048x2048_0_1_2_3 (broadcastInDim S4x8x2048x1 ![0, 1, 2] bcast_S4x8x2048_S4x8x2048x1_0_1_2 (transpose S4x8x2048 [0, 2, 1] (shapeCast _ (extractStridedSlice S8192x8 ![0, 0] Ct slices_S8192x128_S8192x8_0_0) shapeCasts_S8192x8_S4x2048x8) transposes_S4x2048x8_S4x8x2048_0_2_1)))) (broadcastInDim S4x8x2048x2048 ![0, 1, 2, 3] bcast_S4x8x1x2048_S4x8x2048x2048_0_1_2_3 (broadcastInDim S4x8x1x2048 ![0, 1, 3] bcast_S4x8x2048_S4x8x1x2048_0_1_3 (extractStridedSlice S4x8x2048 ![0, 0, 0] Cr slices_S4x128x2048_S4x8x2048_0_0_0)))) (broadcastInDim S4x8x2048x2048 ![] bcast_S_S4x8x2048x2048 (id (constant S_ .f32 0xFF800000#32)))

/-- The softmax over the last axis, from the maxima. -/
def softM (S : FVec Ideal S4x8x2048x2048 .f32) (M : FVec Ideal S4x8x2048 .f32) : FVec Ideal S4x8x2048x2048 .f32 :=
  Host.divf (Host.exp (subf S (broadcastInDim S4x8x2048x2048 ![0, 1, 2, 3] bcast_S4x8x2048x1_S4x8x2048x2048_0_1_2_3 (broadcastInDim S4x8x2048x1 ![0, 1, 2] bcast_S4x8x2048_S4x8x2048x1_0_1_2 (maximumf (broadcastInDim S4x8x2048 ![] bcast_S_S4x8x2048 (constant S_ .f32 0xFF800000#32)) M))))) (broadcastInDim S4x8x2048x2048 ![0, 1, 2, 3] bcast_S4x8x2048x1_S4x8x2048x2048_0_1_2_3 (broadcastInDim S4x8x2048x1 ![0, 1, 2] bcast_S4x8x2048_S4x8x2048x1_0_1_2 (Host.reduceAdd (Host.exp (subf S (broadcastInDim S4x8x2048x2048 ![0, 1, 2, 3] bcast_S4x8x2048x1_S4x8x2048x2048_0_1_2_3 (broadcastInDim S4x8x2048x1 ![0, 1, 2] bcast_S4x8x2048_S4x8x2048x1_0_1_2 (maximumf (broadcastInDim S4x8x2048 ![] bcast_S_S4x8x2048 (constant S_ .f32 0xFF800000#32)) M))))) (constant S_ .f32 0x00000000#32) reducesTo_S4x8x2048x2048_S4x8x2048_d3 h_S_)))

/-- The softmax over the last axis. -/
def softT (S : FVec Ideal S4x8x2048x2048 .f32) : FVec Ideal S4x8x2048x2048 .f32 :=
  softM S (Host.reduce FloatOps.maximumf S (constant S_ .f32 0xFF800000#32) reducesTo_S4x8x2048x2048_S4x8x2048_d3 h_S_)

/-- The weighted sums of the values. -/
def outT (X : FVec Ideal S8192x17664 .f32) (P : FVec Ideal S4x8x2048x2048 .f32) : FVec Ideal S8192x1024 .bf16 :=
  truncf .bf16 (shapeCast _ (transpose S4x2048x8x128 [0, 3, 1, 2] (Host.dotGeneral dot_S4x2048x8x128_S4x8x2048x2048_S4x8x128x2048_1_3_3_2_02_01 none (truncf .bf16 (shapeCast _ (extractStridedSlice S8192x1024 ![0, 8192] X slices_S8192x17664_S8192x1024_0_8192) shapeCasts_S8192x1024_S4x2048x8x128) bitsLt_bf16_f32) (truncf .bf16 P bitsLt_bf16_f32)) transposes_S4x8x128x2048_S4x2048x8x128_0_3_1_2) shapeCasts_S4x2048x8x128_S8192x1024) bitsLt_bf16_f32

theorem res_eq (m : (ℓ : Loc nD τ sig) → Buf (Elt Ideal) ℓ) (c : Dev nD) :
    res_main_v44 (F := Ideal) m c = outT (m ((c.tc : Thread nD τ).loc main_arg0))
      (softT (scoreT (m ((c.tc : Thread nD τ).loc main_arg0)) (m ((c.tc : Thread nD τ).loc main_arg1)) (m ((c.tc : Thread nD τ).loc main_arg2)))) := rfl

/-- A maximum over the last axis. -/
theorem max_at (S : FVec Ideal S4x8x2048x2048 .f32) (b : Fin 4) (h : Fin 8) (q : Fin 2048) :
    Host.reduce FloatOps.maximumf S (constant S_ .f32 0xFF800000#32) reducesTo_S4x8x2048x2048_S4x8x2048_d3 h_S_ (ix3 b h q)
      = Finset.univ.fold max (⊥ : EReal) fun k : Fin 2048 => S (ix4 b h q k) := by
  have hr : S4x8x2048x2048.Reduces [3] S4x8x2048 := ⟨rfl, by decide, reducesTo_S4x8x2048x2048_S4x8x2048_d3.2⟩
  refine (Host.reduce_eq_fold_single FloatOps.maximumf S _ reducesTo_S4x8x2048x2048_S4x8x2048_d3 hr h_S_ (ix3 b h q)).trans ?_
  have hf : (S ∘ hr.lift (ix3 b h q)) = fun k : Fin 2048 => S (ix4 b h q k) := by
    funext k
    refine congrArg S (funext fun a => ?_)
    fin_cases a <;> rfl
  rw [hf]
  rfl

theorem out_at (X : FVec Ideal S8192x17664 .f32) (P : FVec Ideal S4x8x2048x2048 .f32) (b : Fin 4) (q : Fin 2048) (h : Fin 8) (d : Fin 128) :
    outT X P (ix2 ⟨2048 * b.val + q.val, by omega⟩ ⟨128 * h.val + d.val, by omega⟩)
      = ∑ x : Fin 2048, vcol X b.val h d x.val * P (ix4 b h q x) := by
  unfold outT
  pointwise
  refine Finset.sum_congr rfl fun x _ => ?_
  unfold vcol
  congr 1
  · refine congrArg X (funext (Fin.forall_fin_two.mpr ⟨Fin.ext ?_, Fin.ext ?_⟩))
    · show b.val * 2048 + x.val = (2048 * b.val + x.val) % 8192
      omega
    · show 8192 + (h.val * 128 + d.val) = (8192 + (128 * h.val + d.val)) % 17664
      omega

theorem softM_at (S : FVec Ideal S4x8x2048x2048 .f32) (M : FVec Ideal S4x8x2048 .f32) (b : Fin 4) (h : Fin 8) (q k : Fin 2048) :
    softM S M (ix4 b h q k) = Ideal.div (Ideal.exp (S (ix4 b h q k) - max ⊥ (M (ix3 b h q))))
      (∑ x : Fin 2048, Ideal.exp (S (ix4 b h q x) - max ⊥ (M (ix3 b h q)))) := by
  unfold softM
  pointwise
  try rw [Cert.KernelIdeal.Attn.negInf]

theorem soft_at (S : FVec Ideal S4x8x2048x2048 .f32) (b : Fin 4) (h : Fin 8) (q k : Fin 2048) :
    softT S (ix4 b h q k) = Ideal.div (Ideal.exp (S (ix4 b h q k) - Finset.univ.fold max (⊥ : EReal) fun k : Fin 2048 => S (ix4 b h q k)))
      (∑ x : Fin 2048, Ideal.exp (S (ix4 b h q x) - Finset.univ.fold max (⊥ : EReal) fun k : Fin 2048 => S (ix4 b h q k))) := by
  unfold softT
  rw [softM_at, max_at, max_eq_right bot_le]

theorem score_at (X : FVec Ideal S8192x17664 .f32) (Ct : FVec Ideal S8192x128 .f32) (Cr : FVec Ideal S4x128x2048 .f32) (b : Fin 4) (h : Fin 8) (q k : Fin 2048) :
    scoreT X Ct Cr (ix4 b h q k) = srow X Ct Cr b.val h q.val k.val := by
  unfold scoreT
  pointwise
  have hq := q.isLt
  have hk := k.isLt
  have hc : IntOp.cmpi CmpIPredicate.sge (BitVec.ofNat 32 q.val) (BitVec.ofNat 32 k.val) = 1#1 ↔ k.val ≤ q.val := by
    word_cmp
  unfold srow Scalar.select
  by_cases h1 : k.val ≤ q.val
  · rw [if_pos h1]
    refine (if_pos (hc.mpr h1)).trans ?_
    unfold logit
    have e0 : (⟨b.val * 2048 + q.val, by omega⟩ : Fin 8192) = tok (2048 * b.val + q.val) := Fin.ext (by show _ = (2048 * b.val + q.val) % 8192; dsimp only; omega)
    have e1 : (⟨b.val * 2048 + k.val, by omega⟩ : Fin 8192) = tok (2048 * b.val + k.val) := Fin.ext (by show _ = (2048 * b.val + k.val) % 8192; dsimp only; omega)
    have e2 : ∀ x : Fin 128, (⟨6144 + (h.val * 128 + x.val), by omega⟩ : Fin 17664) = lane (6144 + (128 * h.val + x.val)) := fun x =>
      Fin.ext (by show _ = (6144 + (128 * h.val + x.val)) % 17664; dsimp only; omega)
    have e3 : ∀ x : Fin 128, (⟨7168 + (h.val * 128 + x.val), by omega⟩ : Fin 17664) = lane (7168 + (128 * h.val + x.val)) := fun x =>
      Fin.ext (by show _ = (7168 + (128 * h.val + x.val)) % 17664; dsimp only; omega)
    have e4 : b = seqn b.val := Fin.ext (by show b.val = b.val % 4; omega)
    have e5 : k = key k.val := Fin.ext (by show k.val = k.val % 2048; omega)
    simp only [e0, e1, e2, e3]
    rw [← e4, ← e5]
  · rw [if_neg h1]
    refine (if_neg (fun h => h1 (hc.mp h))).trans ?_
    exact Cert.KernelIdeal.Attn.negInf

end Cert.ReferenceIdeal.Attn

end
-- ==== Proof.Attn.Equal.lean ====
module

public import proofs.«01_k».proof.Proof.Attn.RefRead
public import proofs.«01_k».proof.Pre_finite_scores

/-! With finite scores the array the kernel leaves is the reference's. -/

@[expose] public section

set_option maxRecDepth 16384

noncomputable section

namespace Cert.ReferenceIdeal.Attn

open Cert.ReferenceIdeal Cert.ReferenceIdeal.Gen Cert.ReferenceIdeal.Value
open Idealize.ShloMosaic Idealize.ShloMosaic.TcCoe Idealize.ShloMosaic.Tactic
open Cert.KernelIdeal.Attn (tok lane seqn key hcol srow vcol logit negInf scale)
open Cert.KernelIdeal.Softmax

/-- Neither infinity. -/
def Real1 (x : EReal) : Prop := x ≠ ⊥ ∧ x ≠ ⊤

theorem Real1.coe {x : EReal} (h : Real1 x) : ∃ r : ℝ, x = (r : EReal) := ⟨x.toReal, (EReal.coe_toReal h.2 h.1).symm⟩
theorem real1_coe (r : ℝ) : Real1 (r : EReal) := ⟨EReal.coe_ne_bot r, EReal.coe_ne_top r⟩
theorem Real1.mul {x y : EReal} (hx : Real1 x) (hy : Real1 y) : Real1 (x * y) := by
  obtain ⟨a, rfl⟩ := hx.coe
  obtain ⟨b, rfl⟩ := hy.coe
  rw [← EReal.coe_mul]; exact real1_coe _
theorem Real1.add {x y : EReal} (hx : Real1 x) (hy : Real1 y) : Real1 (x + y) := by
  obtain ⟨a, rfl⟩ := hx.coe
  obtain ⟨b, rfl⟩ := hy.coe
  rw [← EReal.coe_add]; exact real1_coe _
theorem Real1.sub {x y : EReal} (hx : Real1 x) (hy : Real1 y) : Real1 (x - y) := by
  obtain ⟨a, rfl⟩ := hx.coe
  obtain ⟨b, rfl⟩ := hy.coe
  rw [← EReal.coe_sub]; exact real1_coe _
theorem Real1.sum {ι : Type} (t : Finset ι) (f : ι → EReal) (h : ∀ i, Real1 (f i)) : Real1 (∑ i ∈ t, f i) :=
  Finset.sum_induction f Real1 (fun _ _ ha hb => ha.add hb) (real1_coe 0) fun i _ => h i

theorem scale_real : Real1 scale := by
  have e : scale = ((11863283 : ℝ) : EReal) * (((2 ^ 27)⁻¹ : ℝ) : EReal) := by simp [scale, Ideal.ofBits, Ideal.ieee]
  rw [e]
  exact (real1_coe _).mul (real1_coe _)

theorem posInf : Ideal.ofBits FTy.f32 0x7F800000#32 = (⊤ : EReal) := by
  simp [Ideal.ofBits, Ideal.ieee]

/-- The printed comparison with both infinities. -/
theorem real1_of {x : EReal} (h : IntOp.andi (BitVec.ofBool (decide (Ideal.ofBits FTy.f32 0xFF800000#32 < x))) (BitVec.ofBool (decide (x < Ideal.ofBits FTy.f32 0x7F800000#32))) = 1#1) :
    Real1 x := by
  rw [negInf, posInf] at h
  constructor
  · rintro rfl
    simp [IntOp.andi] at h
  · rintro rfl
    simp [IntOp.andi] at h

/-- The queries, the keys and the running sums hold no infinity. -/
structure Finite (X : FVec Ideal S8192x17664 .f32) (Ct : FVec Ideal S8192x128 .f32) (Cr : FVec Ideal S4x128x2048 .f32) : Prop where
  x : ∀ (n : Fin 8192) (k : ℕ), k < 2048 → Real1 (X (ix2 n (lane (6144 + k))))
  ct : ∀ (n : Fin 8192) (h : Fin 8), Real1 (Ct (ix2 n (hcol h)))
  cr : ∀ (b : Fin 4) (h : Fin 8) (k : Fin 2048), Real1 (Cr (ix3 b (hcol h) k))

variable {X : FVec Ideal S8192x17664 .f32} {Ct : FVec Ideal S8192x128 .f32} {Cr : FVec Ideal S4x128x2048 .f32}

theorem logit_real (H : Finite X Ct Cr) (b : ℕ) (h : Fin 8) (R k : ℕ) : Real1 (logit X Ct Cr b h R k) := by
  unfold logit
  refine Real1.sub (Real1.add (Real1.mul (Real1.sum _ _ fun d => Real1.mul ?_ ?_) scale_real) (H.ct _ _)) (H.cr _ _ _)
  · exact H.x _ (128 * h.val + d.val) (by omega)
  · have := H.x (tok (2048 * b + k)) (1024 + (128 * h.val + d.val)) (by omega)
    have e : 6144 + (1024 + (128 * h.val + d.val)) = 7168 + (128 * h.val + d.val) := by omega
    rw [e] at this
    exact this

theorem srow_zero (H : Finite X Ct Cr) (b : ℕ) (h : Fin 8) (R : ℕ) : srow X Ct Cr b h R 0 ≠ ⊥ := by
  unfold srow
  rw [if_pos (Nat.zero_le _)]
  exact (logit_real H b h R 0).1

theorem srow_ne_top (H : Finite X Ct Cr) (b : ℕ) (h : Fin 8) (R k : ℕ) : srow X Ct Cr b h R k ≠ ⊤ := by
  unfold srow
  split
  · exact (logit_real H b h R k).2
  · exact bot_ne_top

/-- The maximum over 2048 keys. -/
theorem fold_top (s : ℕ → EReal) : (Finset.univ.fold max (⊥ : EReal) fun k : Fin 2048 => s k.val) = top s 4 := by
  show (Finset.univ : Finset (Fin 2048)).sup (fun k => s k.val) = (Finset.range (512 * 4)).sup s
  apply le_antisymm
  · exact Finset.sup_le fun k _ => Finset.le_sup (f := s) (Finset.mem_range.mpr k.isLt)
  · refine Finset.sup_le fun k hk => ?_
    exact Finset.le_sup (f := fun k : Fin 2048 => s k.val) (Finset.mem_univ ⟨k, Finset.mem_range.mp hk⟩)

/-- The reference's result as a plain softmax. -/
theorem ref_at (b : Fin 4) (q : Fin 2048) (h : Fin 8) (d : Fin 128) :
    outT X (softT (scoreT X Ct Cr)) (ix2 ⟨2048 * b.val + q.val, by omega⟩ ⟨128 * h.val + d.val, by omega⟩)
      = ∑ k ∈ Finset.range (512 * 4), Ideal.div (Ideal.exp (srow X Ct Cr b.val h q.val k - top (srow X Ct Cr b.val h q.val) 4)) (den (srow X Ct Cr b.val h q.val) 4)
          * vcol X b.val h d k := by
  rw [out_at]
  simp only [soft_at, score_at]
  rw [fold_top (srow X Ct Cr b.val h q.val)]
  unfold den
  rw [Finset.sum_range, Finset.sum_range]
  exact Finset.sum_congr rfl fun x _ => mul_comm _ _

/-- The kernel's quotient is the plain softmax's weighted sum. -/
theorem quotient_eq (H : Finite X Ct Cr) (b : Fin 4) (q : Fin 2048) (h : Fin 8) (d : Fin 128) :
    Ideal.div (runA (srow X Ct Cr b.val h q.val) (vcol X b.val h d) (q.val / 512 + 1)) (runL (srow X Ct Cr b.val h q.val) (q.val / 512 + 1))
      = outT X (softT (scoreT X Ct Cr)) (ix2 ⟨2048 * b.val + q.val, by omega⟩ ⟨128 * h.val + d.val, by omega⟩) := by
  have hq := q.isLt
  obtain ⟨-, e2, e3⟩ := run_eq (srow_zero H b.val h q.val) (srow_ne_top H b.val h q.val) (vcol X b.val h d) (q.val / 512 + 1)
  rw [e2, e3, softmax_eq (srow_zero H b.val h q.val) (srow_ne_top H b.val h q.val) (vcol X b.val h d) (q.val / 512 + 1) 4 (by omega) (by omega)
    (fun k hk => by unfold srow; rw [if_neg (by omega)]), ref_at]

/-- The precondition's shapes fit. -/
theorem preFacts : Cert.Pre_finite_scores.Facts where
  slices_S8192x17664_S8192x2048_0_6144 := by decide
  slices_S8192x128_S8192x8_0_0 := by decide
  slices_S4x128x2048_S4x8x2048_0_0_0 := by decide
  bcast_S_S8192x2048 := by decide
  bcast_S_S8192x8 := by decide
  bcast_S_S4x8x2048 := by decide

/-- The precondition as printed, read. -/
theorem finite_of [Cert.Pre_finite_scores.Facts] (h1 : (Cert.Pre_finite_scores.fn (F := Ideal) X Ct Cr).1 = fun _ => 1#1)
    (h2 : (Cert.Pre_finite_scores.fn (F := Ideal) X Ct Cr).2.1 = fun _ => 1#1)
    (h3 : (Cert.Pre_finite_scores.fn (F := Ideal) X Ct Cr).2.2 = fun _ => 1#1) : Finite X Ct Cr := by
  dsimp only [Cert.Pre_finite_scores.fn] at h1 h2 h3
  refine ⟨fun n k hk => ?_, fun n h => ?_, fun b h k => ?_⟩
  · have := congrFun h1 (ix2 n ⟨k, hk⟩)
    pointwise at this
    have e : (⟨6144 + k, by omega⟩ : Fin 17664) = lane (6144 + k) := Fin.ext (by show 6144 + k = (6144 + k) % 17664; omega)
    rw [e] at this
    exact real1_of this
  · have := congrFun h2 (ix2 n h)
    pointwise at this
    exact real1_of this
  · have := congrFun h3 (ix3 b h k)
    pointwise at this
    exact real1_of this

end Cert.ReferenceIdeal.Attn

end
-- ==== Proof.Attn.Claims.lean ====
/- The statements about the attention call: its frame, its reference's frame, and that the two leave the same array. -/
module

public import proofs.«01_k».proof.Defs
public import proofs.«01_k».proof.Proof.Attn.Frame
public import proofs.«01_k».proof.Proof.Attn.Equal
public import proofs.«01_k».proof.Proof.Gen.ReferenceIdeal.Run
public import Idealize.ShloMosaic.Adequacy
public import Idealize.ShloMosaic.Init
public import Idealize.ShloMosaic.Lib.Claim

@[expose] public section

noncomputable section

namespace Cert.Proof.Attn

open Idealize.ShloMosaic Idealize.SL.Sem

/-- The kernel's result array is the reference's, for arguments that agree and whose keys, prefixes of the gates are real. -/
theorem arrays_eq (m : (ℓ : Loc Cert.KernelIdeal.nD Cert.KernelIdeal.τ Cert.KernelIdeal.sig) → Buf (Elt Ideal) ℓ)
    (c : Dev Cert.KernelIdeal.nD)
    (H : Cert.ReferenceIdeal.Attn.Finite (Cert.KernelIdeal.Attn.aX m c) (Cert.KernelIdeal.Attn.aCt m c) (Cert.KernelIdeal.Attn.aCr m c)) :
    Cert.KernelIdeal.Attn.outArr m c
      = Cert.ReferenceIdeal.Attn.outT (Cert.KernelIdeal.Attn.aX m c)
          (Cert.ReferenceIdeal.Attn.softT (Cert.ReferenceIdeal.Attn.scoreT (Cert.KernelIdeal.Attn.aX m c) (Cert.KernelIdeal.Attn.aCt m c) (Cert.KernelIdeal.Attn.aCr m c))) := by
  funext y
  have h0 : (y 0).val < 8192 := (y 0).isLt
  have h1 : (y 1).val < 1024 := (y 1).isLt
  have key := Cert.ReferenceIdeal.Attn.quotient_eq H ⟨(y 0).val / 2048, by omega⟩ ⟨(y 0).val % 2048, by omega⟩
    ⟨(y 1).val / 128, by omega⟩ ⟨(y 1).val % 128, by omega⟩
  have ey : y = ix2 (⟨2048 * ((y 0).val / 2048) + (y 0).val % 2048, by omega⟩ : Fin 8192)
      (⟨128 * ((y 1).val / 128) + (y 1).val % 128, by omega⟩ : Fin 1024) := by
    refine (eq_ix2 y).trans ?_
    congr 1
    · exact Fin.ext (by show (y 0).val = 2048 * ((y 0).val / 2048) + (y 0).val % 2048; omega)
    · exact Fin.ext (by show (y 1).val = 128 * ((y 1).val / 128) + (y 1).val % 128; omega)
  have eh : (⟨(y 1).val / 128 % 8, Nat.mod_lt _ (by norm_num)⟩ : Fin 8) = ⟨(y 1).val / 128, by omega⟩ :=
    Fin.ext (by show (y 1).val / 128 % 8 = (y 1).val / 128; omega)
  have en : (y 0).val / 512 % 4 + 1 = (y 0).val % 2048 / 512 + 1 := by omega
  refine Eq.trans ?_ (key.trans (congrArg _ ey.symm))
  unfold Cert.KernelIdeal.Attn.outArr
  rw [eh, en]

/-- The idealized attention leaves its arguments and every counter as they were. -/
theorem frame_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  θ_run_and (Cert.KernelIdeal.Gen.frame_of m g (Cert.KernelIdeal.Attn.dats m) (Cert.KernelIdeal.Attn.A_eq m) (Cert.KernelIdeal.Attn.run_main m g))
    ((θ_run _ _ _).mono (fun _ h => h.2) (Cert.KernelIdeal.Attn.run_main_quiescent m g))

/-- The reference leaves its arguments and every counter as they were. -/
theorem frame_ref : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The attention and its reference leave the same array. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.ReferenceIdeal.Attn.preFacts) := by
  intro m g m' g' hpre hagree
  haveI := Cert.ReferenceIdeal.Attn.preFacts
  refine ⟨fun c => Cert.KernelIdeal.Attn.outArr m c, ?_, ?_⟩
  · refine (θ_run _ _ _).mono (fun r h c => ?_) (θ_run_and (Cert.KernelIdeal.Attn.run_main m g) (frame_ideal m g))
    exact ⟨((h.1 c).1 5).trans (Cert.KernelIdeal.Attn.final m c), h.2.1 c⟩
  · refine (θ_run _ _ _).mono (fun r h c => ⟨(h c).1.trans ?_, (h c).2⟩) (Cert.ReferenceIdeal.Value.run (F := Ideal) m' g')
    obtain ⟨a0, a1, a2⟩ := hagree c
    obtain ⟨p0, p1, p2⟩ := hpre c
    refine (Cert.ReferenceIdeal.Attn.res_eq m' c).trans ?_
    rw [a0, a1, a2]
    exact (arrays_eq m c (Cert.ReferenceIdeal.Attn.finite_of p0 p1 p2)).symm

end Cert.Proof.Attn

end
-- ==== Proof.Bits.Frame.lean ====
module

public import proofs.«01_k».proof.Proof.Bits.Runs

/-! The attention kernel's launch, whatever its values: the body runs at every point, and the arguments end as they were. -/

@[expose] public section

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer held at some contents is owned at the value its view reads there. -/
theorem held_any (c : Dev nD) {s : Shape} {e : EltTy} (M : Memref sig .tc .vmem s e) (f : Buf (Elt F) (M.view.loc (c : Thread nD τ))) :
    (M.view.loc (c : Thread nD τ) ↦[M.view.set]{fullShare} f : sProp 𝕄) ⊢ iprop(∃ d, owns (c : Thread nD τ) M fullShare d) := by
  unfold owns
  iintro H
  iexists (M.view.read (Elt F) f)
  iexists f
  isplitr
  · ipureintro; rfl
  iexact H

section Body

variable (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x128x512 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S512x1024 .f32) (harg11 : arg11.IsWhole)

/-- The first part, at any point. -/
theorem init_any (E : Set ℕ) (K : PUnit → sProp 𝕄) :
    iprop((∃ d, owns (c : Thread nD τ) arg9 fullShare d) ∗ (∃ d, owns (c : Thread nD τ) arg10 fullShare d) ∗ (∃ d, owns (c : Thread nD τ) arg11 fullShare d)
        ∗ (iprop((∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E
          (if _h : isFirst i then initPart i arg3 harg3 arg4 harg4 arg5 harg5 arg6 harg6 arg7 harg7 arg8 harg8 arg9 harg9 arg10 harg10 arg11 harg11 else pure ⟨⟩) K := by
  by_cases hc : isFirst i
  · rw [dif_pos hc]
    iintro ⟨⟨%m, H9⟩, ⟨%l, H10⟩, ⟨%a, H11⟩, Hk⟩
    iapply (initRun (F := F) c i arg3 harg3 arg4 harg4 arg5 harg5 arg6 harg6 arg7 harg7 arg8 harg8 arg9 harg9 arg10 harg10 arg11 harg11 m l a).2.2.2 E K
    isplitl [H9]; · iexact H9
    isplitl [H10]; · iexact H10
    isplitl [H11]; · iexact H11
    iintro ⟨⟨%f0, H9⟩, ⟨%f1, H10⟩, ⟨%f2, H11⟩⟩
    iapply Hk
    isplitl [H9]
    · iapply (held_any c _ _); iexact H9
    isplitl [H10]
    · iapply (held_any c _ _); iexact H10
    iapply (held_any c _ _); iexact H11
  · rw [dif_neg hc]
    iintro ⟨H9, H10, H11, Hk⟩
    sl_step
    iapply Hk
    isplitl [H9]; · iexact H9
    isplitl [H10]; · iexact H10
    iexact H11

/-- The second part, at any point. -/
theorem update_any (x0 x1 x2 : Vec F S512x1024 .f32) (x3 : Vec F S512x128 .f32) (x4 : Vec F S1x128x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E
          (if _h : isVisible i then updatePart i arg3 harg3 arg4 harg4 arg5 harg5 arg6 harg6 arg7 harg7 arg8 harg8 arg9 harg9 arg10 harg10 arg11 harg11 else pure ⟨⟩) K := by
  by_cases hc : isVisible i
  · rw [dif_pos hc]
    iintro ⟨H3, H4, H5, H6, H7, ⟨%m, H9⟩, ⟨%l, H10⟩, ⟨%a, H11⟩, Hk⟩
    iapply (updateRun (F := F) c i arg3 harg3 arg4 harg4 arg5 harg5 arg6 harg6 arg7 harg7 arg8 harg8 arg9 harg9 arg10 harg10 arg11 harg11 x0 x1 x2 x3 x4 m l a).2.2.2 E K
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    iintro ⟨H3, H4, H5, H6, H7, H9, H10, H11⟩
    iapply Hk
    isplitl [H3]; · iexact H3
    isplitl [H4]; · iexact H4
    isplitl [H5]; · iexact H5
    isplitl [H6]; · iexact H6
    isplitl [H7]; · iexact H7
    isplitl [H9]
    · iapply (held_any c _ _); iexact H9
    isplitl [H10]
    · iapply (held_any c _ _); iexact H10
    iapply (held_any c _ _); iexact H11
  · rw [dif_neg hc]
    iintro ⟨H3, H4, H5, H6, H7, H9, H10, H11, Hk⟩
    sl_step
    iapply Hk
    isplitl [H3]; · iexact H3
    isplitl [H4]; · iexact H4
    isplitl [H5]; · iexact H5
    isplitl [H6]; · iexact H6
    isplitl [H7]; · iexact H7
    isplitl [H9]; · iexact H9
    isplitl [H10]; · iexact H10
    iexact H11

/-- The third part, at any point. -/
theorem final_any (E : Set ℕ) (K : PUnit → sProp 𝕄) :
    iprop((∃ d, owns (c : Thread nD τ) arg8 fullShare d) ∗ (∃ d, owns (c : Thread nD τ) arg10 fullShare d) ∗ (∃ d, owns (c : Thread nD τ) arg11 fullShare d)
        ∗ (iprop((∃ d, owns (c : Thread nD τ) arg8 fullShare d) ∗ (∃ d, owns (c : Thread nD τ) arg10 fullShare d) ∗ (∃ d, owns (c : Thread nD τ) arg11 fullShare d)) -∗ K ⟨⟩))
      ⊢ wp frame (wpE (defs₀ (F := F)) Variants.none c none) E
          (if _h : isDiagonal i then finalPart i arg3 harg3 arg4 harg4 arg5 harg5 arg6 harg6 arg7 harg7 arg8 harg8 arg9 harg9 arg10 harg10 arg11 harg11 else pure ⟨⟩) K := by
  by_cases hc : isDiagonal i
  · rw [dif_pos hc]
    iintro ⟨H8, ⟨%l, H10⟩, ⟨%a, H11⟩, Hk⟩
    iapply (finalRun (F := F) c i arg3 harg3 arg4 harg4 arg5 harg5 arg6 harg6 arg7 harg7 arg8 harg8 arg9 harg9 arg10 harg10 arg11 harg11 l a).2 E K
    isplitl [H8]; · iexact H8
    isplitl [H10]; · iexact H10
    isplitl [H11]; · iexact H11
    iintro ⟨⟨%f, H8⟩, H10, H11⟩
    iapply Hk
    isplitl [H8]
    · iapply (held_any c _ _); iexact H8
    isplitl [H10]; · iexists _; iexact H10
    iexists _; iexact H11
  · rw [dif_neg hc]
    iintro ⟨H8, H10, H11, Hk⟩
    sl_step
    iapply Hk
    isplitl [H8]; · iexact H8
    isplitl [H10]; · iexact H10
    iexact H11

/-- The body is the three parts in sequence. -/
theorem body_seq : cc0_fox_attn_prompt (F := F) i arg3 harg3 arg4 harg4 arg5 harg5 arg6 harg6 arg7 harg7 arg8 harg8 arg9 harg9 arg10 harg10 arg11 harg11
    = ((if _h : isFirst i then initPart i arg3 harg3 arg4 harg4 arg5 harg5 arg6 harg6 arg7 harg7 arg8 harg8 arg9 harg9 arg10 harg10 arg11 harg11 else pure ⟨⟩) >>= fun _ =>
      (if _h : isVisible i then updatePart i arg3 harg3 arg4 harg4 arg5 harg5 arg6 harg6 arg7 harg7 arg8 harg8 arg9 harg9 arg10 harg10 arg11 harg11 else pure ⟨⟩) >>= fun _ =>
        (if _h : isDiagonal i then finalPart i arg3 harg3 arg4 harg4 arg5 harg5 arg6 harg6 arg7 harg7 arg8 harg8 arg9 harg9 arg10 harg10 arg11 harg11 else pure ⟨⟩)) := by
  rw [body_eq]
  by_cases h1 : isFirst i
  · rw [dif_pos h1, dif_pos h1]
    by_cases h2 : isVisible i
    · rw [dif_pos h2, dif_pos h2]
    · rw [dif_neg h2, dif_neg h2]; rfl
  · rw [dif_neg h1, dif_neg h1]
    by_cases h2 : isVisible i
    · rw [dif_pos h2, dif_pos h2]; rfl
    · rw [dif_neg h2, dif_neg h2]; rfl

/-- The whole body, at any point. -/
theorem body_any (x0 x1 x2 : Vec F S512x1024 .f32) (x3 : Vec F S512x128 .f32) (x4 : Vec F S1x128x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_fox_attn_prompt i arg3 harg3 arg4 harg4 arg5 harg5 arg6 harg6 arg7 harg7 arg8 harg8 arg9 harg9 arg10 harg10 arg11 harg11) K := by
  rw [body_seq, wp_bind]
  iintro ⟨H3, H4, H5, H6, H7, H8, H9, H10, H11, Hk⟩
  iapply init_any c i arg3 harg3 arg4 harg4 arg5 harg5 arg6 harg6 arg7 harg7 arg8 harg8 arg9 harg9 arg10 harg10 arg11 harg11 E _
  isplitl [H9]; · iexact H9
  isplitl [H10]; · iexact H10
  isplitl [H11]; · iexact H11
  iintro ⟨H9, H10, H11⟩
  rw [wp_bind]
  iapply update_any c i arg3 harg3 arg4 harg4 arg5 harg5 arg6 harg6 arg7 harg7 arg8 harg8 arg9 harg9 arg10 harg10 arg11 harg11 x0 x1 x2 x3 x4 E _
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  iintro ⟨H3, H4, H5, H6, H7, H9, H10, H11⟩
  iapply final_any c i arg3 harg3 arg4 harg4 arg5 harg5 arg6 harg6 arg7 harg7 arg8 harg8 arg9 harg9 arg10 harg10 arg11 harg11 E _
  isplitl [H8]; · iexact H8
  isplitl [H10]; · iexact H10
  isplitl [H11]; · iexact H11
  iintro ⟨H8, H10, H11⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Body

section Launch

variable (m : (ℓ : Loc nD τ sig) → Buf (Elt F) ℓ) (ρ : Dev nD → PrngReg) (c : Dev nD)

/-- The one output window, whose contents nothing here names. -/
def forgets : Fin cfg0.W → Bool := fun w => decide (w.val = 5)

/-- The launch's scratch buffers as owned at some contents. -/
theorem PhiA_eq : (Pipeline.ΦA spec0 c : sProp 𝕄)
      = iprop(iprop((∃ d, owns (c : Thread nD τ) (Memref.whole cc0_scratch0 : Memref sig .tc .vmem S512x128 .f32) fullShare d)
        ∗ (∃ d, owns (c : Thread nD τ) (Memref.whole cc0_scratch1 : Memref sig .tc .vmem S512x128 .f32) fullShare d)
        ∗ (∃ d, owns (c : Thread nD τ) (Memref.whole cc0_scratch2 : Memref sig .tc .vmem S512x1024 .f32) fullShare d)) ∗ (∃ r, prngReg c r)) := by
  unfold Pipeline.ΦA; rw [scopedRest0_eq]; simp only [owns_whole]; try rfl

/-- The proof data: the inputs keep their blocks, the scratch buffers and the output block hold anything. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => Dat.unnamed 5 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (t : Fin cfg0.N) : (dats m 0 c).after 0 t = X0_0 m c t := by dsimp only [dats]
theorem after_1 (t : Fin cfg0.N) : (dats m 0 c).after 1 t = X0_1 m c t := by dsimp only [dats]
theorem after_2 (t : Fin cfg0.N) : (dats m 0 c).after 2 t = X0_2 m c t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem before_0 (t : Fin cfg0.N) (d) : (dats m 0 c).before 0 t d = X0_0 m c t := before0_0_of m (dats m 0 c) (A_eq m c 0) (after_0 m c) t d
theorem before_1 (t : Fin cfg0.N) (d) : (dats m 0 c).before 1 t d = X0_1 m c t := before0_1_of m (dats m 0 c) (A_eq m c 1) (after_1 m c) t d
theorem before_2 (t : Fin cfg0.N) (d) : (dats m 0 c).before 2 t d = X0_2 m c t := before0_2_of m (dats m 0 c) (A_eq m c 2) (after_2 m c) t d
theorem before_3 (t : Fin cfg0.N) (d) : (dats m 0 c).before 3 t d = iblk m c 3 t := before0_3_of m (dats m 0 c) (A_eq m c 3) (after_3 m c) t d
theorem before_4 (t : Fin cfg0.N) (d) : (dats m 0 c).before 4 t d = iblk m c 4 t := before0_4_of m (dats m 0 c) (A_eq m c 4) (after_4 m c) t d

/-- What the body starts from at a point. -/
def bodyPre (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ X, owns (c : Thread nD τ) (win0_5.stage (cfg0.slots t 5)) fullShare X))

/-- What the body leaves at a point. -/
def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (∃ X, owns (c : Thread nD τ) (win0_5.stage (cfg0.slots t 5)) fullShare X))

theorem leaves_0 (t : Fin cfg0.N) : (dats m 0 c).leavesExact 0 t = owns (c : Thread nD τ) (win0_0.stage (cfg0.slots t 0)) fullShare (X0_0 m c t) := by
  unfold Dat.leavesExact; rw [show cfg0.idle 0 (grid0.coords t) = false from rfl, after_0]
theorem leaves_1 (t : Fin cfg0.N) : (dats m 0 c).leavesExact 1 t = owns (c : Thread nD τ) (win0_1.stage (cfg0.slots t 1)) fullShare (X0_1 m c t) := by
  unfold Dat.leavesExact; rw [show cfg0.idle 1 (grid0.coords t) = false from rfl, after_1]
theorem leaves_2 (t : Fin cfg0.N) : (dats m 0 c).leavesExact 2 t = owns (c : Thread nD τ) (win0_2.stage (cfg0.slots t 2)) fullShare (X0_2 m c t) := by
  unfold Dat.leavesExact; rw [show cfg0.idle 2 (grid0.coords t) = false from rfl, after_2]
theorem leaves_3 (t : Fin cfg0.N) : (dats m 0 c).leavesExact 3 t = owns (c : Thread nD τ) (win0_3.stage (cfg0.slots t 3)) fullShare (iblk m c 3 t) := by
  unfold Dat.leavesExact; rw [show cfg0.idle 3 (grid0.coords t) = false from rfl, after_3]
theorem leaves_4 (t : Fin cfg0.N) : (dats m 0 c).leavesExact 4 t = owns (c : Thread nD τ) (win0_4.stage (cfg0.slots t 4)) fullShare (iblk m c 4 t) := by
  unfold Dat.leavesExact; rw [show cfg0.idle 4 (grid0.coords t) = false from rfl, after_4]

/-- The body runs at every point. -/
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [leaves_0, leaves_1, leaves_2, leaves_3, leaves_4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  iintro ⟨⟨⟨HS0, HS1, HS2⟩, Hg⟩, Ho, ⟨%d0, H0⟩, ⟨%d1, H1⟩, ⟨%d2, H2⟩, ⟨%d3, H3⟩, ⟨%d4, H4⟩, H5⟩
  iapply (body_any c (grid0.coords t) _ _ _ _ _ _ _ _ _ _ _ _ _ _ _ _ _ _ (X0_0 m c t) (X0_1 m c t) (X0_2 m c t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- The body obligation, the output window forgotten. -/
theorem body_obligation : BodyObligation (dats m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- Every run of the launch leaves the input arrays as they were, and every counter at zero. -/
theorem run_main :
    θ_run defs (onTc (τ := τ) (main (F := F))) (s₀ m ρ) (fun r =>
      Pipeline.RDat.FramePost (cfgs 0) (fun c => (dats m 0 c).toRForget forgets) (V m) r ∧ r.2.sem = fun _ => 0) :=
  Pipeline.θ_run_frame_track_forget_shared (Q' := _) cfgs (dats m) (0 : Fin 1) launch₀0 defs₀ Variants.none forgets m ρ main
    (hbody := fun c => (body_obligation m c).loose) (hq := fun _ _ _ => rfl) (howed := fun _ _ => rfl) (V := V m)
    (hmain := hmain m Variants.none) (hA := A_eq m) (hin := fun c => .rfl) (hout := fun c => .rfl)

/-- Every run leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1.arr_in c 2 rfl).trans ((A_eq m c 2).trans (V_main_arg0 m c)),
    (h.1.arr_in c 3 rfl).trans ((A_eq m c 3).trans (V_main_arg1 m c)),
    (h.1.arr_in c 4 rfl).trans ((A_eq m c 4).trans (V_main_arg2 m c))⟩, h.2⟩) (run_main m ρ)

end Launch

end Cert.Kernel.Attn

end
-- ==== Proof.Dense.InProj.lean ====
module

public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise

/-! The input projection: the rms norm of a row, computed once per row block, against the weights. -/

@[expose] public section

set_option maxRecDepth 16384

noncomputable section

namespace Cert.Kernel2Ideal.Dense

open Cert.Kernel2Ideal Cert.Kernel2Ideal.Gen
open Idealize.ShloMosaic Idealize.ShloMosaic.TcCoe Idealize.ShloMosaic.Tactic
open Idealize.SL.Sem
open Idealize.ShloMosaic.Pipeline (Dat Cfg Window)

/-- The factor that a row's sum of squares gives: one over the root of its mean over 2048 entries, kept off zero. -/
def factor (s : EReal) : EReal := Ideal.rsqrt (Ideal.div s (Ideal.ofBits FTy.f32 0x45000000#32) + Ideal.ofBits FTy.f32 0x358637BD#32)

/-- Entry `(r, d)` of the normed rows of `x`, scaled by the gains of layer 0. -/
def normed (x : FVec Ideal S8192x2048 .f32) (g : FVec Ideal S4x1x2048 .f32) (r : Fin 8192) (d : Fin 2048) : EReal :=
  x (ix2 r d) * factor (∑ k : Fin 2048, x (ix2 r k) * x (ix2 r k)) * g (ix3 0 0 d)

/-- The normed block, entry by entry. -/
theorem norm_apply (x : Vec Ideal S1024x2048 .f32) (g : Vec Ideal S1x1x2048 .f32) (r : Fin 1024) (d : Fin 2048) :
    k0_pay1 (F := Ideal) x g (ix2 r d) = x (ix2 r d) * factor (∑ k : Fin 2048, x (ix2 r k) * x (ix2 r k)) * g (ix3 0 0 d) := by
  unfold factor
  pointwise [k0_pay1]

/-- The product of a normed block and a block of weights, entry by entry. -/
theorem product_apply (n : Vec Ideal S1024x2048 .bf16) (w : Vec Ideal S1x2048x768 .bf16) (r : Fin 1024) (j : Fin 768) :
    k0_pay2 (F := Ideal) n w (ix2 r j) = ∑ k : Fin 2048, n (ix2 r k) * w (ix3 0 k j) := by
  pointwise [k0_pay2]

variable (m : (ℓ : Loc nD τ sig) → Buf (Elt Ideal) ℓ) (c : Dev nD)

/-- The three argument arrays of device `c`. -/
abbrev aX : FVec Ideal S8192x2048 .f32 := m ((c : Thread nD τ).loc main_arg0)
abbrev aG : FVec Ideal S4x1x2048 .f32 := m ((c : Thread nD τ).loc main_arg1)
abbrev aW : FVec Ideal S4x2048x17664 .bf16 := m ((c : Thread nD τ).loc main_arg2)

/-- Where each window's block lies, in the number of the point. -/
theorem idx : ∀ t : Fin cfg0.N, win0_0.index t = ![t.val / 23, 0] ∧ win0_1.index t = ![0, 0, 0]
    ∧ win0_2.index t = ![0, 0, t.val % 23] ∧ win0_3.index t = ![t.val / 23, t.val % 23] :=
  (by decide +kernel : ∀ t : Fin grid0.N, _)

/-- Away from the first column block of a row block the scratch keeps what it held. -/
theorem scratch_keep (t : Fin cfg0.N) (h0 : ¬t.val % 23 = 0) :
    (outsAt0 m c t.val t.isLt).2 = (outsAt0 m c (t.val - 1) (Nat.lt_of_le_of_lt (Nat.sub_le _ _) t.isLt)).2 := by
  rw [outsAt0_B m c t h0]
  rfl

/-- The scratch holds the normed rows of the point's row block, at every point. -/
theorem scratch_eq (n : ℕ) (h : n < cfg0.N) : (outsAt0 m c n h).2 = k0_pay1 (iblk m c 0 ⟨n, h⟩) (iblk m c 1 ⟨n, h⟩) := by
  induction n with
  | zero =>
    rw [outsAt0_A m c ⟨0, h⟩ (Nat.zero_mod _)]
    frame_out
  | succ n ih =>
    by_cases h0 : (n + 1) % 23 = 0
    · rw [outsAt0_A m c ⟨n + 1, h⟩ h0]
      frame_out
    · refine (scratch_keep m c ⟨n + 1, h⟩ h0).trans ((ih (Nat.lt_of_succ_lt h)).trans ?_)
      have e : (n + 1) / 23 = n / 23 := by omega
      congr 1
      funext y
      blk_ext [iblk, V, idx ⟨n, Nat.lt_of_succ_lt h⟩, idx ⟨n + 1, h⟩]

/-- What every point stores: the product of the normed rows with its block of weights. -/
theorem stored_eq (t : Fin cfg0.N) : (outsAt0 m c t.val t.isLt).1 = k0_pay2 (k0_pay1 (iblk m c 0 t) (iblk m c 1 t)) (iblk m c 2 t) := by
  by_cases h0 : t.val % 23 = 0
  · rw [outsAt0_A m c t h0]
    frame_out
  · rw [← scratch_eq m c t.val t.isLt, scratch_keep m c t h0, outsAt0_B m c t h0]
    frame_out
    exact congrArg (k0_pay2 · (iblk m c 2 t)) (Memref.IsWhole.read_unread (Val := Elt Ideal) (Memref.isWhole_whole cc0_scratch0) _)

/-- The projection: each row of the result is the normed row times the weights of layer 0. -/
def outArr (x : FVec Ideal S8192x2048 .f32) (g : FVec Ideal S4x1x2048 .f32) (w : FVec Ideal S4x2048x17664 .bf16) : FVec Ideal S8192x17664 .f32 :=
  fun y => ∑ k : Fin 2048, normed x g (y 0) k * w (ix3 0 k (y 1))

/-- The array the kernel leaves. -/
theorem final : (dats m 0 c).arrAt 3 (cfgs 0).N = outArr (aX m c) (aG m c) (aW m c) := by
  refine (dats m 0 c).arrAt_eq_of_covers 3 _ (by decide +kernel) fun t hf y => ?_
  blk_simp
  rw [after0_3, stored_eq]
  obtain ⟨r, j, rfl⟩ : ∃ (r : Fin 1024) (j : Fin 768), y = ix2 r j := ⟨y 0, y 1, eq_ix2 y⟩
  refine (product_apply _ _ r j).trans ?_
  unfold outArr normed
  simp only [norm_apply]
  blk_point [iblk, V, idx t]

end Cert.Kernel2Ideal.Dense

end
-- ==== Proof.Dense.RefNorm.lean ====
module

public import proofs.«01_k».proof.Proof.Dense.InProj
public import Idealize.ShloMosaic.Lib.Pointwise

/-! The references' rms norm, read at an index, and the reference of the input projection. -/

@[expose] public section

set_option maxRecDepth 16384

noncomputable section

namespace Cert.Reference2Ideal.Dense

open Cert.Reference2Ideal Cert.Reference2Ideal.Gen
open Idealize.ShloMosaic Idealize.ShloMosaic.TcCoe Idealize.ShloMosaic.Tactic
open Cert.Kernel2Ideal.Dense (factor normed)

/-- The rms norm of the rows of `x`, scaled by the gains of layer 0. -/
def rmsT (x : FVec Ideal S8192x2048 .f32) (g : FVec Ideal S4x1x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (shapeCast _ (extractStridedSlice S1x1x2048 ![0, 0, 0] g slices_S4x1x2048_S1x1x2048_0_0_0) shapeCasts_S1x1x2048_S1x2048))

/-- The rms norm of the reference, entry by entry. -/
theorem rmsT_apply (x : FVec Ideal S8192x2048 .f32) (g : FVec Ideal S4x1x2048 .f32) (r : Fin 8192) (d : Fin 2048) :
    rmsT x g (ix2 r d) = normed x g r d := by
  unfold normed factor
  pointwise [rmsT]

/-- The projection of normed rows. -/
def projT (n : FVec Ideal S8192x2048 .f32) (w : FVec Ideal S4x2048x17664 .bf16) : FVec Ideal S8192x17664 .f32 :=
  Host.dotGeneral dot_S8192x2048_S2048x17664_S8192x17664_1_0_0_1_n_n none (truncf .bf16 n bitsLt_bf16_f32) (shapeCast _ (extractStridedSlice S1x2048x17664 ![0, 0, 0] w slices_S4x2048x17664_S1x2048x17664_0_0_0) shapeCasts_S1x2048x17664_S2048x17664)

/-- The projection, entry by entry. -/
theorem projT_apply (n : FVec Ideal S8192x2048 .f32) (w : FVec Ideal S4x2048x17664 .bf16) (r : Fin 8192) (j : Fin 17664) :
    projT n w (ix2 r j) = ∑ k : Fin 2048, n (ix2 r k) * w (ix3 0 k j) := by
  pointwise [projT]

/-- The reference's result is the kernel's array. -/
theorem projT_eq (x : FVec Ideal S8192x2048 .f32) (g : FVec Ideal S4x1x2048 .f32) (w : FVec Ideal S4x2048x17664 .bf16) :
    projT (rmsT x g) w = Cert.Kernel2Ideal.Dense.outArr x g w := by
  funext y
  obtain ⟨r, j, rfl⟩ : ∃ (r : Fin 8192) (j : Fin 17664), y = ix2 r j := ⟨y 0, y 1, eq_ix2 y⟩
  refine (projT_apply _ _ r j).trans (Finset.sum_congr rfl fun k _ => ?_)
  exact congrArg (· * w (ix3 0 k j)) (rmsT_apply x g r k)

end Cert.Reference2Ideal.Dense

end
-- ==== Proof.Dense.MlpUp.lean ====
module

public import proofs.«01_k».proof.Proof.Gen.Kernel3Ideal.Frame
public import proofs.«01_k».proof.Proof.Gen.Reference3Ideal.Run
public import proofs.«01_k».proof.Proof.Dense.RefNorm
public import Idealize.ShloMosaic.Lib.Pipeline.ValueKit
public import Idealize.ShloMosaic.Lib.Pointwise

/-! The first half of the feed-forward layer: the rms norm of a row against the weights, its positive part squared. -/

@[expose] public section

set_option maxRecDepth 16384

noncomputable section

namespace Cert.Kernel3Ideal.Dense

open Cert.Kernel3Ideal Cert.Kernel3Ideal.Gen
open Idealize.ShloMosaic Idealize.ShloMosaic.TcCoe Idealize.ShloMosaic.Tactic
open Idealize.SL.Sem
open Idealize.ShloMosaic.Pipeline (Dat Cfg Window)
open Cert.Kernel2Ideal.Dense (factor normed)

/-- The square of the positive part. -/
def posSq (s : EReal) : EReal := max s 0 * max s 0

/-- The normed block, entry by entry: the same computation as the input projection's. -/
theorem norm_apply (x : Vec Ideal S1024x2048 .f32) (g : Vec Ideal S1x1x2048 .f32) (r : Fin 1024) (d : Fin 2048) :
    k0_pay1 (F := Ideal) x g (ix2 r d) = x (ix2 r d) * factor (∑ k : Fin 2048, x (ix2 r k) * x (ix2 r k)) * g (ix3 0 0 d) :=
  Cert.Kernel2Ideal.Dense.norm_apply x g r d

/-- The stored block of a normed block and a block of weights, entry by entry. -/
theorem product_apply (n : Vec Ideal S1024x2048 .bf16) (w : Vec Ideal S1x2048x1024 .bf16) (r : Fin 1024) (j : Fin 1024) :
    k0_pay2 (F := Ideal) n w (ix2 r j) = posSq (∑ k : Fin 2048, n (ix2 r k) * w (ix3 0 k j)) := by
  unfold posSq
  pointwise [k0_pay2]

variable (m : (ℓ : Loc nD τ sig) → Buf (Elt Ideal) ℓ) (c : Dev nD)

/-- The three argument arrays of device `c`. -/
abbrev aX : FVec Ideal S8192x2048 .f32 := m ((c : Thread nD τ).loc main_arg0)
abbrev aG : FVec Ideal S4x1x2048 .f32 := m ((c : Thread nD τ).loc main_arg1)
abbrev aW : FVec Ideal S4x2048x8192 .bf16 := m ((c : Thread nD τ).loc main_arg2)

/-- Where each window's block lies, in the number of the point. -/
theorem idx : ∀ t : Fin cfg0.N, win0_0.index t = ![t.val / 8, 0] ∧ win0_1.index t = ![0, 0, 0]
    ∧ win0_2.index t = ![0, 0, t.val % 8] ∧ win0_3.index t = ![t.val / 8, t.val % 8] :=
  (by decide +kernel : ∀ t : Fin grid0.N, _)

/-- Away from the first column block of a row block the scratch keeps what it held. -/
theorem scratch_keep (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- The scratch holds the normed rows of the point's row block, at every point. -/
theorem scratch_eq (n : ℕ) (h : n < cfg0.N) : (outsAt0 m c n h).2 = k0_pay1 (iblk m c 0 ⟨n, h⟩) (iblk m c 1 ⟨n, h⟩) := by
  induction n with
  | zero =>
    rw [outsAt0_A m c ⟨0, h⟩ (Nat.zero_mod _)]
    frame_out
  | succ n ih =>
    by_cases h0 : (n + 1) % 8 = 0
    · rw [outsAt0_A m c ⟨n + 1, h⟩ h0]
      frame_out
    · refine (scratch_keep m c ⟨n + 1, h⟩ h0).trans ((ih (Nat.lt_of_succ_lt h)).trans ?_)
      have e : (n + 1) / 8 = n / 8 := by omega
      congr 1
      funext y
      blk_ext [iblk, V, idx ⟨n, Nat.lt_of_succ_lt h⟩, idx ⟨n + 1, h⟩]

/-- What every point stores: the squared positive part of the product of the normed rows with its block of weights. -/
theorem stored_eq (t : Fin cfg0.N) : (outsAt0 m c t.val t.isLt).1 = k0_pay2 (k0_pay1 (iblk m c 0 t) (iblk m c 1 t)) (iblk m c 2 t) := by
  by_cases h0 : t.val % 8 = 0
  · rw [outsAt0_A m c t h0]
    frame_out
  · rw [← scratch_eq m c t.val t.isLt, scratch_keep m c t h0, outsAt0_B m c t h0]
    frame_out
    exact congrArg (k0_pay2 · (iblk m c 2 t)) (Memref.IsWhole.read_unread (Val := Elt Ideal) (Memref.isWhole_whole cc0_scratch0) _)

/-- The result: each row is the squared positive part of the normed row times the weights of layer 0. -/
def outArr (x : FVec Ideal S8192x2048 .f32) (g : FVec Ideal S4x1x2048 .f32) (w : FVec Ideal S4x2048x8192 .bf16) : FVec Ideal S8192x8192 .bf16 :=
  fun y => posSq (∑ k : Fin 2048, normed x g (y 0) k * w (ix3 0 k (y 1)))

/-- The array the kernel leaves. -/
theorem final : (dats m 0 c).arrAt 3 (cfgs 0).N = outArr (aX m c) (aG m c) (aW m c) := by
  refine (dats m 0 c).arrAt_eq_of_covers 3 _ (by decide +kernel) fun t hf y => ?_
  blk_simp
  rw [after0_3, stored_eq]
  obtain ⟨r, j, rfl⟩ : ∃ (r : Fin 1024) (j : Fin 1024), y = ix2 r j := ⟨y 0, y 1, eq_ix2 y⟩
  refine (product_apply _ _ r j).trans ?_
  unfold outArr normed
  simp only [norm_apply]
  blk_point [iblk, V, idx t]

end Cert.Kernel3Ideal.Dense

namespace Cert.Reference3Ideal.Dense

open Cert.Reference3Ideal Cert.Reference3Ideal.Gen
open Idealize.ShloMosaic Idealize.ShloMosaic.TcCoe Idealize.ShloMosaic.Tactic
open Cert.Kernel3Ideal.Dense (posSq)
open Cert.Reference2Ideal.Dense (rmsT rmsT_apply)

/-- The positive part of the product of normed rows with the weights. -/
def reluT (n : FVec Ideal S8192x2048 .f32) (w : FVec Ideal S4x2048x8192 .bf16) : FVec Ideal S8192x8192 .f32 :=
  maximumf (Host.dotGeneral dot_S8192x2048_S2048x8192_S8192x8192_1_0_0_1_n_n none (truncf .bf16 n bitsLt_bf16_f32) (shapeCast _ (extractStridedSlice S1x2048x8192 ![0, 0, 0] w slices_S4x2048x8192_S1x2048x8192_0_0_0) shapeCasts_S1x2048x8192_S2048x8192)) (broadcastInDim S8192x8192 ![] bcast_S_S8192x8192 (constant S_ .f32 0x00000000#32))

/-- Its square. -/
def upT (n : FVec Ideal S8192x2048 .f32) (w : FVec Ideal S4x2048x8192 .bf16) : FVec Ideal S8192x8192 .bf16 :=
  truncf .bf16 (mulf (reluT n w) (reluT n w)) bitsLt_bf16_f32

/-- The result, entry by entry. -/
theorem upT_apply (n : FVec Ideal S8192x2048 .f32) (w : FVec Ideal S4x2048x8192 .bf16) (r : Fin 8192) (j : Fin 8192) :
    upT n w (ix2 r j) = posSq (∑ k : Fin 2048, n (ix2 r k) * w (ix3 0 k j)) := by
  unfold posSq
  pointwise [upT, reluT]

/-- The reference's result is the kernel's array. -/
theorem upT_eq (x : FVec Ideal S8192x2048 .f32) (g : FVec Ideal S4x1x2048 .f32) (w : FVec Ideal S4x2048x8192 .bf16) :
    upT (rmsT x g) w = Cert.Kernel3Ideal.Dense.outArr x g w := by
  funext y
  obtain ⟨r, j, rfl⟩ : ∃ (r : Fin 8192) (j : Fin 8192), y = ix2 r j := ⟨y 0, y 1, eq_ix2 y⟩
  refine (upT_apply _ _ r j).trans (congrArg posSq (Finset.sum_congr rfl fun k _ => ?_))
  exact congrArg (· * w (ix3 0 k j)) (rmsT_apply x g r k)

end Cert.Reference3Ideal.Dense

end
-- ==== Proof.Dense.Merge.lean ====
module

public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise

/-! The gated merge of the three mixers: each one's product with its weights, weighed by the sigmoid of its gate. -/

@[expose] public section

set_option maxRecDepth 16384

noncomputable section

namespace Cert.Kernel4Ideal.Dense

open Cert.Kernel4Ideal Cert.Kernel4Ideal.Gen
open Idealize.ShloMosaic Idealize.ShloMosaic.TcCoe Idealize.ShloMosaic.Tactic
open Idealize.SL.Sem
open Idealize.ShloMosaic.Pipeline (Dat Cfg Window)

/-- The sigmoid of a real number or an infinity. -/
def sigm (s : EReal) : EReal := Ideal.logistic s

/-- The stored block, entry by entry. -/
theorem merge_apply (ga gb gc : Vec Ideal S512x1024 .f32) (oa ob oc : Vec Ideal S512x1024 .bf16) (wa wb wc : Vec Ideal S1x1024x1024 .bf16)
    (r : Fin 512) (j : Fin 1024) :
    k0_pay1 (F := Ideal) ga oa wa gb ob wb gc oc wc (ix2 r j)
      = sigm (ga (ix2 r j)) * (∑ k : Fin 1024, oa (ix2 r k) * wa (ix3 0 k j))
        + sigm (gb (ix2 r j)) * (∑ k : Fin 1024, ob (ix2 r k) * wb (ix3 0 k j))
        + sigm (gc (ix2 r j)) * (∑ k : Fin 1024, oc (ix2 r k) * wc (ix3 0 k j)) := by
  unfold sigm
  pointwise [k0_pay1]

variable (m : (ℓ : Loc nD τ sig) → Buf (Elt Ideal) ℓ) (c : Dev nD)

/-- The seven argument arrays of device `c`. -/
abbrev aOa : FVec Ideal S8192x1024 .bf16 := m ((c : Thread nD τ).loc main_arg0)
abbrev aOb : FVec Ideal S8192x1024 .bf16 := m ((c : Thread nD τ).loc main_arg1)
abbrev aOc : FVec Ideal S8192x1024 .bf16 := m ((c : Thread nD τ).loc main_arg2)
abbrev aP : FVec Ideal S8192x17664 .f32 := m ((c : Thread nD τ).loc main_arg3)
abbrev aWa : FVec Ideal S4x1024x2048 .bf16 := m ((c : Thread nD τ).loc main_arg4)
abbrev aWb : FVec Ideal S4x1024x2048 .bf16 := m ((c : Thread nD τ).loc main_arg5)
abbrev aWc : FVec Ideal S4x1024x2048 .bf16 := m ((c : Thread nD τ).loc main_arg6)

/-- Where each window's block lies, in the number of the point. -/
theorem idx : ∀ t : Fin cfg0.N, win0_0.index t = ![t.val / 2, 0] ∧ win0_1.index t = ![t.val / 2, 0] ∧ win0_2.index t = ![t.val / 2, 0]
    ∧ win0_3.index t = ![t.val / 2, t.val % 2] ∧ win0_4.index t = ![t.val / 2, 2 + t.val % 2] ∧ win0_5.index t = ![t.val / 2, 4 + t.val % 2]
    ∧ win0_6.index t = ![0, 0, t.val % 2] ∧ win0_7.index t = ![0, 0, t.val % 2] ∧ win0_8.index t = ![0, 0, t.val % 2]
    ∧ win0_9.index t = ![t.val / 2, t.val % 2] :=
  (by decide +kernel : ∀ t : Fin grid0.N, _)

/-- One mixer's share of a row of the merge: its product with its weights, times the sigmoid of the gate at column `b + d`. -/
def part (o : FVec Ideal S8192x1024 .bf16) (p : FVec Ideal S8192x17664 .f32) (w : FVec Ideal S4x1024x2048 .bf16) (b : ℕ) (hb : b + 2048 ≤ 17664)
    (r : Fin 8192) (d : Fin 2048) : EReal :=
  sigm (p (ix2 r ⟨b + d.val, by omega⟩)) * ∑ k : Fin 1024, o (ix2 r k) * w (ix3 0 k d)

/-- The merge: the three mixers' shares, added. -/
def outArr (oa ob oc : FVec Ideal S8192x1024 .bf16) (p : FVec Ideal S8192x17664 .f32) (wa wb wc : FVec Ideal S4x1024x2048 .bf16) :
    FVec Ideal S8192x2048 .bf16 :=
  fun y => part oa p wa 0 (by omega) (y 0) (y 1) + part ob p wb 2048 (by omega) (y 0) (y 1) + part oc p wc 4096 (by omega) (y 0) (y 1)

/-- The row of the arrays that row `r` of the point's block is. -/
abbrev row (t : Fin cfg0.N) (r : Fin 512) : Fin 8192 :=
  ⟨512 * (t.val / 2) + r.val, by have := lt_of_lt_of_eq t.isLt (show cfg0.N = 32 from N_0); omega⟩

/-- The blocks of the three gates, entry by entry: no block is cut at the end of the projection. -/
theorem gates_apply (t : Fin cfg0.N) (r : Fin 512) (j : Fin 1024) :
    X0_3 m c t (ix2 r j) = aP m c (ix2 (row t r) ⟨0 + (t.val % 2 * 1024 + j.val), by omega⟩)
    ∧ X0_4 m c t (ix2 r j) = aP m c (ix2 (row t r) ⟨2048 + (t.val % 2 * 1024 + j.val), by omega⟩)
    ∧ X0_5 m c t (ix2 r j) = aP m c (ix2 (row t r) ⟨4096 + (t.val % 2 * 1024 + j.val), by omega⟩) := by
  refine ⟨?_, ?_, ?_⟩
  · refine (dif_pos (moved0_3 t (ix2 r j))).trans ?_
    blk_ext [iblk, V, idx t]
  · refine (dif_pos (moved0_4 t (ix2 r j))).trans ?_
    blk_ext [iblk, V, idx t]
  · refine (dif_pos (moved0_5 t (ix2 r j))).trans ?_
    blk_ext [iblk, V, idx t]

/-- The array the kernel leaves. -/
theorem final : (dats m 0 c).arrAt 9 (cfgs 0).N = outArr (aOa m c) (aOb m c) (aOc m c) (aP m c) (aWa m c) (aWb m c) (aWc m c) := by
  refine (dats m 0 c).arrAt_eq_of_covers 9 _ (by decide +kernel) fun t hf y => ?_
  blk_simp
  rw [after0_9]
  unfold outsAt0
  frame_out
  obtain ⟨r, j, rfl⟩ : ∃ (r : Fin 512) (j : Fin 1024), y = ix2 r j := ⟨y 0, y 1, eq_ix2 y⟩
  refine (merge_apply _ _ _ _ _ _ _ _ _ r j).trans ?_
  obtain ⟨g0, g1, g2⟩ := gates_apply m c t r j
  rw [g0, g1, g2]
  unfold outArr part
  blk_point [iblk, V, idx t]

end Cert.Kernel4Ideal.Dense

namespace Cert.Reference4Ideal.Dense

open Cert.Reference4Ideal Cert.Reference4Ideal.Gen
open Idealize.ShloMosaic Idealize.ShloMosaic.TcCoe Idealize.ShloMosaic.Tactic
open Cert.Kernel4Ideal.Dense (sigm part outArr)

/-- The sigmoid of a gate, as the reference spells it. -/
def sigT (x : FVec Ideal S8192x2048 .f32) : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32)) (Host.exp (Host.negf x)))

/-- It is the sigmoid, entry by entry. -/
theorem sigT_apply (x : FVec Ideal S8192x2048 .f32) (r : Fin 8192) (d : Fin 2048) : sigT x (ix2 r d) = sigm (x (ix2 r d)) := by
  unfold sigm Ideal.logistic
  pointwise [sigT]

/-- A mixer's product with its weights. -/
def prodT (o : FVec Ideal S8192x1024 .bf16) (w : FVec Ideal S4x1024x2048 .bf16) : FVec Ideal S8192x2048 .f32 :=
  Host.dotGeneral dot_S8192x1024_S1024x2048_S8192x2048_1_0_0_1_n_n none o (shapeCast _ (extractStridedSlice S1x1024x2048 ![0, 0, 0] w slices_S4x1024x2048_S1x1024x2048_0_0_0) shapeCasts_S1x1024x2048_S1024x2048)

/-- The product, entry by entry. -/
theorem prodT_apply (o : FVec Ideal S8192x1024 .bf16) (w : FVec Ideal S4x1024x2048 .bf16) (r : Fin 8192) (d : Fin 2048) :
    prodT o w (ix2 r d) = ∑ k : Fin 1024, o (ix2 r k) * w (ix3 0 k d) := by
  pointwise [prodT]

/-- The three gates, cut out of the projection. -/
def gateT (p : FVec Ideal S8192x17664 .f32) : FVec Ideal S8192x2048 .f32 × FVec Ideal S8192x2048 .f32 × FVec Ideal S8192x2048 .f32 :=
  (extractStridedSlice S8192x2048 ![0, 0] p slices_S8192x17664_S8192x2048_0_0,
    extractStridedSlice S8192x2048 ![0, 2048] p slices_S8192x17664_S8192x2048_0_2048,
    extractStridedSlice S8192x2048 ![0, 4096] p slices_S8192x17664_S8192x2048_0_4096)

/-- A gate's entry is the projection's, at its column. -/
theorem gateT_apply (p : FVec Ideal S8192x17664 .f32) (r : Fin 8192) (d : Fin 2048) :
    (gateT p).1 (ix2 r d) = p (ix2 r ⟨0 + d.val, by omega⟩)
    ∧ (gateT p).2.1 (ix2 r d) = p (ix2 r ⟨2048 + d.val, by omega⟩)
    ∧ (gateT p).2.2 (ix2 r d) = p (ix2 r ⟨4096 + d.val, by omega⟩) := by
  refine ⟨?_, ?_, ?_⟩ <;> pointwise [gateT]

/-- The reference's merge. -/
def mergeT (oa ob oc : FVec Ideal S8192x1024 .bf16) (p : FVec Ideal S8192x17664 .f32) (wa wb wc : FVec Ideal S4x1024x2048 .bf16) : FVec Ideal S8192x2048 .bf16 :=
  truncf .bf16 (addf (addf (mulf (sigT (gateT p).1) (prodT oa wa)) (mulf (sigT (gateT p).2.1) (prodT ob wb))) (mulf (sigT (gateT p).2.2) (prodT oc wc))) bitsLt_bf16_f32

/-- The reference's result is the kernel's array. -/
theorem mergeT_eq (oa ob oc : FVec Ideal S8192x1024 .bf16) (p : FVec Ideal S8192x17664 .f32) (wa wb wc : FVec Ideal S4x1024x2048 .bf16) :
    mergeT oa ob oc p wa wb wc = outArr oa ob oc p wa wb wc := by
  funext y
  obtain ⟨r, d, rfl⟩ : ∃ (r : Fin 8192) (d : Fin 2048), y = ix2 r d := ⟨y 0, y 1, eq_ix2 y⟩
  have s : ∀ (o : FVec Ideal S8192x1024 .bf16) (w : FVec Ideal S4x1024x2048 .bf16) (q : FVec Ideal S8192x2048 .f32) (b : ℕ) (hb : b + 2048 ≤ 17664)
      (hq : q (ix2 r d) = p (ix2 r ⟨b + d.val, by omega⟩)), sigT q (ix2 r d) * prodT o w (ix2 r d) = part o p w b hb r d := by
    intro o w q b hb hq
    unfold part
    rw [sigT_apply, prodT_apply, hq]
  obtain ⟨g0, g1, g2⟩ := gateT_apply p r d
  exact congrArg₂ (· + ·) (congrArg₂ (· + ·) (s oa wa _ 0 (by omega) g0) (s ob wb _ 2048 (by omega) g1)) (s oc wc _ 4096 (by omega) g2)

end Cert.Reference4Ideal.Dense

end
-- ==== Proof.Dense.Down.lean ====
module

public import proofs.«01_k».proof.Proof.Gen.Kernel5Ideal.Frame
public import proofs.«01_k».proof.Proof.Gen.Reference5Ideal.Run
public import proofs.«01_k».proof.Proof.Dense.RefNorm
public import Idealize.ShloMosaic.Lib.Pipeline.ValueKit
public import Idealize.ShloMosaic.Lib.Pointwise

/-! The second half of the feed-forward layer: a product over 8192 in eight parts, its rows normed, added to the stream. -/

@[expose] public section

set_option maxRecDepth 16384

noncomputable section

namespace Cert.Kernel5Ideal.Dense

open Cert.Kernel5Ideal Cert.Kernel5Ideal.Gen
open Idealize.ShloMosaic Idealize.ShloMosaic.TcCoe Idealize.ShloMosaic.Tactic
open Idealize.SL.Sem
open Idealize.ShloMosaic.Pipeline (Dat Cfg Window)
open Cert.Kernel2Ideal.Dense (factor normed)

/-- The block starts at zero. -/
theorem zero_apply (y : S512x2048.Idx) : k0_pay1 (F := Ideal) y = 0 := by
  pointwise [k0_pay1]

/-- One step adds a product over 1024, entry by entry. -/
theorem step_apply (acc : Vec Ideal S512x2048 .f32) (a : Vec Ideal S512x1024 .bf16) (w : Vec Ideal S1x1024x2048 .bf16) (y : S512x2048.Idx) :
    k0_pay2 (F := Ideal) acc a w y = acc y + ∑ k : Fin 1024, a (ix2 (y 0) k) * w (ix3 0 k (y 1)) := by
  pointwise [k0_pay2]

/-- The last step norms the rows of the sums and adds them to the stream, entry by entry. -/
theorem norm_apply (s x : Vec Ideal S512x2048 .f32) (g : Vec Ideal S1x1x2048 .f32) (r : Fin 512) (d : Fin 2048) :
    k0_pay3 (F := Ideal) s x g (ix2 r d) = x (ix2 r d) + s (ix2 r d) * factor (∑ k : Fin 2048, s (ix2 r k) * s (ix2 r k)) * g (ix3 0 0 d) := by
  unfold factor
  pointwise [k0_pay3]

variable (m : (ℓ : Loc nD τ sig) → Buf (Elt Ideal) ℓ) (c : Dev nD)

/-- The four argument arrays of device `c`. -/
abbrev aA : FVec Ideal S8192x8192 .bf16 := m ((c : Thread nD τ).loc main_arg0)
abbrev aW : FVec Ideal S4x8192x2048 .bf16 := m ((c : Thread nD τ).loc main_arg1)
abbrev aX : FVec Ideal S8192x2048 .f32 := m ((c : Thread nD τ).loc main_arg2)
abbrev aG : FVec Ideal S4x1x2048 .f32 := m ((c : Thread nD τ).loc main_arg3)

/-- Where each window's block lies, in the number of the point. -/
theorem idx : ∀ t : Fin cfg0.N, win0_0.index t = ![t.val / 8, t.val % 8] ∧ win0_1.index t = ![0, t.val % 8, 0]
    ∧ win0_2.index t = ![t.val / 8, 0] ∧ win0_3.index t = ![0, 0, 0] ∧ win0_4.index t = ![t.val / 8, 0] :=
  (by decide +kernel : ∀ t : Fin grid0.N, _)

/-- The product with the weights of layer 0. -/
def prod (a : FVec Ideal S8192x8192 .bf16) (w : FVec Ideal S4x8192x2048 .bf16) : FVec Ideal S8192x2048 .f32 :=
  fun y => ∑ l : Fin 8192, a (ix2 (y 0) l) * w (ix3 0 l (y 1))

/-- What the last point of a row block stores: the normed sums added to the stream. -/
theorem stored_eq (t : Fin cfg0.N) (h1 : t.val % 8 = 7) :
    (outsAt0 m c t.val t.isLt).1 = k0_pay3 (outsAt0 m c t.val t.isLt).2 (iblk m c 2 t) (iblk m c 3 t) := by
  rw [outsAt0_C m c t (by omega) h1]
  frame_out

/-- At the last point of a row block the scratch holds the rows' product over all 8192 entries. -/
theorem scratch_eq (t : Fin cfg0.N) (h1 : t.val % 8 = 7) (r : Fin 512) (d : Fin 2048) (h : 512 * (t.val / 8) + r.val < 8192) :
    (outsAt0 m c t.val t.isLt).2 (ix2 r d) = prod (aA m c) (aW m c) (ix2 ⟨512 * (t.val / 8) + r.val, h⟩ d) := by
  refine (Pipeline.eq_sum_fin_of_reset_step_apply_of_flush (fun n h => (outsAt0 m c n h).2) 8 (fun _ => 0)
    (fun p y => ∑ k : Fin 1024, (show FVec Ideal S512x1024 .bf16 from iblk m c 0 p) (ix2 (y 0) k)
      * (show FVec Ideal S1x1024x2048 .bf16 from iblk m c 1 p) (ix3 0 k (y 1)))
    (fun t h y => ?_) (fun t h y => ?_) t h1 (ix2 r d)).trans ?_
  · dsimp only
    rw [outsAt0_A m c t h (by omega)]
    frame_out
    rw [step_apply, zero_apply]
  · dsimp only
    by_cases h7 : t.val % 8 = 7
    · rw [outsAt0_C m c t h h7]
      frame_out
      rw [step_apply]
      exact congrArg (· + _) (congrFun (Memref.IsWhole.read_unread (Val := Elt Ideal) (Memref.isWhole_whole cc0_scratch0) _) y)
    · rw [outsAt0_B m c t h h7]
      frame_out
      rw [step_apply]
      exact congrArg (· + _) (congrFun (Memref.IsWhole.read_unread (Val := Elt Ideal) (Memref.isWhole_whole cc0_scratch0) _) y)
  · unfold prod
    refine (zero_add _).trans (Fin.sum_mul_add_congr fun s k hl => ?_)
    blk_point [iblk, V, idx ⟨_, Pipeline.run_point_lt_of_flush t h1 s⟩]

/-- The result: the stream plus the normed rows of the product. -/
def outArr (a : FVec Ideal S8192x8192 .bf16) (w : FVec Ideal S4x8192x2048 .bf16) (x : FVec Ideal S8192x2048 .f32) (g : FVec Ideal S4x1x2048 .f32) :
    FVec Ideal S8192x2048 .f32 :=
  fun y => x (ix2 (y 0) (y 1)) + normed (prod a w) g (y 0) (y 1)

/-- The array the kernel leaves. -/
theorem final : (dats m 0 c).arrAt 4 (cfgs 0).N = outArr (aA m c) (aW m c) (aX m c) (aG m c) := by
  refine (dats m 0 c).arrAt_eq_of_covers 4 _ (by decide +kernel) fun t hf y => ?_
  have h1 := (flush0_4 t).mp hf
  blk_simp
  rw [after0_4, stored_eq m c t h1]
  obtain ⟨r, d, rfl⟩ : ∃ (r : Fin 512) (d : Fin 2048), y = ix2 r d := ⟨y 0, y 1, eq_ix2 y⟩
  have hb : 512 * (t.val / 8) + r.val < 8192 := by
    have := lt_of_lt_of_eq t.isLt (show cfg0.N = 128 from N_0)
    omega
  refine (norm_apply _ _ _ r d).trans ?_
  simp only [scratch_eq m c t h1 r _ hb]
  unfold outArr normed
  blk_point [iblk, V, idx t]

end Cert.Kernel5Ideal.Dense

namespace Cert.Reference5Ideal.Dense

open Cert.Reference5Ideal Cert.Reference5Ideal.Gen
open Idealize.ShloMosaic Idealize.ShloMosaic.TcCoe Idealize.ShloMosaic.Tactic
open Cert.Reference2Ideal.Dense (rmsT rmsT_apply)

/-- The product with the weights. -/
def prodT (a : FVec Ideal S8192x8192 .bf16) (w : FVec Ideal S4x8192x2048 .bf16) : FVec Ideal S8192x2048 .f32 :=
  Host.dotGeneral dot_S8192x8192_S8192x2048_S8192x2048_1_0_0_1_n_n none a (shapeCast _ (extractStridedSlice S1x8192x2048 ![0, 0, 0] w slices_S4x8192x2048_S1x8192x2048_0_0_0) shapeCasts_S1x8192x2048_S8192x2048)

/-- The product, entry by entry. -/
theorem prodT_eq (a : FVec Ideal S8192x8192 .bf16) (w : FVec Ideal S4x8192x2048 .bf16) : prodT a w = Cert.Kernel5Ideal.Dense.prod a w := by
  funext y
  obtain ⟨r, j, rfl⟩ : ∃ (r : Fin 8192) (j : Fin 2048), y = ix2 r j := ⟨y 0, y 1, eq_ix2 y⟩
  unfold Cert.Kernel5Ideal.Dense.prod
  pointwise [prodT]

/-- The reference's result is the kernel's array. -/
theorem downT_eq (a : FVec Ideal S8192x8192 .bf16) (w : FVec Ideal S4x8192x2048 .bf16) (x : FVec Ideal S8192x2048 .f32) (g : FVec Ideal S4x1x2048 .f32) :
    addf x (rmsT (prodT a w) g) = Cert.Kernel5Ideal.Dense.outArr a w x g := by
  rw [prodT_eq]
  funext y
  obtain ⟨r, j, rfl⟩ : ∃ (r : Fin 8192) (j : Fin 2048), y = ix2 r j := ⟨y 0, y 1, eq_ix2 y⟩
  exact congrArg (x (ix2 r j) + ·) (rmsT_apply _ g r j)

end Cert.Reference5Ideal.Dense

end
-- ==== Proof.Dense.OutProj.lean ====
module

public import proofs.«01_k».proof.Proof.Gen.Kernel6Ideal.Frame
public import proofs.«01_k».proof.Proof.Gen.Reference6Ideal.Run
public import proofs.«01_k».proof.Proof.Dense.Down
public import Idealize.ShloMosaic.Lib.Pipeline.ValueKit
public import Idealize.ShloMosaic.Lib.Pointwise

/-! The output projection: a product over 2048 in two parts, its rows normed, added to the stream. -/

@[expose] public section

set_option maxRecDepth 16384

noncomputable section

namespace Cert.Kernel6Ideal.Dense

open Cert.Kernel6Ideal Cert.Kernel6Ideal.Gen
open Idealize.ShloMosaic Idealize.ShloMosaic.TcCoe Idealize.ShloMosaic.Tactic
open Idealize.SL.Sem
open Idealize.ShloMosaic.Pipeline (Dat Cfg Window)
open Cert.Kernel2Ideal.Dense (factor normed)

/-- The block starts at zero. -/
theorem zero_apply (y : S512x2048.Idx) : k0_pay1 (F := Ideal) y = 0 := Cert.Kernel5Ideal.Dense.zero_apply y

/-- One step adds a product over 1024, entry by entry. -/
theorem step_apply (acc : Vec Ideal S512x2048 .f32) (a : Vec Ideal S512x1024 .bf16) (w : Vec Ideal S1x1024x2048 .bf16) (y : S512x2048.Idx) :
    k0_pay2 (F := Ideal) acc a w y = acc y + ∑ k : Fin 1024, a (ix2 (y 0) k) * w (ix3 0 k (y 1)) :=
  Cert.Kernel5Ideal.Dense.step_apply acc a w y

/-- The last step norms the rows of the sums and adds them to the stream, entry by entry. -/
theorem norm_apply (s x : Vec Ideal S512x2048 .f32) (g : Vec Ideal S1x1x2048 .f32) (r : Fin 512) (d : Fin 2048) :
    k0_pay3 (F := Ideal) s x g (ix2 r d) = x (ix2 r d) + s (ix2 r d) * factor (∑ k : Fin 2048, s (ix2 r k) * s (ix2 r k)) * g (ix3 0 0 d) :=
  Cert.Kernel5Ideal.Dense.norm_apply s x g r d

variable (m : (ℓ : Loc nD τ sig) → Buf (Elt Ideal) ℓ) (c : Dev nD)

/-- The four argument arrays of device `c`. -/
abbrev aA : FVec Ideal S8192x2048 .bf16 := m ((c : Thread nD τ).loc main_arg0)
abbrev aW : FVec Ideal S4x2048x2048 .bf16 := m ((c : Thread nD τ).loc main_arg1)
abbrev aX : FVec Ideal S8192x2048 .f32 := m ((c : Thread nD τ).loc main_arg2)
abbrev aG : FVec Ideal S4x1x2048 .f32 := m ((c : Thread nD τ).loc main_arg3)

/-- Where each window's block lies, in the number of the point. -/
theorem idx : ∀ t : Fin cfg0.N, win0_0.index t = ![t.val / 2, t.val % 2] ∧ win0_1.index t = ![0, t.val % 2, 0]
    ∧ win0_2.index t = ![t.val / 2, 0] ∧ win0_3.index t = ![0, 0, 0] ∧ win0_4.index t = ![t.val / 2, 0] :=
  (by decide +kernel : ∀ t : Fin grid0.N, _)

/-- The product with the weights of layer 0. -/
def prod (a : FVec Ideal S8192x2048 .bf16) (w : FVec Ideal S4x2048x2048 .bf16) : FVec Ideal S8192x2048 .f32 :=
  fun y => ∑ l : Fin 2048, a (ix2 (y 0) l) * w (ix3 0 l (y 1))

/-- What the second point of a row block stores: the normed sums added to the stream. -/
theorem stored_eq (t : Fin cfg0.N) (h1 : t.val % 2 = 1) :
    (outsAt0 m c t.val t.isLt).1 = k0_pay3 (outsAt0 m c t.val t.isLt).2 (iblk m c 2 t) (iblk m c 3 t) := by
  rw [outsAt0_B m c t (by omega) h1]
  frame_out

/-- At the second point of a row block the scratch holds the rows' product over all 2048 entries. -/
theorem scratch_eq (t : Fin cfg0.N) (h1 : t.val % 2 = 1) (r : Fin 512) (d : Fin 2048) (h : 512 * (t.val / 2) + r.val < 8192) :
    (outsAt0 m c t.val t.isLt).2 (ix2 r d) = prod (aA m c) (aW m c) (ix2 ⟨512 * (t.val / 2) + r.val, h⟩ d) := by
  refine (Pipeline.eq_sum_fin_of_reset_step_apply_of_flush (fun n h => (outsAt0 m c n h).2) 2 (fun _ => 0)
    (fun p y => ∑ k : Fin 1024, (show FVec Ideal S512x1024 .bf16 from iblk m c 0 p) (ix2 (y 0) k)
      * (show FVec Ideal S1x1024x2048 .bf16 from iblk m c 1 p) (ix3 0 k (y 1)))
    (fun t h y => ?_) (fun t h y => ?_) t h1 (ix2 r d)).trans ?_
  · dsimp only
    rw [outsAt0_A m c t h (by omega)]
    frame_out
    rw [step_apply, zero_apply]
  · dsimp only
    rw [outsAt0_B m c t h (by omega)]
    frame_out
    rw [step_apply]
    exact congrArg (· + _) (congrFun (Memref.IsWhole.read_unread (Val := Elt Ideal) (Memref.isWhole_whole cc0_scratch0) _) y)
  · unfold prod
    refine (zero_add _).trans (Fin.sum_mul_add_congr fun s k hl => ?_)
    blk_point [iblk, V, idx ⟨_, Pipeline.run_point_lt_of_flush t h1 s⟩]

/-- The result: the stream plus the normed rows of the product. -/
def outArr (a : FVec Ideal S8192x2048 .bf16) (w : FVec Ideal S4x2048x2048 .bf16) (x : FVec Ideal S8192x2048 .f32) (g : FVec Ideal S4x1x2048 .f32) :
    FVec Ideal S8192x2048 .f32 :=
  fun y => x (ix2 (y 0) (y 1)) + normed (prod a w) g (y 0) (y 1)

/-- The array the kernel leaves. -/
theorem final : (dats m 0 c).arrAt 4 (cfgs 0).N = outArr (aA m c) (aW m c) (aX m c) (aG m c) := by
  refine (dats m 0 c).arrAt_eq_of_covers 4 _ (by decide +kernel) fun t hf y => ?_
  have h1 := (flush0_4 t).mp hf
  blk_simp
  rw [after0_4, stored_eq m c t h1]
  obtain ⟨r, d, rfl⟩ : ∃ (r : Fin 512) (d : Fin 2048), y = ix2 r d := ⟨y 0, y 1, eq_ix2 y⟩
  have hb : 512 * (t.val / 2) + r.val < 8192 := by
    have := lt_of_lt_of_eq t.isLt (show cfg0.N = 32 from N_0)
    omega
  refine (norm_apply _ _ _ r d).trans ?_
  simp only [scratch_eq m c t h1 r _ hb]
  unfold outArr normed
  blk_point [iblk, V, idx t]

end Cert.Kernel6Ideal.Dense

namespace Cert.Reference6Ideal.Dense

open Cert.Reference6Ideal Cert.Reference6Ideal.Gen
open Idealize.ShloMosaic Idealize.ShloMosaic.TcCoe Idealize.ShloMosaic.Tactic
open Cert.Reference2Ideal.Dense (rmsT rmsT_apply)

/-- The product with the weights. -/
def prodT (a : FVec Ideal S8192x2048 .bf16) (w : FVec Ideal S4x2048x2048 .bf16) : FVec Ideal S8192x2048 .f32 :=
  Host.dotGeneral dot_S8192x2048_S2048x2048_S8192x2048_1_0_0_1_n_n none a (shapeCast _ (extractStridedSlice S1x2048x2048 ![0, 0, 0] w slices_S4x2048x2048_S1x2048x2048_0_0_0) shapeCasts_S1x2048x2048_S2048x2048)

/-- The product, entry by entry. -/
theorem prodT_eq (a : FVec Ideal S8192x2048 .bf16) (w : FVec Ideal S4x2048x2048 .bf16) : prodT a w = Cert.Kernel6Ideal.Dense.prod a w := by
  funext y
  obtain ⟨r, j, rfl⟩ : ∃ (r : Fin 8192) (j : Fin 2048), y = ix2 r j := ⟨y 0, y 1, eq_ix2 y⟩
  unfold Cert.Kernel6Ideal.Dense.prod
  pointwise [prodT]

/-- The reference's result is the kernel's array. -/
theorem outT_eq (a : FVec Ideal S8192x2048 .bf16) (w : FVec Ideal S4x2048x2048 .bf16) (x : FVec Ideal S8192x2048 .f32) (g : FVec Ideal S4x1x2048 .f32) :
    addf x (rmsT (prodT a w) g) = Cert.Kernel6Ideal.Dense.outArr a w x g := by
  rw [prodT_eq]
  funext y
  obtain ⟨r, j, rfl⟩ : ∃ (r : Fin 8192) (j : Fin 2048), y = ix2 r j := ⟨y 0, y 1, eq_ix2 y⟩
  exact congrArg (x (ix2 r j) + ·) (rmsT_apply _ g r j)

end Cert.Reference6Ideal.Dense

end
-- ==== Proof.Dense.Claims.lean ====
/- The statements about the dense calls: each reference's frame, and that each call and its reference leave the same array. -/
module

public import proofs.«01_k».proof.Defs
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Dense.RefNorm
public import proofs.«01_k».proof.Proof.Dense.MlpUp
public import proofs.«01_k».proof.Proof.Dense.Merge
public import proofs.«01_k».proof.Proof.Dense.Down
public import proofs.«01_k».proof.Proof.Dense.OutProj
public import Idealize.ShloMosaic.Adequacy
public import Idealize.ShloMosaic.Init
public import Idealize.ShloMosaic.Lib.Claim

@[expose] public section

noncomputable section

namespace Cert.Proof.Dense

open Idealize.ShloMosaic Idealize.SL.Sem

/-- The input projection's reference leaves its arguments and every counter as they were. -/
theorem frame_ref2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- The input projection and its reference leave the same array. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Dense.outArr (Cert.Kernel2Ideal.Dense.aX m c) (Cert.Kernel2Ideal.Dense.aG m c) (Cert.Kernel2Ideal.Dense.aW m c), ?_, ?_⟩
  · exact (θ_run _ _ _).mono (fun r h c => ⟨(h c).1.trans (Cert.Kernel2Ideal.Dense.final m c), (h c).2⟩) (Cert.Kernel2Ideal.Value.run_blocks m g)
  · refine (θ_run _ _ _).mono (fun r h c => ⟨(h c).1.trans ?_, (h c).2⟩) (Cert.Reference2Ideal.Value.run (F := Ideal) m' g')
    obtain ⟨a0, a1, a2⟩ := hagree c
    rw [a0, a1, a2]
    exact Cert.Reference2Ideal.Dense.projT_eq _ _ _

/-- The reference of the feed-forward layer's first half leaves its arguments and every counter as they were. -/
theorem frame_ref3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

/-- The feed-forward layer's first half and its reference leave the same array. -/
theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Dense.outArr (Cert.Kernel3Ideal.Dense.aX m c) (Cert.Kernel3Ideal.Dense.aG m c) (Cert.Kernel3Ideal.Dense.aW m c), ?_, ?_⟩
  · exact (θ_run _ _ _).mono (fun r h c => ⟨(h c).1.trans (Cert.Kernel3Ideal.Dense.final m c), (h c).2⟩) (Cert.Kernel3Ideal.Value.run_blocks m g)
  · refine (θ_run _ _ _).mono (fun r h c => ⟨(h c).1.trans ?_, (h c).2⟩) (Cert.Reference3Ideal.Value.run (F := Ideal) m' g')
    obtain ⟨a0, a1, a2⟩ := hagree c
    rw [a0, a1, a2]
    exact Cert.Reference3Ideal.Dense.upT_eq _ _ _

/-- The merge's reference leaves its arguments and every counter as they were. -/
theorem frame_ref4 : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

/-- The merge and its reference leave the same array. -/
theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Kernel4Ideal.Dense.outArr (Cert.Kernel4Ideal.Dense.aOa m c) (Cert.Kernel4Ideal.Dense.aOb m c) (Cert.Kernel4Ideal.Dense.aOc m c)
    (Cert.Kernel4Ideal.Dense.aP m c) (Cert.Kernel4Ideal.Dense.aWa m c) (Cert.Kernel4Ideal.Dense.aWb m c) (Cert.Kernel4Ideal.Dense.aWc m c), ?_, ?_⟩
  · exact (θ_run _ _ _).mono (fun r h c => ⟨(h c).1.trans (Cert.Kernel4Ideal.Dense.final m c), (h c).2⟩) (Cert.Kernel4Ideal.Value.run_blocks m g)
  · refine (θ_run _ _ _).mono (fun r h c => ⟨(h c).1.trans ?_, (h c).2⟩) (Cert.Reference4Ideal.Value.run (F := Ideal) m' g')
    obtain ⟨a0, a1, a2, a3, a4, a5, a6⟩ := hagree c
    rw [a0, a1, a2, a3, a4, a5, a6]
    exact Cert.Reference4Ideal.Dense.mergeT_eq _ _ _ _ _ _ _

/-- The reference of the feed-forward layer's second half leaves its arguments and every counter as they were. -/
theorem frame_ref5 : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

/-- The feed-forward layer's second half and its reference leave the same array. -/
theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Kernel5Ideal.Dense.outArr (Cert.Kernel5Ideal.Dense.aA m c) (Cert.Kernel5Ideal.Dense.aW m c) (Cert.Kernel5Ideal.Dense.aX m c)
    (Cert.Kernel5Ideal.Dense.aG m c), ?_, ?_⟩
  · exact (θ_run _ _ _).mono (fun r h c => ⟨(h c).1.trans (Cert.Kernel5Ideal.Dense.final m c), (h c).2⟩) (Cert.Kernel5Ideal.Value.run_blocks m g)
  · refine (θ_run _ _ _).mono (fun r h c => ⟨(h c).1.trans ?_, (h c).2⟩) (Cert.Reference5Ideal.Value.run (F := Ideal) m' g')
    obtain ⟨a0, a1, a2, a3⟩ := hagree c
    rw [a0, a1, a2, a3]
    exact Cert.Reference5Ideal.Dense.downT_eq _ _ _ _

/-- The output projection's reference leaves its arguments and every counter as they were. -/
theorem frame_ref6 : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run (F := Ideal) m g)

/-- The output projection and its reference leave the same array. -/
theorem algebraic6 : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Kernel6Ideal.Dense.outArr (Cert.Kernel6Ideal.Dense.aA m c) (Cert.Kernel6Ideal.Dense.aW m c) (Cert.Kernel6Ideal.Dense.aX m c)
    (Cert.Kernel6Ideal.Dense.aG m c), ?_, ?_⟩
  · exact (θ_run _ _ _).mono (fun r h c => ⟨(h c).1.trans (Cert.Kernel6Ideal.Dense.final m c), (h c).2⟩) (Cert.Kernel6Ideal.Value.run_blocks m g)
  · refine (θ_run _ _ _).mono (fun r h c => ⟨(h c).1.trans ?_, (h c).2⟩) (Cert.Reference6Ideal.Value.run (F := Ideal) m' g')
    obtain ⟨a0, a1, a2, a3⟩ := hagree c
    rw [a0, a1, a2, a3]
    exact Cert.Reference6Ideal.Dense.outT_eq _ _ _ _

end Cert.Proof.Dense

end
-- ==== Proof.Gate.Pieces.lean ====
module

public import proofs.«01_k».proof.Proof.Gen.Kernel7Ideal.Frame
public import Idealize.ShloMosaic.Lib.WholeRead

/-! The forget gate's pieces: the log gates whole, the running sums in sixteen blocks of 128 rows, each block's sums
from the sums of the block before it. -/

@[expose] public section

set_option maxRecDepth 16384

noncomputable section

namespace Cert.Kernel7Ideal.Gate

open Cert.Kernel7Ideal Cert.Kernel7Ideal.Gen
open Idealize.ShloMosaic Idealize.ShloMosaic.TcCoe

variable {F : FTy → Type} [FloatOps F]

theorem rows_inb (b : Fin 16) : ∀ a, (![128 * b.val, 0] : Fin 2 → ℕ) a + S128x128.size a ≤ S2048x128.size a :=
  Fin.forall_fin_two.mpr ⟨by show 128 * b.val + 128 ≤ 2048; omega, by show 0 + 128 ≤ 128; omega⟩
theorem cols_inb (b : Fin 16) : ∀ a, (![0, 0, 128 * b.val] : Fin 3 → ℕ) a + S1x128x128.size a ≤ S1x128x2048.size a := by
  intro a; fin_cases a
  · show 0 + 1 ≤ 1; omega
  · show 0 + 128 ≤ 128; omega
  · show 128 * b.val + 128 ≤ 2048; omega

/-- Rows `128 b ‥ 128 b + 127` of a 2048×128 buffer, and the same columns of a 1×128×2048 one. -/
abbrev rowsRect (b : Fin 16) : Rect S2048x128 := Rect.unit (s := S2048x128) ![128 * b.val, 0] S128x128.size (rows_inb b)
abbrev colsRect (b : Fin 16) : Rect S1x128x2048 := Rect.unit (s := S1x128x2048) ![0, 0, 128 * b.val] S1x128x128.size (cols_inb b)

def rowsPiece (P : Fin 16 → Vec F S128x128 .f32) (b : Fin 16) : View.Piece (Elt F) S2048x128 .f32 := ⟨rowsRect b, P b⟩
def colsPiece (P : Fin 16 → Vec F S1x128x128 .f32) (b : Fin 16) : View.Piece (Elt F) S1x128x2048 .f32 := ⟨colsRect b, P b⟩

/-- The blocks, the last one first. -/
def blocks : List (Fin 16) := [15, 14, 13, 12, 11, 10, 9, 8, 7, 6, 5, 4, 3, 2, 1, 0]

/-- The running sums of block `n`, from the blocks of log gates. -/
def sums (L : ℕ → Vec F S128x128 .f32) : ℕ → FVec F S128x128 .f32
  | 0 => k0_pay6 (L 0)
  | n + 1 => k0_pay2 k0_pay5 (sums L n) (L (n + 1))

/-- A block of sums, turned. -/
def turned (v : FVec F S128x128 .f32) : FVec F S1x128x128 .f32 :=
  shapeCast S1x128x128 (transpose S128x128 [1, 0] v transposes_S128x128_p1_0_S128x128) shapeCasts_S128x128_S1x128x128

variable (c : Dev nD) (i : grid0.Coords) (arg1 : Memref sig .tc .vmem S2048x128 .f32) (harg1 : arg1.IsWhole) (arg2 : Memref sig .tc .vmem S1x1x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x128x2048 .f32) (harg5 : arg5.IsWhole) (x0 : Vec F S2048x128 .f32) (x1 : Vec F S1x1x128 .f32)

theorem inb_all : ∀ a, (![0, 0] : Fin 2 → ℕ) a + S2048x128.size a ≤ S2048x128.size a := inb_S2048x128_S2048x128_0_0

/-- What the body stores to the log gates. -/
def gatePieces (x0 : Vec F S2048x128 .f32) (x1 : Vec F S1x1x128 .f32) : List (View.Piece (Elt F) S2048x128 .f32) := kernelRun0_A.sl.H2_1 c arg1 harg1 arg2 harg2 x0 x1

/-- Block `n` of the log gates, as the body loads it. -/
def gateBlock (n : ℕ) : Vec F S128x128 .f32 :=
  if h : n < 16 then arg3.view.readCov (kernelRun0_A.sl.H2_1 c arg1 harg1 arg2 harg2 x0 x1) (rowsRect ⟨n, h⟩).toLoadRect else fun _ => Scalar.ofBits .f32 0x00000000#32

theorem run_rows : (kernelRun0_A c i arg1 harg1 arg2 harg2 arg3 harg3 arg4 harg4 arg5 harg5 x0 x1).2.1
    = blocks.map (rowsPiece fun b => sums (gateBlock c arg1 harg1 arg2 harg2 arg3 x0 x1) b.val) := rfl

theorem run_cols : (kernelRun0_A c i arg1 harg1 arg2 harg2 arg3 harg3 arg4 harg4 arg5 harg5 x0 x1).2.2.1
    = blocks.map (colsPiece fun b => turned (sums (gateBlock c arg1 harg1 arg2 harg2 arg3 x0 x1) b.val)) := rfl

end Cert.Kernel7Ideal.Gate

end
-- ==== Proof.Gate.Sums.lean ====
module

public import proofs.«01_k».proof.Proof.Gate.Pieces
public import Idealize.ShloMosaic.Lib.Pointwise

/-! The values of the forget gate's pieces: log gates are never plus infinity, so splitting one in three parts and summing the
parts' products with zeros and ones gives the sum of the log gates themselves; a block's sums are prefix sums. -/

@[expose] public section

set_option maxRecDepth 16384

noncomputable section

namespace Cert.Gate

open Idealize.ShloMosaic

/-- The log of the logistic function, as both sides compute it. -/
def logsig (z : EReal) : EReal := -(max (-z) 0 + Ideal.log1p (Ideal.exp (-(max z (-z)))))

theorem exp_nonneg (x : EReal) : 0 ≤ Ideal.exp x := by
  induction x with
  | bot => exact le_refl _
  | top => exact le_top
  | coe r => exact EReal.coe_nonneg.mpr (Real.exp_pos r).le

theorem log1p_ne_bot {y : EReal} (h : 0 ≤ y) : Ideal.log1p y ≠ ⊥ := by
  induction y with
  | bot => exact absurd h (by decide)
  | top =>
    have e : (1 : EReal) + ⊤ = ⊤ := EReal.add_top_of_ne_bot (by decide)
    unfold Ideal.log1p
    rw [e]
    exact (by decide : (⊤ : EReal) ≠ ⊥)
  | coe r =>
    have hr : 0 ≤ r := EReal.coe_nonneg.mp h
    have e : (1 : EReal) + (r : EReal) = ((1 + r : ℝ) : EReal) := rfl
    unfold Ideal.log1p
    rw [e]
    show (if 1 + r ≤ 0 then _ else _) ≠ (⊥ : EReal)
    rw [if_neg (by linarith)]
    exact EReal.coe_ne_bot _

/-- A log gate is never plus infinity. -/
theorem logsig_ne_top (z : EReal) : logsig z ≠ ⊤ := by
  unfold logsig
  rw [Ne, EReal.neg_eq_top_iff, EReal.add_eq_bot_iff, not_or]
  exact ⟨ne_of_gt (lt_of_lt_of_le EReal.bot_lt_zero (le_max_right _ _)), log1p_ne_bot (exp_nonneg _)⟩

/-- The rests of a value split in three add nothing to it. -/
theorem split_add {v : EReal} (h : v ≠ ⊤) : v + ((v - v) + ((v - v) - (v - v))) = v := by
  induction v with
  | bot => exact EReal.bot_add _
  | top => exact absurd rfl h
  | coe r =>
    have e : (r : EReal) - (r : EReal) = 0 := by rw [← EReal.coe_sub, sub_self, EReal.coe_zero]
    rw [e, sub_zero, add_zero, add_zero]

/-- The weight of entry `(r, k)` of the lower triangle. -/
def tri (r k : ℕ) : EReal := if k ≤ r then 1 else 0

/-- The three products add up to the sum over the triangle's row. -/
theorem three_sums {N : ℕ} (r : ℕ) (v : Fin N → EReal) (h : ∀ k, v k ≠ ⊤) :
    (∑ k : Fin N, tri r k.val * v k) + ((∑ k : Fin N, tri r k.val * (v k - v k)) + ∑ k : Fin N, tri r k.val * ((v k - v k) - (v k - v k)))
      = ∑ k : Fin N, if k.val ≤ r then v k else 0 := by
  rw [← Finset.sum_add_distrib, ← Finset.sum_add_distrib]
  refine Finset.sum_congr rfl fun k _ => ?_
  unfold tri
  split
  · rw [one_mul, one_mul, one_mul, split_add (h k)]
  · rw [zero_mul, zero_mul, zero_mul, add_zero, add_zero]

/-- The entries up to `r`, as a sum over a range. -/
theorem sum_upto {N : ℕ} (f : ℕ → EReal) (r : ℕ) (hr : r < N) : (∑ k : Fin N, if k.val ≤ r then f k.val else 0) = ∑ k ∈ Finset.range (r + 1), f k := by
  rw [← Finset.sum_range (fun k => if k ≤ r then f k else 0), ← Finset.sum_filter]
  refine Finset.sum_congr (Finset.ext fun k => ?_) fun _ _ => rfl
  rw [Finset.mem_filter, Finset.mem_range, Finset.mem_range]
  omega

end Cert.Gate

namespace Cert.Kernel7Ideal.Gate

open Cert.Kernel7Ideal Cert.Kernel7Ideal.Gen Cert.Gate
open Idealize.ShloMosaic Idealize.ShloMosaic.TcCoe

/-- The log gates, entry by entry. -/
theorem gate_apply (x : Vec Ideal S2048x128 .f32) (b : Vec Ideal S1x1x128 .f32) (r : Fin 2048) (d : Fin 128) :
    k0_pay4 (F := Ideal) x b (ix2 r d) = logsig (x (ix2 r d) + b (ix3 0 0 d)) := by
  unfold logsig
  pointwise [k0_pay4]
  rw [zero_sub, zero_sub, zero_sub]
  rfl

/-- The lower triangle, entry by entry. -/
theorem tri_apply (r k : Fin 128) : k0_pay5 (F := Ideal) (ix2 r k) = tri r.val k.val := by
  pointwise [k0_pay5]
  have hr := r.isLt
  have hk := k.isLt
  have hc : IntOp.cmpi CmpIPredicate.sge (BitVec.ofNat 32 r.val) (BitVec.ofNat 32 k.val) = 1#1 ↔ k.val ≤ r.val := by
    rw [Idealize.ShloMosaic.WordCmp.cmpi_sge_ofNat_eq_one_iff (by norm_num; omega) (by norm_num; omega)]
  unfold tri
  by_cases h : k.val ≤ r.val
  · rw [if_pos h, hc.mpr h]
    exact EReal.coe_eq_one.mpr (by norm_num)
  · rw [if_neg h, (BitVec.eq_zero_or_eq_one _).resolve_right fun e => h (hc.mp e)]
    exact EReal.coe_eq_zero.mpr (by norm_num)

/-- One block's sums over the block before it. -/
theorem step_apply (t : Vec Ideal S128x128 .bf16) (p v : Vec Ideal S128x128 .f32) (r d : Fin 128) :
    k0_pay2 (F := Ideal) t p v (ix2 r d)
      = (∑ k : Fin 128, t (ix2 r k) * v (ix2 k d)) + ((∑ k : Fin 128, t (ix2 r k) * (v (ix2 k d) - v (ix2 k d)))
          + ∑ k : Fin 128, t (ix2 r k) * ((v (ix2 k d) - v (ix2 k d)) - (v (ix2 k d) - v (ix2 k d)))) + p (ix2 127 d) := by
  pointwise [k0_pay2]

/-- The first block's sums. -/
theorem first_apply (v : Vec Ideal S128x128 .f32) (r d : Fin 128) :
    k0_pay6 (F := Ideal) v (ix2 r d)
      = (∑ k : Fin 128, k0_pay5 (F := Ideal) (ix2 r k) * v (ix2 k d)) + ((∑ k : Fin 128, k0_pay5 (F := Ideal) (ix2 r k) * (v (ix2 k d) - v (ix2 k d)))
          + ∑ k : Fin 128, k0_pay5 (F := Ideal) (ix2 r k) * ((v (ix2 k d) - v (ix2 k d)) - (v (ix2 k d) - v (ix2 k d)))) := by
  pointwise [k0_pay6]

/-- A turned block, entry by entry. -/
theorem turned_apply (v : FVec Ideal S128x128 .f32) (d r : Fin 128) : turned v (ix3 0 d r) = v (ix2 r d) := by
  pointwise [turned]

/-- The sums of block `n` are the sums over all rows so far. -/
theorem sums_apply (L : ℕ → Vec Ideal S128x128 .f32) (f : ℕ → EReal) (d : Fin 128) (hf : ∀ i, f i ≠ ⊤) (n : ℕ)
    (hL : ∀ j, j ≤ n → ∀ k : Fin 128, L j (ix2 k d) = f (128 * j + k.val)) (r : Fin 128) :
    sums L n (ix2 r d) = ∑ i ∈ Finset.range (128 * n + r.val + 1), f i := by
  induction n generalizing r with
  | zero =>
    unfold sums
    rw [first_apply]
    simp only [hL 0 le_rfl, tri_apply]
    rw [three_sums r.val _ fun k => hf _, sum_upto (fun k => f (128 * 0 + k)) r.val r.isLt]
    simp only [Nat.mul_zero, Nat.zero_add]
  | succ n ih =>
    unfold sums
    rw [step_apply, ih (fun j hj => hL j (Nat.le_succ_of_le hj)) 127]
    simp only [hL (n + 1) le_rfl, tri_apply]
    rw [three_sums r.val _ fun k => hf _, sum_upto (fun k => f (128 * (n + 1) + k)) r.val r.isLt, add_comm,
      show 128 * n + (127 : Fin 128).val + 1 = 128 * (n + 1) from by show 128 * n + 127 + 1 = _; omega, ← Finset.sum_range_add, Nat.add_assoc]

end Cert.Kernel7Ideal.Gate

end
-- ==== Proof.Gate.Scan.lean ====
module

public import proofs.«01_k».proof.Proof.Gen.Reference7Ideal.Run
public import proofs.«01_k».proof.Proof.Gate.Sums
public import Idealize.ShloMosaic.Lib.Pointwise

/-! The reference's log gates and running sums: a sum over a window that ends at a row is the sum over the rows up to it. -/

@[expose] public section

set_option maxRecDepth 16384

noncomputable section

namespace Cert.Gate

open Idealize.ShloMosaic

/-- Folding sums from zero is summing. -/
theorem foldl_sum {ι : Type} (l : List ι) (f : ι → EReal) (z : EReal) : l.foldl (fun r n => r + f n) z = z + (l.map f).sum := by
  induction l generalizing z with
  | nil => exact (add_zero z).symm
  | cons a l ih => rw [List.foldl_cons, ih, List.map_cons, List.sum_cons, add_assoc]

/-- The window: one sequence, 2048 rows, one lane. -/
abbrev Win : Shape := ⟨3, ![1, 2048, 1]⟩

/-- A window's position is its row. -/
def winRow : Win.Idx ≃ Fin 2048 where
  toFun w := w 1
  invFun k := ix3 0 k 0
  left_inv w := by
    refine (eq_ix3 w).trans ?_ |>.symm
    rw [Subsingleton.elim (α := Fin 1) (w 0) 0, Subsingleton.elim (α := Fin 1) (w 2) 0]
  right_inv k := rfl

/-- The rows of the window that ends at row `j`. -/
theorem sum_window (g : ℕ → EReal) (j : ℕ) (hj : j < 2048) :
    (∑ k : Fin 2048, if 2047 ≤ j + k.val then g (j + k.val - 2047) else 0) = ∑ i ∈ Finset.range (j + 1), g i := by
  rw [← Finset.sum_range (fun k => if 2047 ≤ j + k then g (j + k - 2047) else 0), show 2048 = (2047 - j) + (j + 1) from by omega, Finset.sum_range_add,
    Finset.sum_eq_zero fun k hk => if_neg (by have := Finset.mem_range.mp hk; omega), zero_add]
  refine Finset.sum_congr rfl fun k hk => ?_
  rw [if_pos (by omega), show j + (2047 - j + k) - 2047 = k from by omega]

end Cert.Gate

namespace Cert.Reference7Ideal.Gate

open Cert.Reference7Ideal Cert.Reference7Ideal.Gen Cert.Gate
open Idealize.ShloMosaic Idealize.ShloMosaic.TcCoe

/-- A running sum along the rows of each sequence, entry by entry. -/
theorem scan_apply (x : FVec Ideal S4x2048x128 .f32) (z : FVec Ideal S_ .f32) (hz : z ix0 = 0) (g : ℕ → EReal) (b : Fin 4) (d : Fin 128)
    (hx : ∀ i : Fin 2048, x (ix3 b i d) = g i.val) (j : Fin 2048) :
    Host.reduceWindowAdd ![1, 2048, 1] ![1, 1, 1] ![0, 2047, 0] ![0, 0, 0] x z reduceWindows_S4x2048x128_S4x2048x128_w1s1p0_0_w2048s1p2047_0_w1s1p0_0 h_S_ (ix3 b j d)
      = ∑ i ∈ Finset.range (j.val + 1), g i := by
  have hz' : z (Shape.Idx.first h_S_) = 0 := (congrArg z (funext fun a => a.elim0)).trans hz
  have hj := j.isLt
  unfold Host.reduceWindowAdd
  rw [Ideal.hostReduceWindowAdd_def, hz']
  unfold Ideal.hostReduceWindowAdd Host.reduceWindow
  refine (foldl_sum _ _ _).trans ?_
  rw [zero_add, ← Fin.sum_univ_def, ← sum_window g j.val hj]
  refine Fintype.sum_equiv (Win.rowMajor.symm.trans winRow) _ _ fun n => ?_
  show _ = if 2047 ≤ j.val + (winRow (Win.rowMajor.symm n)).val then g (j.val + (winRow (Win.rowMajor.symm n)).val - 2047) else 0
  have h0 : (Win.rowMajor.symm n 0).val = 0 := Nat.lt_one_iff.mp (Win.rowMajor.symm n 0).isLt
  have h2 : (Win.rowMajor.symm n 2).val = 0 := Nat.lt_one_iff.mp (Win.rowMajor.symm n 2).isLt
  have h1 : (Win.rowMajor.symm n 1).val < 2048 := (Win.rowMajor.symm n 1).isLt
  have e1 : (winRow (Win.rowMajor.symm n)).val = (Win.rowMajor.symm n 1).val := rfl
  have hb := b.isLt
  have hd := d.isLt
  rw [e1]
  dsimp only
  split
  · next hin =>
    have q : 2047 ≤ j.val * 1 + (Win.rowMajor.symm n 1).val := (hin 1).1
    rw [if_pos (by omega), ← hx ⟨j.val + (Win.rowMajor.symm n 1).val - 2047, by omega⟩]
    refine congrArg x (funext fun a => Fin.ext ?_)
    fin_cases a
    · show b.val * 1 + (Win.rowMajor.symm n 0).val - 0 = b.val
      omega
    · show j.val * 1 + (Win.rowMajor.symm n 1).val - 2047 = j.val + (Win.rowMajor.symm n 1).val - 2047
      omega
    · show d.val * 1 + (Win.rowMajor.symm n 2).val - 0 = d.val
      omega
  · next hin =>
    rw [if_neg fun q => hin fun a => ?_]
    fin_cases a
    · show 0 ≤ b.val * 1 + (Win.rowMajor.symm n 0).val ∧ b.val * 1 + (Win.rowMajor.symm n 0).val - 0 < 4
      omega
    · show 2047 ≤ j.val * 1 + (Win.rowMajor.symm n 1).val ∧ j.val * 1 + (Win.rowMajor.symm n 1).val - 2047 < 2048
      omega
    · show 0 ≤ d.val * 1 + (Win.rowMajor.symm n 2).val ∧ d.val * 1 + (Win.rowMajor.symm n 2).val - 0 < 128
      omega

end Cert.Reference7Ideal.Gate

end
-- ==== Proof.Gate.Final.lean ====
module

public import proofs.«01_k».proof.Proof.Gate.Scan
public import Idealize.ShloMosaic.Lib.Pipeline.ValueKit
public import Idealize.ShloMosaic.Lib.Pipeline.ReadBack
public import Idealize.ShloMosaic.Lib.VecWindow

/-! The three arrays that the forget gate leaves: the log gates, their running sums over the rows of a sequence, and the same sums turned. -/

@[expose] public section

set_option maxRecDepth 16384

noncomputable section

namespace Cert.Kernel7Ideal.Gate

open Cert.Kernel7Ideal Cert.Kernel7Ideal.Gen Cert.Gate
open Idealize.ShloMosaic Idealize.ShloMosaic.TcCoe Idealize.ShloMosaic.Tactic
open Idealize.SL.Sem
open Idealize.ShloMosaic.Pipeline (Dat Cfg Window)

/-- Row `128 b + k` of a block of 2048. -/
abbrev brow (b : Fin 16) (k : Fin 128) : Fin 2048 := ⟨128 * b.val + k.val, by omega⟩

theorem brow_surj (r : Fin 2048) : ∃ (b : Fin 16) (k : Fin 128), r = brow b k :=
  ⟨⟨r.val / 128, by omega⟩, ⟨r.val % 128, by omega⟩, Fin.ext (by show r.val = 128 * (r.val / 128) + r.val % 128; omega)⟩

theorem mem_blocks (b : Fin 16) : b ∈ blocks := by revert b; decide

theorem rows_emb (b : Fin 16) (k d : Fin 128) : (rowsRect b).emb (ix2 k d) = ix2 (brow b k) d := by
  funext a; apply Fin.ext
  rw [Rect.emb_apply]
  fin_cases a <;> simp [rowsRect, ix2, Rect.unit]

theorem cols_emb (b : Fin 16) (d k : Fin 128) : (colsRect b).emb (ix3 0 d k) = ix3 0 d (brow b k) := by
  funext a; apply Fin.ext
  rw [Rect.emb_apply]
  fin_cases a <;> simp [colsRect, ix3, Rect.unit]

section Read
variable {F : FTy → Type} [FloatOps F] {sp : Space}

theorem read_rows (v : View sig .tc sp S2048x128 .f32) (f : v.ty.Contents (Elt F)) (P : Fin 16 → Vec F S128x128 .f32) (b : Fin 16) (k d : Fin 128) :
    v.read (Elt F) (v.writes (Elt F) f (blocks.map (rowsPiece P))) (ix2 (brow b k) d) = P b (ix2 k d) := by
  rw [← rows_emb b k d]
  refine View.read_writes_of_unique v f (rowsPiece P b) (ix2 k d) _ (List.mem_map_of_mem (mem_blocks b)) fun q hq hx => ?_
  obtain ⟨g, -, rfl⟩ := List.mem_map.mp hq
  have hx' : ix2 (brow b k) d ∈ (rowsRect g).set := by rw [← rows_emb b k d]; exact hx
  have h2 : 128 * g.val ≤ 128 * b.val + k.val ∧ 128 * b.val + k.val < 128 * g.val + 128 := Rect.mem_set_unit.mp hx' 0
  rw [show g = b from Fin.ext (by omega)]

theorem read_cols (v : View sig .tc sp S1x128x2048 .f32) (f : v.ty.Contents (Elt F)) (P : Fin 16 → Vec F S1x128x128 .f32) (b : Fin 16) (d k : Fin 128) :
    v.read (Elt F) (v.writes (Elt F) f (blocks.map (colsPiece P))) (ix3 0 d (brow b k)) = P b (ix3 0 d k) := by
  rw [← cols_emb b d k]
  refine View.read_writes_of_unique v f (colsPiece P b) (ix3 0 d k) _ (List.mem_map_of_mem (mem_blocks b)) fun q hq hx => ?_
  obtain ⟨g, -, rfl⟩ := List.mem_map.mp hq
  have hx' : ix3 0 d (brow b k) ∈ (colsRect g).set := by rw [← cols_emb b d k]; exact hx
  have h2 : 128 * g.val ≤ 128 * b.val + k.val ∧ 128 * b.val + k.val < 128 * g.val + 128 := Rect.mem_set_unit.mp hx' 2
  rw [show g = b from Fin.ext (by omega)]
end Read

section Body
variable (c : Dev nD) (i : grid0.Coords) (arg1 : Memref sig .tc .vmem S2048x128 .f32) (harg1 : arg1.IsWhole) (arg2 : Memref sig .tc .vmem S1x1x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x128x2048 .f32) (harg5 : arg5.IsWhole) (x0 : Vec Ideal S2048x128 .f32) (x1 : Vec Ideal S1x1x128 .f32)

/-- A loaded block of log gates is the block of what was stored. -/
theorem gateBlock_apply (n : ℕ) (hn : n < 16) (k d : Fin 128) :
    gateBlock c arg1 harg1 arg2 harg2 arg3 x0 x1 n (ix2 k d) = k0_pay4 (F := Ideal) x0 x1 (ix2 (brow ⟨n, hn⟩ k) d) := by
  unfold gateBlock
  rw [dif_pos hn]
  unfold kernelRun0_A.sl.H2_1
  rw [View.readCov_fill arg3.view inb_S2048x128_S2048x128_0_0 _ _ (rowsRect ⟨n, hn⟩) (by decide)]
  have e0 : View.readAt (Elt Ideal) arg1.view (Rect.unit (s := S2048x128) ![0, 0] S2048x128.size inb_S2048x128_S2048x128_0_0).toLoadRect (harg1.unread x0) = x0 := by
    funext y
    exact (harg1.readAt_unread x0 _ _).trans (congrArg x0 (Rect.emb_unit_full _ y))
  have e1 : View.readAt (Elt Ideal) arg2.view (Rect.unit (s := S1x1x128) ![0, 0, 0] S1x1x128.size inb_S1x1x128_S1x1x128_0_0_0).toLoadRect (harg2.unread x1) = x1 := by
    funext y
    exact (harg2.readAt_unread x1 _ _).trans (congrArg x1 (Rect.emb_unit_full _ y))
  refine (congrArg₂ (fun a b => k0_pay4 (F := Ideal) a b ((rowsRect ⟨n, hn⟩).emb (ix2 k d))) e0 e1).trans ?_
  exact congrArg (k0_pay4 x0 x1) (rows_emb ⟨n, hn⟩ k d)

theorem out2_eq : out0_A_2 (F := Ideal) c i arg1 harg1 arg2 harg2 arg3 harg3 arg4 harg4 arg5 harg5 x0 x1 = k0_pay4 x0 x1 := by
  frame_out

variable (f : ℕ → EReal) (d : Fin 128) (hf : ∀ r : Fin 2048, logsig (x0 (ix2 r d) + x1 (ix3 0 0 d)) = f r.val) (ht : ∀ n, f n ≠ ⊤)
include hf ht

theorem sums_of (b : Fin 16) (k : Fin 128) :
    sums (gateBlock c arg1 harg1 arg2 harg2 arg3 x0 x1) b.val (ix2 k d) = ∑ i ∈ Finset.range ((brow b k).val + 1), f i :=
  sums_apply _ f d ht b.val (fun j hj r => by
    have hb := b.isLt
    rw [gateBlock_apply c arg1 harg1 arg2 harg2 arg3 x0 x1 j (by omega), gate_apply, hf]) k

theorem out3_apply (r : Fin 2048) :
    out0_A_3 (F := Ideal) c i arg1 harg1 arg2 harg2 arg3 harg3 arg4 harg4 arg5 harg5 x0 x1 (ix2 r d) = ∑ i ∈ Finset.range (r.val + 1), f i := by
  obtain ⟨b, k, rfl⟩ := brow_surj r
  unfold out0_A_3
  rw [run_rows, read_rows]
  exact sums_of c arg1 harg1 arg2 harg2 arg3 x0 x1 f d hf ht b k

theorem out4_apply (r : Fin 2048) :
    out0_A_4 (F := Ideal) c i arg1 harg1 arg2 harg2 arg3 harg3 arg4 harg4 arg5 harg5 x0 x1 (ix3 0 d r) = ∑ i ∈ Finset.range (r.val + 1), f i := by
  obtain ⟨b, k, rfl⟩ := brow_surj r
  unfold out0_A_4
  rw [run_cols, read_cols, turned_apply]
  exact sums_of c arg1 harg1 arg2 harg2 arg3 x0 x1 f d hf ht b k
end Body

/-- Row `n`, and lane `d` of the forget logits. -/
abbrev tok (n : ℕ) : Fin 8192 := ⟨n % 8192, Nat.mod_lt _ (by norm_num)⟩
abbrev lane (d : Fin 128) : Fin 17664 := ⟨17408 + d.val, by omega⟩

/-- The log gate of row `n`, lane `d`. -/
def gate (p : FVec Ideal S8192x17664 .f32) (b : FVec Ideal S4x1x128 .f32) (d : Fin 128) (n : ℕ) : EReal := logsig (p (ix2 (tok n) (lane d)) + b (ix3 0 0 d))

/-- The log gates, their running sums along each sequence, and these turned. -/
def gates (p : FVec Ideal S8192x17664 .f32) (b : FVec Ideal S4x1x128 .f32) : FVec Ideal S8192x128 .f32 := fun y => gate p b (y 1) (y 0).val
def scans (p : FVec Ideal S8192x17664 .f32) (b : FVec Ideal S4x1x128 .f32) : FVec Ideal S8192x128 .f32 := fun y =>
  ∑ i ∈ Finset.range ((y 0).val % 2048 + 1), gate p b (y 1) (2048 * ((y 0).val / 2048) + i)
def scansT (p : FVec Ideal S8192x17664 .f32) (b : FVec Ideal S4x1x128 .f32) : FVec Ideal S4x128x2048 .f32 := fun y =>
  ∑ i ∈ Finset.range ((y 2).val + 1), gate p b (y 1) (2048 * (y 0).val + i)

variable (m : (ℓ : Loc nD τ sig) → Buf (Elt Ideal) ℓ) (c : Dev nD)

abbrev aP : FVec Ideal S8192x17664 .f32 := m ((c : Thread nD τ).loc main_arg0)
abbrev aB : FVec Ideal S4x1x128 .f32 := m ((c : Thread nD τ).loc main_arg1)

/-- Where each window's block lies, in the number of the point. -/
theorem idx : ∀ t : Fin cfg0.N, win0_0.index t = ![t.val, 136] ∧ win0_1.index t = ![0, 0, 0]
    ∧ win0_2.index t = ![t.val, 0] ∧ win0_3.index t = ![t.val, 0] ∧ win0_4.index t = ![t.val, 0, 0] :=
  (by decide +kernel : ∀ t : Fin grid0.N, _)

/-- The blocks of a point: its rows of the forget logits, and the bias of layer 0. -/
abbrev xP (t : Fin cfg0.N) : FVec Ideal S2048x128 .f32 := iblk m c 0 t
abbrev xB (t : Fin cfg0.N) : FVec Ideal S1x1x128 .f32 := iblk m c 1 t

theorem block_p (t : Fin cfg0.N) (r : Fin 2048) (d : Fin 128) : xP m c t (ix2 r d) = aP m c (ix2 (tok (2048 * t.val + r.val)) (lane d)) := by
  have ht : t.val < 4 := t.isLt
  unfold xP
  blk_point [iblk, V, idx t]
theorem block_b (t : Fin cfg0.N) (d : Fin 128) : xB m c t (ix3 0 0 d) = aB m c (ix3 0 0 d) := by
  unfold xB
  blk_point [iblk, V, idx t]

/-- The log gates of the block of a point. -/
theorem block_gate (t : Fin cfg0.N) (d : Fin 128) (r : Fin 2048) :
    logsig (xP m c t (ix2 r d) + xB m c t (ix3 0 0 d)) = gate (aP m c) (aB m c) d (2048 * t.val + r.val) := by
  rw [block_p, block_b]
  rfl

/-- What every point stores. -/
theorem stored2 (t : Fin cfg0.N) (r : Fin 2048) (d : Fin 128) : (outsAt0 m c t).1 (ix2 r d) = gate (aP m c) (aB m c) d (2048 * t.val + r.val) := by
  unfold outsAt0
  dsimp only
  rw [out2_eq]
  exact (gate_apply (xP m c t) (xB m c t) r d).trans (block_gate m c t d r)

theorem stored3 (t : Fin cfg0.N) (r : Fin 2048) (d : Fin 128) :
    (outsAt0 m c t).2.1 (ix2 r d) = ∑ i ∈ Finset.range (r.val + 1), gate (aP m c) (aB m c) d (2048 * t.val + i) := by
  unfold outsAt0
  dsimp only
  rw [out3_apply _ _ _ _ _ _ _ _ _ _ _ _ (iblk m c 0 t) (iblk m c 1 t) (fun n => gate (aP m c) (aB m c) d (2048 * t.val + n)) d (block_gate m c t d) (fun n => logsig_ne_top _) r]

theorem stored4 (t : Fin cfg0.N) (d : Fin 128) (r : Fin 2048) :
    (outsAt0 m c t).2.2 (ix3 0 d r) = ∑ i ∈ Finset.range (r.val + 1), gate (aP m c) (aB m c) d (2048 * t.val + i) := by
  unfold outsAt0
  dsimp only
  rw [out4_apply _ _ _ _ _ _ _ _ _ _ _ _ (iblk m c 0 t) (iblk m c 1 t) (fun n => gate (aP m c) (aB m c) d (2048 * t.val + n)) d (block_gate m c t d) (fun n => logsig_ne_top _) r]

/-- Where a point's blocks of the results lie. -/
theorem emb2 (t : Fin cfg0.N) (r : Fin 2048) (d : Fin 128) (X : FVec Ideal S8192x128 .f32) : X ((win0_2.blk t).view.emb (ix2 r d)) = X (ix2 (tok (2048 * t.val + r.val)) d) := by
  have ht : t.val < 4 := t.isLt
  blk_point [idx t]
theorem emb3 (t : Fin cfg0.N) (r : Fin 2048) (d : Fin 128) (X : FVec Ideal S8192x128 .f32) : X ((win0_3.blk t).view.emb (ix2 r d)) = X (ix2 (tok (2048 * t.val + r.val)) d) := by
  have ht : t.val < 4 := t.isLt
  blk_point [idx t]
theorem emb4 (t : Fin cfg0.N) (d : Fin 128) (r : Fin 2048) (X : FVec Ideal S4x128x2048 .f32) : X ((win0_4.blk t).view.emb (ix3 0 d r)) = X (ix3 t d r) := by
  have ht : t.val < 4 := t.isLt
  blk_point [idx t]

/-- The rows of a point's block, within the whole array. -/
theorem tok_val (t r : ℕ) (ht : t < 4) (hr : r < 2048) : (tok (2048 * t + r)).val = 2048 * t + r := Nat.mod_eq_of_lt (by omega)

theorem final2 : (dats m 0 c).arrAt 2 (cfgs 0).N = gates (aP m c) (aB m c) := by
  refine (dats m 0 c).arrAt_eq_of_covers 2 _ (by decide +kernel) fun t hf y => ?_
  blk_simp
  rw [after0_2]
  obtain ⟨r, d, rfl⟩ : ∃ (r : Fin 2048) (d : Fin 128), y = ix2 r d := ⟨y 0, y 1, eq_ix2 y⟩
  refine (stored2 m c t r d).trans ((emb2 t r d (gates (aP m c) (aB m c))).trans ?_).symm
  show gate _ _ d (tok (2048 * t.val + r.val)).val = _
  rw [tok_val t.val r.val t.isLt r.isLt]

theorem final3 : (dats m 0 c).arrAt 3 (cfgs 0).N = scans (aP m c) (aB m c) := by
  refine (dats m 0 c).arrAt_eq_of_covers 3 _ (by decide +kernel) fun t hf y => ?_
  blk_simp
  rw [after0_3]
  obtain ⟨r, d, rfl⟩ : ∃ (r : Fin 2048) (d : Fin 128), y = ix2 r d := ⟨y 0, y 1, eq_ix2 y⟩
  refine (stored3 m c t r d).trans ((emb3 t r d (scans (aP m c) (aB m c))).trans ?_).symm
  show ∑ i ∈ Finset.range ((tok (2048 * t.val + r.val)).val % 2048 + 1), gate _ _ d (2048 * ((tok (2048 * t.val + r.val)).val / 2048) + i) = _
  have hr := r.isLt
  rw [tok_val t.val r.val t.isLt hr, show (2048 * t.val + r.val) % 2048 = r.val from by omega, show (2048 * t.val + r.val) / 2048 = t.val from by omega]

theorem final4 : (dats m 0 c).arrAt 4 (cfgs 0).N = scansT (aP m c) (aB m c) := by
  refine (dats m 0 c).arrAt_eq_of_covers 4 _ (by decide +kernel) fun t hf y => ?_
  blk_simp
  rw [after0_4]
  obtain ⟨d, r, rfl⟩ : ∃ (d : Fin 128) (r : Fin 2048), y = ix3 0 d r :=
    ⟨y 1, y 2, (eq_ix3 y).trans (by rw [Subsingleton.elim (α := Fin 1) (y 0) 0])⟩
  exact (stored4 m c t d r).trans (emb4 t d r (scansT (aP m c) (aB m c))).symm

end Cert.Kernel7Ideal.Gate

namespace Cert.Reference7Ideal.Gate

open Cert.Reference7Ideal Cert.Reference7Ideal.Gen Cert.Gate Cert.Kernel7Ideal.Gate
open Idealize.ShloMosaic Idealize.ShloMosaic.TcCoe

variable (p : FVec Ideal S8192x17664 .f32) (b : FVec Ideal S4x1x128 .f32)

/-- The forget logits with the bias, and the log of their logistic function, as the reference prints them. -/
def logitsT : FVec Ideal S8192x128 .f32 := addf (extractStridedSlice S8192x128 ![0, 17408] p slices_S8192x17664_S8192x128_0_17408)
  (broadcastInDim S8192x128 ![0, 1] bcast_S1x128_S8192x128_0_1 (shapeCast S1x128 (extractStridedSlice S1x1x128 ![0, 0, 0] b slices_S4x1x128_S1x1x128_0_0_0) shapeCasts_S1x1x128_S1x128))

def zeroT : FVec Ideal S8192x128 .f32 := broadcastInDim S8192x128 ![] bcast_S_S8192x128 (constant S_ .f32 0x00000000#32)
def gatesT : FVec Ideal S8192x128 .f32 :=
  Host.negf (select (cmpf .une (subf (Host.negf (logitsT p b)) zeroT) (subf (Host.negf (logitsT p b)) zeroT)) (addf (Host.negf (logitsT p b)) zeroT)
    (addf (maximumf (Host.negf (logitsT p b)) zeroT) (Host.log1p (Host.exp (Host.negf (Host.absf (subf (Host.negf (logitsT p b)) zeroT)))))))
def scansRef : FVec Ideal S4x2048x128 .f32 :=
  Host.reduceWindowAdd ![1, 2048, 1] ![1, 1, 1] ![0, 2047, 0] ![0, 0, 0] (shapeCast S4x2048x128 (gatesT p b) shapeCasts_S8192x128_S4x2048x128)
    (broadcastInDim S_ ![] bcast_S_S_ (constant (F := Ideal) S_ .f32 0x00000000#32)) reduceWindows_S4x2048x128_S4x2048x128_w1s1p0_0_w2048s1p2047_0_w1s1p0_0 h_S_

theorem logits_apply (r : Fin 8192) (d : Fin 128) : logitsT p b (ix2 r d) = p (ix2 r (lane d)) + b (ix3 0 0 d) := by
  pointwise [logitsT]

theorem zero_apply (r : Fin 8192) (d : Fin 128) : zeroT (ix2 r d) = 0 := by
  pointwise [zeroT]

theorem gatesT_apply (r : Fin 8192) (d : Fin 128) : gatesT p b (ix2 r d) = gate p b d r.val := by
  have e : tok r.val = r := Fin.ext (Nat.mod_eq_of_lt r.isLt)
  unfold gate
  rw [e, ← logits_apply]
  have hz := zero_apply r d
  unfold gatesT
  generalize logitsT p b = z at *
  generalize zeroT = o at *
  pointwise
  rw [if_neg fun h => h rfl, hz, sub_zero]
  unfold logsig
  show -(max _ _ + Ideal.log1p (Ideal.exp (-max (-z (ix2 r d)) (- -z (ix2 r d))))) = _
  rw [neg_neg, max_comm (-z (ix2 r d)) (z (ix2 r d))]

theorem scansRef_apply (s : Fin 4) (j : Fin 2048) (d : Fin 128) :
    scansRef p b (ix3 s j d) = ∑ i ∈ Finset.range (j.val + 1), gate p b d (2048 * s.val + i) := by
  unfold scansRef
  refine scan_apply _ _ ?_ (fun i => gate p b d (2048 * s.val + i)) s d (fun i => ?_) j
  · pointwise
  · have e : shapeCast S4x2048x128 (gatesT p b) shapeCasts_S8192x128_S4x2048x128 (ix3 s i d) = gatesT p b (ix2 ⟨2048 * s.val + i.val, by omega⟩ d) := by
      generalize gatesT p b = z
      pointwise
      exact congrArg z (congrArg (ix2 · d) (Fin.ext (congrArg (· + i.val) (Nat.mul_comm _ _))))
    exact e.trans (gatesT_apply p b _ d)

theorem v5_eq : gatesT p b = gates p b := funext fun y => by
  rw [eq_ix2 y]
  exact gatesT_apply p b _ _

theorem v9_eq : transpose S4x128x2048 [0, 2, 1] (scansRef p b) transposes_S4x2048x128_S4x128x2048_0_2_1 = scansT p b := funext fun y => by
  rw [eq_ix3 y]
  refine Eq.trans ?_ (scansRef_apply p b (y 0) (y 2) (y 1))
  generalize scansRef p b = z
  pointwise

theorem v8_eq : shapeCast S8192x128 (scansRef p b) shapeCasts_S4x2048x128_S8192x128 = scans p b := funext fun y => by
  obtain ⟨r, d, rfl⟩ : ∃ (r : Fin 8192) (d : Fin 128), y = ix2 r d := ⟨y 0, y 1, eq_ix2 y⟩
  refine Eq.trans ?_ (scansRef_apply p b ⟨r.val / 2048, by omega⟩ ⟨r.val % 2048, by omega⟩ d)
  generalize scansRef p b = z
  pointwise

end Cert.Reference7Ideal.Gate

end
-- ==== Proof.Gate.Claims.lean ====
/- The statements about the forget gate: its reference's frame, and that the call and its reference leave the same three arrays. -/
module

public import proofs.«01_k».proof.Defs
public import proofs.«01_k».proof.Proof.Gen.Kernel7Ideal.Value
public import proofs.«01_k».proof.Proof.Gate.Final
public import Idealize.ShloMosaic.Adequacy
public import Idealize.ShloMosaic.Init
public import Idealize.ShloMosaic.Lib.Claim

@[expose] public section

noncomputable section

namespace Cert.Proof.Gate

open Idealize.ShloMosaic Idealize.SL.Sem
open Cert.Kernel7Ideal.Gate

/-- The forget gate's reference leaves its arguments and every counter as they were. -/
theorem frame_ref7 : Cert.quiescent_Reference7Ideal (hReference7Ideal := Cert.Reference7Ideal.Gen.facts) := fun m g _ =>
  (θ_run Cert.Reference7Ideal.defs _ _).mono (fun r h => ⟨fun c => (h c).2.2.2, sem_eq_zero_of_no_sems (by decide) r.2⟩)
    (Cert.Reference7Ideal.Value.run (F := Ideal) m g)

/-- The forget gate and its reference leave the same log gates and running sums. -/
theorem algebraic7 : Cert.algebraic_Kernel7Ideal_Reference7Ideal (hKernel7Ideal := Cert.Kernel7Ideal.Gen.facts)
    (hReference7Ideal := Cert.Reference7Ideal.Gen.facts) := by
  intro m g m' g' _ hagree
  refine ⟨fun c => gates (aP m c) (aB m c), fun c => scans (aP m c) (aB m c), fun c => scansT (aP m c) (aB m c), ?_, ?_⟩
  · exact (θ_run _ _ _).mono (fun r h c => ⟨(h c).1.trans (final2 m c), (h c).2.1.trans (final3 m c), (h c).2.2.1.trans (final4 m c), (h c).2.2.2⟩)
      (Cert.Kernel7Ideal.Value.run_blocks m g)
  · refine (θ_run _ _ _).mono (fun r h c => ⟨(h c).1.trans ?_, (h c).2.1.trans ?_, (h c).2.2.1.trans ?_, (h c).2.2.2⟩) (Cert.Reference7Ideal.Value.run (F := Ideal) m' g')
    all_goals
      obtain ⟨a0, a1⟩ := hagree c
      rw [a0, a1]
    · exact Cert.Reference7Ideal.Gate.v5_eq _ _
    · exact Cert.Reference7Ideal.Gate.v8_eq _ _
    · exact Cert.Reference7Ideal.Gate.v9_eq _ _

end Cert.Proof.Gate

end
-- ==== Proof.Sample.Proj.lean ====
module

public import proofs.«01_k».proof.Proof.Gen.Kernel8Ideal.Frame
public import proofs.«01_k».proof.Proof.Gen.Reference8Ideal.Run
public import proofs.«01_k».proof.Proof.Dense.InProj
public import Idealize.ShloMosaic.Lib.Pipeline.ValueKit
public import Idealize.ShloMosaic.Lib.Pointwise

/-! The input projection of the sample batch: one block of 512 rows, normed once, against the weights in 23 column blocks. -/

@[expose] public section

set_option maxRecDepth 16384

noncomputable section

namespace Cert.Kernel8Ideal.Sample

open Cert.Kernel8Ideal Cert.Kernel8Ideal.Gen
open Idealize.ShloMosaic Idealize.ShloMosaic.TcCoe Idealize.ShloMosaic.Tactic
open Idealize.SL.Sem
open Idealize.ShloMosaic.Pipeline (Dat Cfg Window)
open Cert.Kernel2Ideal.Dense (factor)

/-- Entry `(r, d)` of the normed sample rows, scaled by the gains of layer 0. -/
def rowNorm (x : FVec Ideal S512x2048 .f32) (g : FVec Ideal S4x1x2048 .f32) (r : Fin 512) (d : Fin 2048) : EReal :=
  x (ix2 r d) * factor (∑ k : Fin 2048, x (ix2 r k) * x (ix2 r k)) * g (ix3 0 0 d)

/-- The norm's payload at an entry. -/
theorem norm_at (x : Vec Ideal S512x2048 .f32) (g : Vec Ideal S1x1x2048 .f32) (r : Fin 512) (d : Fin 2048) :
    k0_pay1 (F := Ideal) x g (ix2 r d) = x (ix2 r d) * factor (∑ k : Fin 2048, x (ix2 r k) * x (ix2 r k)) * g (ix3 0 0 d) := by
  unfold factor
  pointwise [k0_pay1]

/-- The product's payload at an entry. -/
theorem product_at (n : Vec Ideal S512x2048 .bf16) (w : Vec Ideal S1x2048x768 .bf16) (r : Fin 512) (j : Fin 768) :
    k0_pay2 (F := Ideal) n w (ix2 r j) = ∑ k : Fin 2048, n (ix2 r k) * w (ix3 0 k j) := by
  pointwise [k0_pay2]

variable (m : (ℓ : Loc nD τ sig) → Buf (Elt Ideal) ℓ) (c : Dev nD)

/-- The arguments of device `c`: the sample rows, the gains, the weights. -/
abbrev aX : FVec Ideal S512x2048 .f32 := m ((c : Thread nD τ).loc main_arg0)
abbrev aG : FVec Ideal S4x1x2048 .f32 := m ((c : Thread nD τ).loc main_arg1)
abbrev aW : FVec Ideal S4x2048x17664 .bf16 := m ((c : Thread nD τ).loc main_arg2)

/-- Only the weights and the result move, along the columns. -/
theorem idx : ∀ t : Fin cfg0.N, win0_0.index t = ![0, 0] ∧ win0_1.index t = ![0, 0, 0]
    ∧ win0_2.index t = ![0, 0, t.val] ∧ win0_3.index t = ![0, t.val] :=
  (by decide +kernel : ∀ t : Fin grid0.N, _)

/-- There are fewer points than would start a second row block. -/
theorem first_iff (t : Fin cfg0.N) : t.val % 23 = 0 ↔ t.val = 0 := by
  have := lt_of_lt_of_eq t.isLt (show cfg0.N = 23 from N_0)
  omega

/-- The scratch holds the normed sample rows at every point: the first computes them, the others keep them. -/
theorem carried (n : ℕ) (h : n < cfg0.N) : (outsAt0 m c n h).2 = k0_pay1 (iblk m c 0 ⟨n, h⟩) (iblk m c 1 ⟨n, h⟩) := by
  induction n with
  | zero =>
    rw [outsAt0_A m c ⟨0, h⟩ (Nat.zero_mod _)]
    frame_out
  | succ n ih =>
    have hB : (outsAt0 m c (n + 1) h).2 = (outsAt0 m c n (Nat.lt_of_succ_lt h)).2 := by
      rw [outsAt0_B m c ⟨n + 1, h⟩ (fun e => Nat.succ_ne_zero n ((first_iff ⟨n + 1, h⟩).mp e))]
      rfl
    refine hB.trans ((ih (Nat.lt_of_succ_lt h)).trans ?_)
    congr 1
    funext y
    blk_ext [iblk, V, idx ⟨n, Nat.lt_of_succ_lt h⟩, idx ⟨n + 1, h⟩]

/-- Each point stores the product of the normed rows with its column block of the weights. -/
theorem stored (t : Fin cfg0.N) : (outsAt0 m c t.val t.isLt).1 = k0_pay2 (k0_pay1 (iblk m c 0 t) (iblk m c 1 t)) (iblk m c 2 t) := by
  by_cases h0 : t.val % 23 = 0
  · rw [outsAt0_A m c t h0]
    frame_out
  · rw [← carried m c t.val t.isLt, outsAt0_B m c t h0]
    frame_out
    exact congrArg (k0_pay2 · (iblk m c 2 t)) (Memref.IsWhole.read_unread (Val := Elt Ideal) (Memref.isWhole_whole cc0_scratch0) _)

/-- The sample's projection. -/
def outArr (x : FVec Ideal S512x2048 .f32) (g : FVec Ideal S4x1x2048 .f32) (w : FVec Ideal S4x2048x17664 .bf16) : FVec Ideal S512x17664 .f32 :=
  fun y => ∑ k : Fin 2048, rowNorm x g (y 0) k * w (ix3 0 k (y 1))

/-- The array the call leaves. -/
theorem final : (dats m 0 c).arrAt 3 (cfgs 0).N = outArr (aX m c) (aG m c) (aW m c) := by
  refine (dats m 0 c).arrAt_eq_of_covers 3 _ (by decide +kernel) fun t hf y => ?_
  blk_simp
  rw [after0_3, stored]
  obtain ⟨r, j, rfl⟩ : ∃ (r : Fin 512) (j : Fin 768), y = ix2 r j := ⟨y 0, y 1, eq_ix2 y⟩
  refine (product_at _ _ r j).trans ?_
  unfold outArr rowNorm
  simp only [norm_at]
  blk_point [iblk, V, idx t]

end Cert.Kernel8Ideal.Sample

namespace Cert.Reference8Ideal.Sample

open Cert.Reference8Ideal Cert.Reference8Ideal.Gen
open Idealize.ShloMosaic Idealize.ShloMosaic.TcCoe Idealize.ShloMosaic.Tactic
open Cert.Kernel2Ideal.Dense (factor)
open Cert.Kernel8Ideal.Sample (rowNorm)

/-- The reference's rms norm of the sample rows. -/
def rmsT (x : FVec Ideal S512x2048 .f32) (g : FVec Ideal S4x1x2048 .f32) : FVec Ideal S512x2048 .f32 :=
  mulf (mulf x (broadcastInDim S512x2048 ![0, 1] bcast_S512x1_S512x2048_0_1 (Host.rsqrt (addf (Host.divf (broadcastInDim S512x1 ![0] bcast_S512_S512x1_0 (Host.reduceAdd (mulf x x) (constant S_ .f32 0x00000000#32) reducesTo_S512x2048_S512_d1 h_S_)) (broadcastInDim S512x1 ![] bcast_S_S512x1 (constant S_ .f32 0x45000000#32))) (broadcastInDim S512x1 ![] bcast_S_S512x1 (constant S_ .f32 0x358637BD#32)))))) (broadcastInDim S512x2048 ![0, 1] bcast_S1x2048_S512x2048_0_1 (shapeCast _ (extractStridedSlice S1x1x2048 ![0, 0, 0] g slices_S4x1x2048_S1x1x2048_0_0_0) shapeCasts_S1x1x2048_S1x2048))

/-- That norm at an entry. -/
theorem rmsT_at (x : FVec Ideal S512x2048 .f32) (g : FVec Ideal S4x1x2048 .f32) (r : Fin 512) (d : Fin 2048) :
    rmsT x g (ix2 r d) = rowNorm x g r d := by
  unfold rowNorm factor
  pointwise [rmsT]

/-- The reference's product of normed sample rows with the weights. -/
def projT (n : FVec Ideal S512x2048 .f32) (w : FVec Ideal S4x2048x17664 .bf16) : FVec Ideal S512x17664 .f32 :=
  Host.dotGeneral dot_S512x2048_S2048x17664_S512x17664_1_0_0_1_n_n none (truncf .bf16 n bitsLt_bf16_f32) (shapeCast _ (extractStridedSlice S1x2048x17664 ![0, 0, 0] w slices_S4x2048x17664_S1x2048x17664_0_0_0) shapeCasts_S1x2048x17664_S2048x17664)

/-- That product at an entry. -/
theorem projT_at (n : FVec Ideal S512x2048 .f32) (w : FVec Ideal S4x2048x17664 .bf16) (r : Fin 512) (j : Fin 17664) :
    projT n w (ix2 r j) = ∑ k : Fin 2048, n (ix2 r k) * w (ix3 0 k j) := by
  pointwise [projT]

/-- The reference's result is the array the call leaves. -/
theorem projT_eq (x : FVec Ideal S512x2048 .f32) (g : FVec Ideal S4x1x2048 .f32) (w : FVec Ideal S4x2048x17664 .bf16) :
    projT (rmsT x g) w = Cert.Kernel8Ideal.Sample.outArr x g w := by
  funext y
  obtain ⟨r, j, rfl⟩ : ∃ (r : Fin 512) (j : Fin 17664), y = ix2 r j := ⟨y 0, y 1, eq_ix2 y⟩
  refine (projT_at _ _ r j).trans (Finset.sum_congr rfl fun k _ => ?_)
  exact congrArg (· * w (ix3 0 k j)) (rmsT_at x g r k)

end Cert.Reference8Ideal.Sample

end
-- ==== Proof.Sample.Down.lean ====
module

public import proofs.«01_k».proof.Proof.Gen.Kernel9Ideal.Frame
public import proofs.«01_k».proof.Proof.Gen.Reference9Ideal.Run
public import proofs.«01_k».proof.Proof.Sample.Proj
public import Idealize.ShloMosaic.Lib.Pipeline.ValueKit
public import Idealize.ShloMosaic.Lib.Pointwise

/-! The last product of the sample batch: 512 rows against 8192 by 2048 weights in eight parts, the rows normed and added to the stream. -/

@[expose] public section

set_option maxRecDepth 16384

noncomputable section

namespace Cert.Kernel9Ideal.Sample

open Cert.Kernel9Ideal Cert.Kernel9Ideal.Gen
open Idealize.ShloMosaic Idealize.ShloMosaic.TcCoe Idealize.ShloMosaic.Tactic
open Idealize.SL.Sem
open Idealize.ShloMosaic.Pipeline (Dat Cfg Window)
open Cert.Kernel2Ideal.Dense (factor)
open Cert.Kernel8Ideal.Sample (rowNorm)

/-- The sums start at zero. -/
theorem zero_at (y : S512x2048.Idx) : k0_pay1 (F := Ideal) y = 0 := by
  pointwise [k0_pay1]

/-- A point adds its part of the product. -/
theorem step_at (acc : Vec Ideal S512x2048 .f32) (a : Vec Ideal S512x1024 .bf16) (w : Vec Ideal S1x1024x2048 .bf16) (y : S512x2048.Idx) :
    k0_pay2 (F := Ideal) acc a w y = acc y + ∑ k : Fin 1024, a (ix2 (y 0) k) * w (ix3 0 k (y 1)) := by
  pointwise [k0_pay2]

/-- The last point's payload at an entry. -/
theorem norm_at (s x : Vec Ideal S512x2048 .f32) (g : Vec Ideal S1x1x2048 .f32) (r : Fin 512) (d : Fin 2048) :
    k0_pay3 (F := Ideal) s x g (ix2 r d) = x (ix2 r d) + s (ix2 r d) * factor (∑ k : Fin 2048, s (ix2 r k) * s (ix2 r k)) * g (ix3 0 0 d) := by
  unfold factor
  pointwise [k0_pay3]

variable (m : (ℓ : Loc nD τ sig) → Buf (Elt Ideal) ℓ) (c : Dev nD)

/-- The arguments of device `c`: the left factor, the weights, the stream, the gains. -/
abbrev aA : FVec Ideal S512x8192 .bf16 := m ((c : Thread nD τ).loc main_arg0)
abbrev aW : FVec Ideal S4x8192x2048 .bf16 := m ((c : Thread nD τ).loc main_arg1)
abbrev aX : FVec Ideal S512x2048 .f32 := m ((c : Thread nD τ).loc main_arg2)
abbrev aG : FVec Ideal S4x1x2048 .f32 := m ((c : Thread nD τ).loc main_arg3)

/-- Only the two factors move, along the axis that is summed. -/
theorem idx : ∀ t : Fin cfg0.N, win0_0.index t = ![0, t.val] ∧ win0_1.index t = ![0, t.val, 0]
    ∧ win0_2.index t = ![0, 0] ∧ win0_3.index t = ![0, 0, 0] ∧ win0_4.index t = ![0, 0] :=
  (by decide +kernel : ∀ t : Fin grid0.N, _)

/-- The whole product with the weights of layer 0. -/
def prod (a : FVec Ideal S512x8192 .bf16) (w : FVec Ideal S4x8192x2048 .bf16) : FVec Ideal S512x2048 .f32 :=
  fun y => ∑ l : Fin 8192, a (ix2 (y 0) l) * w (ix3 0 l (y 1))

/-- At the last point the scratch holds the whole product. -/
theorem summed (t : Fin cfg0.N) (h1 : t.val % 8 = 7) : (outsAt0 m c t.val t.isLt).2 = prod (aA m c) (aW m c) := by
  funext y
  obtain ⟨r, d, rfl⟩ : ∃ (r : Fin 512) (d : Fin 2048), y = ix2 r d := ⟨y 0, y 1, eq_ix2 y⟩
  refine (Pipeline.eq_sum_fin_of_reset_step_apply_of_flush (fun n h => (outsAt0 m c n h).2) 8 (fun _ => 0)
    (fun p y => ∑ k : Fin 1024, (show FVec Ideal S512x1024 .bf16 from iblk m c 0 p) (ix2 (y 0) k)
      * (show FVec Ideal S1x1024x2048 .bf16 from iblk m c 1 p) (ix3 0 k (y 1)))
    (fun t h y => ?_) (fun t h y => ?_) t h1 (ix2 r d)).trans ?_
  · dsimp only
    rw [outsAt0_A m c t h (by omega)]
    frame_out
    rw [step_at, zero_at]
  · dsimp only
    by_cases h7 : t.val % 8 = 7
    · rw [outsAt0_C m c t h h7]
      frame_out
      rw [step_at]
      exact congrArg (· + _) (congrFun (Memref.IsWhole.read_unread (Val := Elt Ideal) (Memref.isWhole_whole cc0_scratch0) _) y)
    · rw [outsAt0_B m c t h h7]
      frame_out
      rw [step_at]
      exact congrArg (· + _) (congrFun (Memref.IsWhole.read_unread (Val := Elt Ideal) (Memref.isWhole_whole cc0_scratch0) _) y)
  · unfold prod
    have h0 : 8 * (t.val / 8) = 0 := by
      have := lt_of_lt_of_eq t.isLt (show cfg0.N = 8 from N_0)
      omega
    refine (zero_add _).trans (Fin.sum_mul_add_congr fun s k hl => ?_)
    blk_point [iblk, V, idx ⟨_, Pipeline.run_point_lt_of_flush t h1 s⟩]

/-- The result: the stream plus the normed rows of the product. -/
def outArr (a : FVec Ideal S512x8192 .bf16) (w : FVec Ideal S4x8192x2048 .bf16) (x : FVec Ideal S512x2048 .f32) (g : FVec Ideal S4x1x2048 .f32) :
    FVec Ideal S512x2048 .f32 :=
  fun y => x (ix2 (y 0) (y 1)) + rowNorm (prod a w) g (y 0) (y 1)

/-- The array the call leaves. -/
theorem final : (dats m 0 c).arrAt 4 (cfgs 0).N = outArr (aA m c) (aW m c) (aX m c) (aG m c) := by
  refine (dats m 0 c).arrAt_eq_of_covers 4 _ (by decide +kernel) fun t hf y => ?_
  have h1 := (flush0_4 t).mp hf
  have hs : (outsAt0 m c t.val t.isLt).1 = k0_pay3 (outsAt0 m c t.val t.isLt).2 (iblk m c 2 t) (iblk m c 3 t) := by
    rw [outsAt0_C m c t (by omega) h1]
    frame_out
  blk_simp
  rw [after0_4, hs, summed m c t h1]
  obtain ⟨r, d, rfl⟩ : ∃ (r : Fin 512) (d : Fin 2048), y = ix2 r d := ⟨y 0, y 1, eq_ix2 y⟩
  refine (norm_at _ _ _ r d).trans ?_
  unfold outArr rowNorm
  blk_point [iblk, V, idx t]

end Cert.Kernel9Ideal.Sample

namespace Cert.Reference9Ideal.Sample

open Cert.Reference9Ideal Cert.Reference9Ideal.Gen
open Idealize.ShloMosaic Idealize.ShloMosaic.TcCoe Idealize.ShloMosaic.Tactic
open Cert.Reference8Ideal.Sample (rmsT rmsT_at)

/-- The reference's product with the weights. -/
def prodT (a : FVec Ideal S512x8192 .bf16) (w : FVec Ideal S4x8192x2048 .bf16) : FVec Ideal S512x2048 .f32 :=
  Host.dotGeneral dot_S512x8192_S8192x2048_S512x2048_1_0_0_1_n_n none a (shapeCast _ (extractStridedSlice S1x8192x2048 ![0, 0, 0] w slices_S4x8192x2048_S1x8192x2048_0_0_0) shapeCasts_S1x8192x2048_S8192x2048)

/-- It is the whole product. -/
theorem prodT_eq (a : FVec Ideal S512x8192 .bf16) (w : FVec Ideal S4x8192x2048 .bf16) : prodT a w = Cert.Kernel9Ideal.Sample.prod a w := by
  funext y
  obtain ⟨r, j, rfl⟩ : ∃ (r : Fin 512) (j : Fin 2048), y = ix2 r j := ⟨y 0, y 1, eq_ix2 y⟩
  unfold Cert.Kernel9Ideal.Sample.prod
  pointwise [prodT]

/-- The reference's result is the array the call leaves. -/
theorem downT_eq (a : FVec Ideal S512x8192 .bf16) (w : FVec Ideal S4x8192x2048 .bf16) (x : FVec Ideal S512x2048 .f32) (g : FVec Ideal S4x1x2048 .f32) :
    addf x (rmsT (prodT a w) g) = Cert.Kernel9Ideal.Sample.outArr a w x g := by
  rw [prodT_eq]
  funext y
  obtain ⟨r, j, rfl⟩ : ∃ (r : Fin 512) (j : Fin 2048), y = ix2 r j := ⟨y 0, y 1, eq_ix2 y⟩
  exact congrArg (x (ix2 r j) + ·) (rmsT_at _ g r j)

end Cert.Reference9Ideal.Sample

end
-- ==== Proof.Sample.Claims.lean ====
/- The statements about the sample batch's calls: each reference's frame, and that each call and its reference leave the same array. -/
module

public import proofs.«01_k».proof.Defs
public import proofs.«01_k».proof.Proof.Gen.Kernel8Ideal.Value
public import proofs.«01_k».proof.Proof.Gen.Kernel9Ideal.Value
public import proofs.«01_k».proof.Proof.Sample.Proj
public import proofs.«01_k».proof.Proof.Sample.Down
public import Idealize.ShloMosaic.Adequacy
public import Idealize.ShloMosaic.Init
public import Idealize.ShloMosaic.Lib.Claim

@[expose] public section

noncomputable section

namespace Cert.Proof.Sample

open Idealize.ShloMosaic Idealize.SL.Sem

/-- The reference of the sample's input projection leaves its arguments and every counter as they were. -/
theorem frame_ref8 : Cert.quiescent_Reference8Ideal (hReference8Ideal := Cert.Reference8Ideal.Gen.facts) := fun m g _ =>
  (θ_run Cert.Reference8Ideal.defs _ _).mono (fun r h => ⟨fun c => (h c).2, sem_eq_zero_of_no_sems (by decide) r.2⟩)
    (Cert.Reference8Ideal.Value.run (F := Ideal) m g)

/-- The sample's input projection and its reference leave the same array. -/
theorem algebraic8 : Cert.algebraic_Kernel8Ideal_Reference8Ideal (hKernel8Ideal := Cert.Kernel8Ideal.Gen.facts)
    (hReference8Ideal := Cert.Reference8Ideal.Gen.facts) := by
  intro m g m' g' _ hagree
  refine ⟨fun c => Cert.Kernel8Ideal.Sample.outArr (Cert.Kernel8Ideal.Sample.aX m c) (Cert.Kernel8Ideal.Sample.aG m c) (Cert.Kernel8Ideal.Sample.aW m c), ?_, ?_⟩
  · exact (θ_run _ _ _).mono (fun r h c => ⟨(h c).1.trans (Cert.Kernel8Ideal.Sample.final m c), (h c).2⟩) (Cert.Kernel8Ideal.Value.run_blocks m g)
  · refine (θ_run _ _ _).mono (fun r h c => ⟨(h c).1.trans ?_, (h c).2⟩) (Cert.Reference8Ideal.Value.run (F := Ideal) m' g')
    obtain ⟨a0, a1, a2⟩ := hagree c
    rw [a0, a1, a2]
    exact Cert.Reference8Ideal.Sample.projT_eq _ _ _

/-- The reference of the sample's last product leaves its arguments and every counter as they were. -/
theorem frame_ref9 : Cert.quiescent_Reference9Ideal (hReference9Ideal := Cert.Reference9Ideal.Gen.facts) := fun m g _ =>
  (θ_run Cert.Reference9Ideal.defs _ _).mono (fun r h => ⟨fun c => (h c).2, sem_eq_zero_of_no_sems (by decide) r.2⟩)
    (Cert.Reference9Ideal.Value.run (F := Ideal) m g)

/-- The sample's last product and its reference leave the same array. -/
theorem algebraic9 : Cert.algebraic_Kernel9Ideal_Reference9Ideal (hKernel9Ideal := Cert.Kernel9Ideal.Gen.facts)
    (hReference9Ideal := Cert.Reference9Ideal.Gen.facts) := by
  intro m g m' g' _ hagree
  refine ⟨fun c => Cert.Kernel9Ideal.Sample.outArr (Cert.Kernel9Ideal.Sample.aA m c) (Cert.Kernel9Ideal.Sample.aW m c) (Cert.Kernel9Ideal.Sample.aX m c)
    (Cert.Kernel9Ideal.Sample.aG m c), ?_, ?_⟩
  · exact (θ_run _ _ _).mono (fun r h c => ⟨(h c).1.trans (Cert.Kernel9Ideal.Sample.final m c), (h c).2⟩) (Cert.Kernel9Ideal.Value.run_blocks m g)
  · refine (θ_run _ _ _).mono (fun r h c => ⟨(h c).1.trans ?_, (h c).2⟩) (Cert.Reference9Ideal.Value.run (F := Ideal) m' g')
    obtain ⟨a0, a1, a2, a3⟩ := hagree c
    rw [a0, a1, a2, a3]
    exact Cert.Reference9Ideal.Sample.downT_eq _ _ _ _

end Cert.Proof.Sample

end
-- ==== Proof.Bounds.Kernel.lean ====
module

public import proofs.«01_k».proof.Proof.Gen.Kernel10Ideal.Value
public import Idealize.ShloMosaic.Lib.Pipeline.ValueKit
public import Idealize.ShloMosaic.Lib.Pipeline.ValueKit.Tiles
public import Idealize.ShloMosaic.Lib.Pointwise

/-! The lower bounds: a softmax over four layers, and its running sums less the first layer's share. -/

@[expose] public section

set_option maxRecDepth 16384

noncomputable section

namespace Cert.Kernel10Ideal.Bounds

open Cert.Kernel10Ideal Cert.Kernel10Ideal.Gen
open Idealize.ShloMosaic Idealize.ShloMosaic.TcCoe Idealize.ShloMosaic.Tactic
open Idealize.SL.Sem

/-- The largest of a column's four entries. -/
def colMax (x : FVec Ideal S4x1024 .f32) (d : Fin 1024) : EReal := Finset.univ.fold max (⊥ : EReal) fun k : Fin 4 => x (ix2 k d)

/-- The share of layer `l` in column `d`. -/
def share (x : FVec Ideal S4x1024 .f32) (l : Fin 4) (d : Fin 1024) : EReal :=
  Ideal.div (Ideal.exp (x (ix2 l d) - colMax x d)) (∑ k : Fin 4, Ideal.exp (x (ix2 k d) - colMax x d))

/-- The word of minus infinity is the least value. -/
theorem least : Ideal.ofBits FTy.f32 0xFF800000#32 = (⊥ : EReal) := by
  simp [Ideal.ofBits, Ideal.ieee]

/-- The softmax at an entry. -/
theorem share_at (x : Vec Ideal S4x1024 .f32) (l : Fin 4) (d : Fin 1024) : k0_pay1 (F := Ideal) x (ix2 l d) = share x l d := by
  unfold share colMax
  pointwise [k0_pay1]
  rw [least]

/-- The first row's sum. -/
theorem sum_first (x : Vec Ideal S4x1024 .f32) (d : Fin 1024) : k0_pay2 (F := Ideal) x (ix2 0 d) = share x 0 d := by
  pointwise [k0_pay2, share_at]

/-- The second row's sum. -/
theorem sum_second (x : Vec Ideal S4x1024 .f32) (d : Fin 1024) : k0_pay4 (F := Ideal) x (ix2 0 d) = share x 0 d + share x 1 d := by
  pointwise [k0_pay4, share_at, sum_first]

/-- The third row's sum. -/
theorem sum_third (x : Vec Ideal S4x1024 .f32) (d : Fin 1024) :
    k0_pay6 (F := Ideal) x (ix2 0 d) = share x 0 d + share x 1 d + share x 2 d := by
  pointwise [k0_pay6, share_at, sum_second]

/-- The running sums of the shares, less the first. -/
def outArr (x : FVec Ideal S4x1024 .f32) : FVec Ideal S4x1024 .f32 :=
  fun y => (∑ l : Fin 4, if l ≤ y 0 then share x l (y 1) else 0) - share x 0 (y 1)

/-- A row that is stored whole holds what an array holds there, if their entries agree along the row. -/
theorem row_at (k : Fin 4) (P : FVec Ideal S1x1024 .f32) (X : FVec Ideal S4x1024 .f32) (inb : ∀ a, ![k.val, 0] a + S1x1024.size a ≤ S4x1024.size a)
    (h : ∀ d : Fin 1024, P (ix2 0 d) = X (ix2 k d)) (y : S4x1024.Idx) :
    View.RectAt (Val := Elt Ideal) (e := .f32) y (Rect.unit (s := S4x1024) ![k.val, 0] S1x1024.size inb) P (X y) := by
  intro x hx
  have e : x = ix2 (0 : Fin 1) (x 1) := (eq_ix2 x).trans (congrArg (ix2 · (x 1)) (Subsingleton.elim (α := Fin 1) _ _))
  have hy : y = ix2 k (x 1) := by
    rw [← hx]
    funext a
    refine Fin.ext ?_
    have h0 : (x 0).val = 0 := Nat.lt_one_iff.mp (x 0).isLt
    fin_cases a
    · show k.val + 1 * (x 0).val = k.val
      omega
    · show 0 + 1 * (x 1).val = (x 1).val
      omega
  exact (congrArg P e).trans ((h (x 1)).trans (congrArg X hy.symm))

/-- The array the call leaves. -/
theorem final (x : FVec Ideal S4x1024 .f32) : Value.G1 (F := Ideal) x = outArr x := by
  funext y
  refine View.canon_eq_of_allAt _ _ _ (cover0_1 _ _ _ _ _) ?_
  refine View.allAt_cons _ _ _ (row_at 3 _ _ _ (fun d => ?_) y) (View.allAt_cons _ _ _ (row_at 2 _ _ _ (fun d => ?_) y)
    (View.allAt_cons _ _ _ (row_at 1 _ _ _ (fun d => ?_) y) (View.allAt_cons _ _ _ (row_at 0 _ _ _ (fun d => ?_) y) (View.allAt_nil _ _))))
  · have e : k0_pay8 (F := Ideal) x (ix2 0 d) = share x 0 d + share x 1 d + share x 2 d + share x 3 d - share x 0 d := by
      pointwise [k0_pay8, share_at, sum_third]
    exact e.trans (congrArg (· - share x 0 d) (by simp [Fin.sum_univ_four]))
  · have e : k0_pay7 (F := Ideal) x (ix2 0 d) = share x 0 d + share x 1 d + share x 2 d - share x 0 d := by
      pointwise [k0_pay7, share_at, sum_third]
    exact e.trans (congrArg (· - share x 0 d) (by simp [Fin.sum_univ_four]))
  · have e : k0_pay5 (F := Ideal) x (ix2 0 d) = share x 0 d + share x 1 d - share x 0 d := by
      pointwise [k0_pay5, share_at, sum_second]
    exact e.trans (congrArg (· - share x 0 d) (by simp [Fin.sum_univ_four]))
  · have e : k0_pay3 (F := Ideal) x (ix2 0 d) = share x 0 d - share x 0 d := by
      pointwise [k0_pay3, share_at, sum_first]
    exact e.trans (congrArg (· - share x 0 d) (by simp [Fin.sum_univ_four]))

/-- The argument array of device `c`. -/
abbrev aX (m : (ℓ : Loc nD τ sig) → Buf (Elt Ideal) ℓ) (c : Dev nD) : FVec Ideal S4x1024 .f32 := m ((c : Thread nD τ).loc main_arg0)

end Cert.Kernel10Ideal.Bounds

end
-- ==== Proof.Bounds.Ref.lean ====
module

public import proofs.«01_k».proof.Proof.Gen.Reference10Ideal.Run
public import proofs.«01_k».proof.Proof.Bounds.Kernel
public import proofs.«01_k».proof.Proof.Gate.Scan

/-! The reference of the lower bounds, read at an entry: its softmax, its cumulative sums, the first row taken off. -/

@[expose] public section

set_option maxRecDepth 16384

noncomputable section

namespace Cert.Reference10Ideal.Bounds

open Cert.Reference10Ideal Cert.Reference10Ideal.Gen Cert.Gate
open Idealize.ShloMosaic Idealize.ShloMosaic.TcCoe Idealize.ShloMosaic.Tactic
open Cert.Kernel10Ideal.Bounds (colMax share least)

/-- The columns' maxima. -/
def maxT (x : FVec Ideal S4x1024 .f32) : FVec Ideal S1024 .f32 :=
  Host.reduce FloatOps.maximumf x (constant S_ .f32 0xFF800000#32) reducesTo_S4x1024_S1024_d0 h_S_

/-- The exponentials of the entries less a row of maxima. -/
def expT (x : FVec Ideal S4x1024 .f32) (M : FVec Ideal S1024 .f32) : FVec Ideal S4x1024 .f32 :=
  Host.exp (subf x (broadcastInDim S4x1024 ![0, 1] bcast_S1x1024_S4x1024_0_1 (broadcastInDim S1x1024 ![1] bcast_S1024_S1x1024_1 (maximumf (broadcastInDim S1024 ![] bcast_S_S1024 (constant S_ .f32 0xFF800000#32)) M))))

/-- A column's entries over their sum. -/
def quotT (e : FVec Ideal S4x1024 .f32) : FVec Ideal S4x1024 .f32 :=
  Host.divf e (broadcastInDim S4x1024 ![0, 1] bcast_S1x1024_S4x1024_0_1 (broadcastInDim S1x1024 ![1] bcast_S1024_S1x1024_1 (Host.reduceAdd e (constant S_ .f32 0x00000000#32) reducesTo_S4x1024_S1024_d0 h_S_)))

/-- Cumulative sums down the columns. -/
def cumT (p : FVec Ideal S4x1024 .f32) : FVec Ideal S4x1024 .f32 :=
  Host.reduceWindowAdd ![4, 1] ![1, 1] ![3, 0] ![0, 0] p (broadcastInDim S_ ![] bcast_S_S_ (constant S_ .f32 0x00000000#32)) reduceWindows_S4x1024_S4x1024_w4s1p3_0_w1s1p0_0 h_S_

/-- The sums less the first row. -/
def lessT (q p : FVec Ideal S4x1024 .f32) : FVec Ideal S4x1024 .f32 :=
  subf q (broadcastInDim S4x1024 ![0, 1] bcast_S1x1024_S4x1024_0_1 (broadcastInDim S1x1024 ![1] bcast_S1024_S1x1024_1 (shapeCast _ (extractStridedSlice S1x1024 ![0, 0] p slices_S4x1024_S1x1024_0_0) shapeCasts_S1x1024_S1024)))

/-- A column's maximum, the fold from minus infinity. -/
theorem maxT_at (x : FVec Ideal S4x1024 .f32) (d : Fin 1024) : maxT x (ix1 d) = colMax x d := by
  have hr : S4x1024.Reduces [0] S1024 := ⟨rfl, by decide, reducesTo_S4x1024_S1024_d0.2⟩
  refine (Host.reduce_eq_fold_single FloatOps.maximumf x _ reducesTo_S4x1024_S1024_d0 hr h_S_ (ix1 d)).trans ?_
  have hf : (x ∘ hr.lift (ix1 d)) = fun k : Fin 4 => x (ix2 k d) := by
    funext k
    refine congrArg x (funext fun a => ?_)
    fin_cases a <;> rfl
  rw [hf]
  unfold colMax
  exact congrArg (fun z => Finset.univ.fold max z fun k : Fin 4 => x (ix2 k d)) least

/-- An exponential, entry by entry: the maximum is not below minus infinity. -/
theorem expT_at (x : FVec Ideal S4x1024 .f32) (M : FVec Ideal S1024 .f32) (l : Fin 4) (d : Fin 1024) :
    expT x M (ix2 l d) = Ideal.exp (x (ix2 l d) - M (ix1 d)) := by
  pointwise [expT]
  rw [least, max_eq_right bot_le]

/-- A quotient, entry by entry. -/
theorem quotT_at (e : FVec Ideal S4x1024 .f32) (l : Fin 4) (d : Fin 1024) :
    quotT e (ix2 l d) = Ideal.div (e (ix2 l d)) (∑ k : Fin 4, e (ix2 k d)) := by
  pointwise [quotT]

/-- Taking the first row off, entry by entry. -/
theorem lessT_at (q p : FVec Ideal S4x1024 .f32) (l : Fin 4) (d : Fin 1024) : lessT q p (ix2 l d) = q (ix2 l d) - p (ix2 0 d) := by
  pointwise [lessT]

/-- The softmax, entry by entry. -/
theorem soft_at (x : FVec Ideal S4x1024 .f32) (l : Fin 4) (d : Fin 1024) : quotT (expT x (maxT x)) (ix2 l d) = share x l d := by
  unfold share
  simp only [quotT_at, expT_at, maxT_at]

/-- The window: four rows of one column. -/
abbrev Col : Shape := ⟨2, ![4, 1]⟩

/-- A window's position is its row. -/
def colRow : Col.Idx ≃ Fin 4 where
  toFun w := w 0
  invFun k := ix2 k 0
  left_inv w := ((eq_ix2 w).trans (congrArg (ix2 (w 0)) (Subsingleton.elim (α := Fin 1) (w 1) 0))).symm
  right_inv k := rfl

/-- The rows of the window that ends at row `l` are those up to `l`. -/
theorem sum_col (g : Fin 4 → EReal) (l : Fin 4) :
    (∑ k : Fin 4, if h : 3 ≤ l.val + k.val then g ⟨l.val + k.val - 3, by omega⟩ else 0) = ∑ i : Fin 4, if i ≤ l then g i else 0 := by
  fin_cases l <;> simp [Fin.sum_univ_four] <;> rfl

/-- The cumulative sums, entry by entry. -/
theorem cumT_at (p : FVec Ideal S4x1024 .f32) (l : Fin 4) (d : Fin 1024) :
    cumT p (ix2 l d) = ∑ i : Fin 4, if i ≤ l then p (ix2 i d) else 0 := by
  have hz : ∀ i, (broadcastInDim S_ ![] bcast_S_S_ (constant S_ .f32 0x00000000#32) : FVec Ideal S_ .f32) i = (0 : EReal) := fun i => by
    obtain rfl : i = ix0 := funext fun a => a.elim0
    pointwise
  unfold cumT Host.reduceWindowAdd
  rw [Ideal.hostReduceWindowAdd_def, hz]
  unfold Ideal.hostReduceWindowAdd Host.reduceWindow
  refine (foldl_sum _ _ _).trans ?_
  rw [zero_add, ← Fin.sum_univ_def, ← sum_col (fun i => p (ix2 i d)) l]
  refine Fintype.sum_equiv (Col.rowMajor.symm.trans colRow) _ _ fun n => ?_
  have h1 : (Col.rowMajor.symm n 1).val = 0 := Nat.lt_one_iff.mp (Col.rowMajor.symm n 1).isLt
  have h0 : (Col.rowMajor.symm n 0).val < 4 := (Col.rowMajor.symm n 0).isLt
  have e0 : ((Col.rowMajor.symm.trans colRow) n).val = (Col.rowMajor.symm n 0).val := rfl
  have hd := d.isLt
  have hl := l.isLt
  dsimp only
  split
  · next hin =>
    have q : 3 ≤ l.val * 1 + (Col.rowMajor.symm n 0).val := (hin 0).1
    rw [dif_pos (by omega)]
    refine congrArg p (funext fun a => Fin.ext ?_)
    fin_cases a
    · show l.val * 1 + (Col.rowMajor.symm n 0).val - 3 = l.val + (Col.rowMajor.symm n 0).val - 3
      omega
    · show d.val * 1 + (Col.rowMajor.symm n 1).val - 0 = d.val
      omega
  · next hin =>
    rw [dif_neg fun q => hin fun a => ?_]
    fin_cases a
    · show 3 ≤ l.val * 1 + (Col.rowMajor.symm n 0).val ∧ l.val * 1 + (Col.rowMajor.symm n 0).val - 3 < 4
      omega
    · show 0 ≤ d.val * 1 + (Col.rowMajor.symm n 1).val ∧ d.val * 1 + (Col.rowMajor.symm n 1).val - 0 < 1024
      omega

/-- The reference's result is the array the call leaves. -/
theorem boundsT_eq (x : FVec Ideal S4x1024 .f32) :
    lessT (cumT (quotT (expT x (maxT x)))) (quotT (expT x (maxT x))) = Cert.Kernel10Ideal.Bounds.outArr x := by
  funext y
  obtain ⟨l, d, rfl⟩ : ∃ (l : Fin 4) (d : Fin 1024), y = ix2 l d := ⟨y 0, y 1, eq_ix2 y⟩
  rw [lessT_at, cumT_at]
  simp only [soft_at]
  rfl

end Cert.Reference10Ideal.Bounds

end
-- ==== Proof.Bounds.Claims.lean ====
/- The statements about the lower bounds: the reference's frame, and that the call and the reference leave the same array. -/
module

public import proofs.«01_k».proof.Defs
public import proofs.«01_k».proof.Proof.Gen.Kernel10Ideal.Value
public import proofs.«01_k».proof.Proof.Bounds.Kernel
public import proofs.«01_k».proof.Proof.Bounds.Ref
public import Idealize.ShloMosaic.Adequacy
public import Idealize.ShloMosaic.Init
public import Idealize.ShloMosaic.Lib.Claim

@[expose] public section

noncomputable section

namespace Cert.Proof.Bounds

open Idealize.ShloMosaic Idealize.SL.Sem

/-- The reference of the lower bounds leaves its argument and every counter as they were. -/
theorem frame_ref10 : Cert.quiescent_Reference10Ideal (hReference10Ideal := Cert.Reference10Ideal.Gen.facts) := fun m g _ =>
  (θ_run Cert.Reference10Ideal.defs _ _).mono (fun r h => ⟨fun c => (h c).2, sem_eq_zero_of_no_sems (by decide) r.2⟩)
    (Cert.Reference10Ideal.Value.run (F := Ideal) m g)

/-- The lower bounds' call and its reference leave the same array. -/
theorem algebraic10 : Cert.algebraic_Kernel10Ideal_Reference10Ideal (hKernel10Ideal := Cert.Kernel10Ideal.Gen.facts)
    (hReference10Ideal := Cert.Reference10Ideal.Gen.facts) := by
  intro m g m' g' _ hagree
  refine ⟨fun c => Cert.Kernel10Ideal.Bounds.outArr (Cert.Kernel10Ideal.Bounds.aX m c), ?_, ?_⟩
  · exact (θ_run _ _ _).mono (fun r h c => ⟨(h c).1.trans (Cert.Kernel10Ideal.Bounds.final _), (h c).2⟩) (Cert.Kernel10Ideal.Value.run m g)
  · refine (θ_run _ _ _).mono (fun r h c => ⟨(h c).1.trans ?_, (h c).2⟩) (Cert.Reference10Ideal.Value.run (F := Ideal) m' g')
    rw [hagree c]
    exact Cert.Reference10Ideal.Bounds.boundsT_eq _

end Cert.Proof.Bounds

end
-- ==== Proof.Hgrn.Pieces.lean ====
module

public import proofs.«01_k».proof.Proof.Gen.Kernel12Ideal.Frame
public import Idealize.ShloMosaic.Lib.WholeRead

/-! The linear recurrence's pieces: the transposed state of each head is loaded, updated with one block of tokens and stored
again, the heads one after another; at the end every head's state is turned back. -/

@[expose] public section

set_option maxRecDepth 16384

noncomputable section

namespace Cert.Kernel12Ideal.Hgrn

open Cert.Kernel12Ideal Cert.Kernel12Ideal.Gen
open Idealize.ShloMosaic Idealize.ShloMosaic.TcCoe

variable {F : FTy → Type} [FloatOps F]

theorem head_inb (h : Fin 8) : ∀ a, (![h.val, 0, 0] : Fin 3 → ℕ) a + S1x128x128.size a ≤ S8x128x128.size a := by
  intro a; fin_cases a
  · show h.val + 1 ≤ 8; omega
  · show 0 + 128 ≤ 128; omega
  · show 0 + 128 ≤ 128; omega
theorem whole_inb (h : Fin 8) : ∀ a, (![0, h.val, 0, 0] : Fin 4 → ℕ) a + S1x1x128x128.size a ≤ S1x8x128x128.size a := by
  intro a; fin_cases a
  · show 0 + 1 ≤ 1; omega
  · show h.val + 1 ≤ 8; omega
  · show 0 + 128 ≤ 128; omega
  · show 0 + 128 ≤ 128; omega
theorem col_inb (h : Fin 8) : ∀ a, (![0, 128 * h.val] : Fin 2 → ℕ) a + S64x128.size a ≤ S64x1024.size a :=
  Fin.forall_fin_two.mpr ⟨by show 0 + 64 ≤ 64; omega, by show 128 * h.val + 128 ≤ 1024; omega⟩

/-- Head `h` of the scratch, of the states and of the columns. -/
abbrev headRect (h : Fin 8) : Rect S8x128x128 := Rect.unit (s := S8x128x128) ![h.val, 0, 0] S1x128x128.size (head_inb h)
abbrev stateRect (h : Fin 8) : Rect S1x8x128x128 := Rect.unit (s := S1x8x128x128) ![0, h.val, 0, 0] S1x1x128x128.size (whole_inb h)
abbrev colRect (h : Fin 8) : Rect S64x1024 := Rect.unit (s := S64x1024) ![0, 128 * h.val] S64x128.size (col_inb h)

/-- Head `h`'s columns of a 64×1024 value. -/
def cols (x : FVec F S64x1024 .f32) (h : Fin 8) : FVec F S64x128 .f32 := extractStridedSlice S64x128 ![0, 128 * h.val] x ⟨rfl, col_inb h⟩

/-- One head's update: the sums `g`, the weights `k`, the values `v` of a block and the state as loaded. -/
def update (g k : FVec F S64x128 .f32) (v : Vec F S64x128 .f32) (s : Vec F S1x128x128 .f32) : FVec F S1x128x128 .f32 := k0_pay74 g k v (k0_pay57 s)

/-- The sums of the log decays and the weights, from the bounds and the projection's columns. -/
def decays (i : grid0.Coords) (b : Vec F S1x1x1024 .f32) (x : Vec F S64x1024 .f32) : FVec F S64x1024 .f32 := k0_pay25 (k0_pay18 i) (k0_pay22 b x) (k0_pay23 b x)
def weights (i : grid0.Coords) (b : Vec F S1x1x1024 .f32) (x : Vec F S64x1024 .f32) : FVec F S64x1024 .f32 := k0_pay24 (k0_pay18 i) (k0_pay19 b) x

/-- The heads, the last one first. -/
def heads : List (Fin 8) := [7, 6, 5, 4, 3, 2, 1, 0]

variable (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S1x1x1024 .f32) (harg6 : arg6.IsWhole) (arg7 : Memref sig .tc .vmem S1x1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole) (hc0 : cond0_0 i) (hc1 : cond0_1 i)
  (x0 x1 x2 x3 : Vec F S64x1024 .f32) (x4 : Vec F S1x1x1024 .f32) (x5 : Vec F S1x1x128 .f32) (x6 : Vec F S1x8x128x128 .f32)

/-- The turned states a grid point starts from. -/
def starts : List (View.Piece (Elt F) S8x128x128 .f32) :=
  heads.map fun h => ⟨headRect h, k0_pay6 (arg8.view.readAt (Elt F) (stateRect h).toLoadRect (harg8.unread x6))⟩

/-- The bounds and the columns, as the body loads them. -/
def ldB : Vec F S1x1x1024 .f32 := arg6.view.readAt (Elt F) (Rect.unit (s := S1x1x1024) ![0, 0, 0] S1x1x1024.size inb_S1x1x1024_S1x1x1024_0_0_0).toLoadRect (harg6.unread x4)
def ldX : Vec F S64x1024 .f32 := arg3.view.readAt (Elt F) (Rect.unit (s := S64x1024) ![0, 0] S64x1024.size inb_S64x1024_S64x1024_0_0).toLoadRect (harg3.unread x1)

/-- The scratch's pieces after the first `n` heads. -/
def pieces : ℕ → List (View.Piece (Elt F) S8x128x128 .f32)
  | 0 => starts arg8 harg8 x6
  | n + 1 => if h : n < 8 then
      ⟨headRect ⟨n, h⟩, update (cols (decays i (ldB arg6 harg6 x4) (ldX arg3 harg3 x1)) ⟨n, h⟩) (cols (weights i (ldB arg6 harg6 x4) (ldX arg3 harg3 x1)) ⟨n, h⟩)
        (arg4.view.readAt (Elt F) (colRect ⟨n, h⟩).toLoadRect (harg4.unread x2))
        (arg11.view.readCov (pieces n) (headRect ⟨n, h⟩).toLoadRect)⟩ :: pieces n
    else pieces n

theorem starts_eq : kernelRun0_A.sl.HS0_8 c arg8 harg8 x6 = starts arg8 harg8 x6 := rfl

theorem pieces_eq : kernelRun0_A.sl.HS0_16 c i arg3 harg3 arg4 harg4 arg6 harg6 arg8 harg8 arg11 x1 x2 x4 x6 = pieces i arg3 harg3 arg4 harg4 arg6 harg6 arg8 harg8 arg11 x1 x2 x4 x6 8 := rfl

theorem run_states : (kernelRun0_A c i arg2 harg2 arg3 harg3 arg4 harg4 arg5 harg5 arg6 harg6 arg7 harg7 arg8 harg8 arg9 harg9 arg10 harg10 arg11 harg11 hc0 hc1 x0 x1 x2 x3 x4 x5 x6).2.1
    = heads.map fun h => ⟨stateRect h, k0_pay10 (arg11.view.readCov (pieces i arg3 harg3 arg4 harg4 arg6 harg6 arg8 harg8 arg11 x1 x2 x4 x6 8) (headRect h).toLoadRect)⟩ := rfl

end Cert.Kernel12Ideal.Hgrn

end
-- ==== Proof.Hgrn.Math.lean ====
module

public import proofs.«01_k».proof.Proof.Gate.Sums

/-! The linear recurrence's decays: with a finite lower bound the log of a decay is never plus infinity. -/

@[expose] public section

noncomputable section

namespace Cert.Hgrn

open Idealize.ShloMosaic Cert.Gate

/-- The word below which no bound is taken. -/
abbrev least : EReal := Ideal.ofBits FTy.f32 0x0DA24260#32

/-- The log of a sum of two exponentials, from their exponents. -/
def logSum (a b : EReal) : EReal := max a b + Ideal.log1p (Ideal.exp (-(max (a - b) (-(a - b)))))

/-- The log of a token's decay, from the bound `β` and the projection's entry `x`. -/
def decay (β x : EReal) : EReal := logSum (Ideal.log (max β least)) (Ideal.log1p (-β) + logsig x)

/-- A token's weight. -/
def keep (β x : EReal) : EReal := (1 - β) * Ideal.logistic (-x)

theorem log_ne_top {x : EReal} (h : x ≠ ⊤) : Ideal.log x ≠ ⊤ := by
  induction x with
  | bot => exact bot_ne_top
  | top => exact absurd rfl h
  | coe r =>
    show (if r ≤ 0 then (⊥ : EReal) else (Real.log r : EReal)) ≠ ⊤
    split
    · exact bot_ne_top
    · exact EReal.coe_ne_top _

theorem exp_ne_top {x : EReal} (h : x ≠ ⊤) : Ideal.exp x ≠ ⊤ := by
  induction x with
  | bot => exact EReal.zero_ne_top
  | top => exact absurd rfl h
  | coe r => exact EReal.coe_ne_top _

theorem least_ne_top : least ≠ ⊤ := by
  simp only [least, Ideal.ofBits, Ideal.ieee]
  exact EReal.coe_ne_top _

theorem max_ne_top {x y : EReal} (hx : x ≠ ⊤) (hy : y ≠ ⊤) : max x y ≠ ⊤ := by
  rcases max_choice x y with h | h <;> rwa [h]

theorem logSum_ne_top {a b : EReal} (ha : a ≠ ⊤) (hb : b ≠ ⊤) : logSum a b ≠ ⊤ := by
  refine EReal.add_ne_top (max_ne_top ha hb) (log_ne_top (EReal.add_ne_top (EReal.coe_ne_top 1) (exp_ne_top fun h => ?_)))
  have h0 : (0 : EReal) ≤ max (a - b) (-(a - b)) := by
    rcases le_total 0 (a - b) with h | h
    · exact h.trans (le_max_left _ _)
    · exact (EReal.neg_nonneg.mpr h).trans (le_max_right _ _)
  rw [EReal.neg_eq_top_iff] at h
  rw [h] at h0
  exact absurd h0 (by decide)

theorem decay_ne_top {β : EReal} (h : β ≠ ⊤) (h' : β ≠ ⊥) (x : EReal) : decay β x ≠ ⊤ :=
  logSum_ne_top (log_ne_top (max_ne_top h least_ne_top))
    (EReal.add_ne_top (log_ne_top (EReal.add_ne_top (EReal.coe_ne_top 1) fun e => h' (EReal.neg_eq_top_iff.mp e))) (logsig_ne_top x))

/-- A product with a value that is taken or not. -/
theorem mul_select (s : BitVec 1) (t z : EReal) : Scalar.select s (t * z) 0 = t * Scalar.select s z 0 := by
  rcases BitVec.eq_zero_or_eq_one s with rfl | rfl
  · exact (mul_zero t).symm
  · rfl

/-- The word of a comparison of a row with a column, as a value. -/
theorem tri_word (r k : ℕ) (hr : r < 64) (hk : k < 64) :
    (FloatOps.sitofp FTy.f32 (BitVec.setWidth 32 (IntOp.cmpi CmpIPredicate.sge (BitVec.ofNat 32 r) (BitVec.ofNat 32 k))) : Ideal FTy.f32) = tri r k := by
  have hc : IntOp.cmpi CmpIPredicate.sge (BitVec.ofNat 32 r) (BitVec.ofNat 32 k) = 1#1 ↔ k ≤ r := by
    rw [Idealize.ShloMosaic.WordCmp.cmpi_sge_ofNat_eq_one_iff (by norm_num; omega) (by norm_num; omega)]
  unfold tri
  by_cases h : k ≤ r
  · rw [if_pos h, hc.mpr h]
    exact EReal.coe_eq_one.mpr (by norm_num)
  · rw [if_neg h, (BitVec.eq_zero_or_eq_one _).resolve_right fun e => h (hc.mp e)]
    exact EReal.coe_eq_zero.mpr (by norm_num)

/-- A sum whose terms vanish from the fourth on. -/
theorem sum_four (f : ℕ → EReal) (h : ∀ k, 4 ≤ k → f k = 0) : (∑ k : Fin 64, f k.val) = ∑ k : Fin 4, f k.val := by
  rw [← Finset.sum_range f, ← Finset.sum_range f]
  exact (Finset.sum_subset (Finset.range_subset_range.mpr (by norm_num)) fun k _ hk => h k (by simpa using hk)).symm

/-- The sums of the four tokens' log decays. -/
theorem range_four (f g : ℕ → EReal) (h : ∀ k, 4 ≤ k → f k = 0) (e : ∀ k, k < 4 → f k = g k) : (∑ k ∈ Finset.range 64, f k) = ∑ k ∈ Finset.range 4, g k :=
  (Finset.sum_subset (Finset.range_subset_range.mpr (by norm_num)) fun k _ hk => h k (by simpa using hk)).symm.trans
    (Finset.sum_congr rfl fun k hk => e k (Finset.mem_range.mp hk))

end Cert.Hgrn

end
-- ==== Proof.Hgrn.State.lean ====
module

public import proofs.«01_k».proof.Proof.Gen.Kernel12Ideal.Value
public import proofs.«01_k».proof.Proof.Hgrn.Pieces
public import proofs.«01_k».proof.Proof.Hgrn.Math
public import Idealize.ShloMosaic.Lib.Pipeline.ValueKit
public import Idealize.ShloMosaic.Lib.Pipeline.ReadBack
public import Idealize.ShloMosaic.Lib.Pipeline.ValueKit.Tiles
public import Idealize.ShloMosaic.Lib.Pointwise

/-! The linear recurrence's states: what the pieces hold, entry by entry. -/

@[expose] public section

set_option maxRecDepth 16384

noncomputable section

namespace Cert.Kernel12Ideal.Hgrn

open Cert.Kernel12Ideal Cert.Kernel12Ideal.Gen Cert.Gate Cert.Hgrn
open Idealize.ShloMosaic Idealize.ShloMosaic.TcCoe Idealize.ShloMosaic.Tactic
open Idealize.SL.Sem

theorem mem_heads (h : Fin 8) : h ∈ heads := by revert h; decide

/-- Two heads' blocks of the scratch do not meet. -/
theorem apart : ∀ h h' : Fin 8, h ≠ h' → LoadRect.disj (headRect h) (headRect h').toLoadRect = true := by decide +kernel

/-- A head that is stored once is read back from among the heads. -/
theorem canon_scratch {sg : RefSig} (P : Fin 8 → FVec Ideal S1x128x128 .f32) (v : View sg .tc .vmem S8x128x128 .f32) (h : Fin 8) (l : List (Fin 8)) (hl : h ∈ l) :
    v.readCov (Val := Elt Ideal) (l.map fun h => (⟨headRect h, P h⟩ : View.Piece (Elt Ideal) S8x128x128 .f32)) (headRect h).toLoadRect = P h := by
  induction l with
  | nil => exact absurd hl List.not_mem_nil
  | cons q l ih =>
    by_cases e : q = h
    · subst e
      exact View.readCov_cons_toLoadRect v _ _ _
    · rw [List.map_cons, View.readCov_skip v _ _ _ _ (apart q h e)]
      exact ih ((List.mem_cons.mp hl).resolve_left fun c => e c.symm)

/-- A head of the states, read back from among the heads. -/
theorem canon_states (P : Fin 8 → FVec Ideal S1x1x128x128 .f32) (h : Fin 8) (a b : Fin 128) :
    View.canon (Val := Elt Ideal) (heads.map fun h => (⟨stateRect h, P h⟩ : View.Piece (Elt Ideal) S1x8x128x128 .f32)) (ix4 0 h a b) = P h (ix4 0 0 a b) := by
  have he : (stateRect h).emb (ix4 (0 : Fin 1) (0 : Fin 1) a b) = ix4 (0 : Fin 1) h a b := by
    funext d
    refine Fin.ext ?_
    fin_cases d
    · rfl
    · show h.val + 1 * 0 = h.val; omega
    · show 0 + 1 * a.val = a.val; omega
    · show 0 + 1 * b.val = b.val; omega
  refine View.canon_eq_of_allAt _ _ _ ⟨_, List.mem_map_of_mem (mem_heads h), ?_⟩ fun p hp x hx => ?_
  · rw [← he, ← Rect.map_emb_univ]
    exact Finset.mem_map_of_mem _ (Finset.mem_univ _)
  · obtain ⟨q, -, rfl⟩ := List.mem_map.mp hp
    have e1 : q.val + 1 * (x 1).val = h.val := congrArg (fun y : S1x8x128x128.Idx => (y 1).val) hx
    have e2 : 0 + 1 * (x 2).val = a.val := congrArg (fun y : S1x8x128x128.Idx => (y 2).val) hx
    have e3 : 0 + 1 * (x 3).val = b.val := congrArg (fun y : S1x8x128x128.Idx => (y 3).val) hx
    have h1 : (x 1).val = 0 := Nat.lt_one_iff.mp (x 1).isLt
    have h0 : (x 0).val = 0 := Nat.lt_one_iff.mp (x 0).isLt
    obtain rfl : q = h := Fin.ext (by omega)
    refine congrArg (P q) (funext fun d => Fin.ext ?_)
    fin_cases d
    · exact h0
    · exact h1
    · show (x 2).val = a.val; omega
    · show (x 3).val = b.val; omega

section
variable (i : grid0.Coords) (arg3 : Memref sig .tc .vmem S64x1024 .f32) (harg3 : arg3.IsWhole) (arg4 : Memref sig .tc .vmem S64x1024 .f32) (harg4 : arg4.IsWhole) (arg6 : Memref sig .tc .vmem S1x1x1024 .f32) (harg6 : arg6.IsWhole) (arg8 : Memref sig .tc .vmem S1x8x128x128 .f32) (harg8 : arg8.IsWhole) (arg11 : Memref sig .tc .vmem S8x128x128 .f32)
  (x1 x2 : Vec Ideal S64x1024 .f32) (x4 : Vec Ideal S1x1x1024 .f32) (x6 : Vec Ideal S1x8x128x128 .f32)

/-- Head `h` as the point starts, and as it leaves it. -/
def first (h : Fin 8) : FVec Ideal S1x128x128 .f32 := k0_pay6 (arg8.view.readAt (Elt Ideal) (stateRect h).toLoadRect (harg8.unread x6))
def last (h : Fin 8) : FVec Ideal S1x128x128 .f32 :=
  update (cols (decays i (ldB arg6 harg6 x4) (ldX arg3 harg3 x1)) h) (cols (weights i (ldB arg6 harg6 x4) (ldX arg3 harg3 x1)) h)
    (arg4.view.readAt (Elt Ideal) (colRect h).toLoadRect (harg4.unread x2)) (first arg8 harg8 x6 h)

/-- The scratch after `n` heads: those are updated, the others are not. -/
theorem pieces_at (n : ℕ) (hn : n ≤ 8) (h : Fin 8) :
    arg11.view.readCov (pieces i arg3 harg3 arg4 harg4 arg6 harg6 arg8 harg8 arg11 x1 x2 x4 x6 n) (headRect h).toLoadRect
      = if h.val < n then last i arg3 harg3 arg4 harg4 arg6 harg6 arg8 harg8 x1 x2 x4 x6 h else first arg8 harg8 x6 h := by
  induction n generalizing h with
  | zero =>
    rw [if_neg (Nat.not_lt_zero _)]
    exact canon_scratch (first arg8 harg8 x6) arg11.view h heads (mem_heads h)
  | succ n ih =>
    have hn' : n < 8 := hn
    unfold pieces
    rw [dif_pos hn']
    by_cases e : h = ⟨n, hn'⟩
    · subst e
      rw [View.readCov_cons_toLoadRect, ih (Nat.le_of_lt hn'), if_neg (lt_irrefl n), if_pos (Nat.lt_succ_self n)]
      rfl
    · rw [View.readCov_skip _ _ _ _ _ (apart ⟨n, hn'⟩ h fun c => e c.symm), ih (Nat.le_of_lt hn')]
      have : h.val ≠ n := fun c => e (Fin.ext c)
      by_cases q : h.val < n
      · rw [if_pos q, if_pos (Nat.lt_succ_of_lt q)]
      · rw [if_neg q, if_neg (by omega)]

end

end Cert.Kernel12Ideal.Hgrn

namespace Cert.Kernel12Ideal.Hgrn

open Cert.Kernel12Ideal Cert.Kernel12Ideal.Gen Cert.Gate Cert.Hgrn
open Idealize.ShloMosaic Idealize.ShloMosaic.TcCoe Idealize.ShloMosaic.Tactic

theorem update_at (g k : FVec Ideal S64x128 .f32) (v : Vec Ideal S64x128 .f32) (s : Vec Ideal S1x128x128 .f32) (a b : Fin 128) :
    update g k v s (ix3 0 b a)
      = s (ix3 0 b a) * Ideal.exp (g (ix2 63 a)) + ∑ x : Fin 64, v (ix2 x b) * (k (ix2 x a) * Ideal.exp (g (ix2 63 a) - g (ix2 x a))) := by
  unfold update
  pointwise [k0_pay74, k0_pay57]

/-- Column `d` of head `h`. -/
def hcol (h : Fin 8) (d : Fin 128) : Fin 1024 := ⟨128 * h.val + d.val, by omega⟩

theorem cols_at (x : FVec Ideal S64x1024 .f32) (h : Fin 8) (r : Fin 64) (d : Fin 128) : cols x h (ix2 r d) = x (ix2 r (hcol h d)) := by
  unfold hcol
  pointwise [cols]

theorem turn_in (x : Vec Ideal S1x1x128x128 .f32) (a b : Fin 128) : k0_pay6 x (ix3 0 b a) = x (ix4 0 0 a b) := by
  pointwise [k0_pay6]

theorem turn_out (x : Vec Ideal S1x128x128 .f32) (a b : Fin 128) : k0_pay10 x (ix4 0 0 a b) = x (ix3 0 b a) := by
  pointwise [k0_pay10]

/-- The log decays, entry by entry. -/
theorem logs_at (b : Vec Ideal S1x1x1024 .f32) (x : Vec Ideal S64x1024 .f32) (r : Fin 64) (d : Fin 1024) :
    k0_pay22 b x (ix2 r d) + k0_pay23 b x (ix2 r d) = decay (b (ix3 0 0 d)) (x (ix2 r d)) := by
  unfold decay logSum logsig
  pointwise [k0_pay22, k0_pay23, k0_pay20, k0_pay21, k0_pay19]
  simp only [zero_sub]
  rfl

/-- The sums of the log decays that are taken, entry by entry. -/
theorem sums_at (s : IVec S64x1 1) (u w : FVec Ideal S64x1024 .f32) (f : ℕ → EReal) (hf : ∀ k, f k ≠ ⊤) (d : Fin 1024)
    (h : ∀ k : Fin 64, Scalar.select (s (ix2 k 0)) (u (ix2 k d) + w (ix2 k d)) 0 = f k.val) (r : Fin 64) :
    k0_pay25 s u w (ix2 r d) = ∑ k ∈ Finset.range (r.val + 1), f k := by
  have e := three_sums r.val (fun k : Fin 64 => f k.val) fun k => hf _
  rw [sum_upto f r.val r.isLt] at e
  rw [← e]
  pointwise [k0_pay25]
  simp only [mul_select, h, tri_word _ _ r.isLt (Fin.isLt _)]

/-- The first four rows are tokens. -/
theorem token_at (i : grid0.Coords) (r : Fin 64) : k0_pay18 i (ix2 r 0) = BitVec.ofBool (decide (r.val < 4)) := by
  pointwise [k0_pay18]
  rw [show IntOp.addi (Scalar.muli 0#32 64#32) (BitVec.ofNat 32 r.val) = BitVec.ofNat 32 r.val from BitVec.zero_add _]
  exact Idealize.ShloMosaic.WordCmp.cmpi_slt_ofNat (by have := r.isLt; norm_num; omega) (by norm_num)

theorem select_token (n : ℕ) (z : EReal) : Scalar.select (BitVec.ofBool (decide (n < 4))) z 0 = if n < 4 then z else 0 := by
  by_cases h : n < 4
  · rw [if_pos h, decide_eq_true h]; rfl
  · rw [if_neg h, decide_eq_false h]; rfl

/-- The weights, entry by entry. -/
theorem weights_at (i : grid0.Coords) (b : Vec Ideal S1x1x1024 .f32) (x : Vec Ideal S64x1024 .f32) (r : Fin 64) (d : Fin 1024) :
    weights i b x (ix2 r d) = if r.val < 4 then keep (b (ix3 0 0 d)) (x (ix2 r d)) else 0 := by
  rw [← select_token, ← token_at i]
  unfold weights keep
  generalize k0_pay18 i = s
  pointwise [k0_pay24, k0_pay19]
  rw [zero_sub]

/-- Row `n` of a block, kept below 64. -/
def row (n : ℕ) : Fin 64 := ⟨n % 64, Nat.mod_lt _ (by norm_num)⟩
theorem row_val (r : Fin 64) : row r.val = r := Fin.ext (Nat.mod_eq_of_lt r.isLt)

/-- The running sums of the log decays, entry by entry. -/
theorem decays_at (i : grid0.Coords) (b : Vec Ideal S1x1x1024 .f32) (x : Vec Ideal S64x1024 .f32) (r : Fin 64) (d : Fin 1024)
    (hb : b (ix3 0 0 d) ≠ ⊤) (hb' : b (ix3 0 0 d) ≠ ⊥) :
    decays i b x (ix2 r d) = ∑ k ∈ Finset.range (r.val + 1), if k < 4 then decay (b (ix3 0 0 d)) (x (ix2 (row k) d)) else 0 := by
  refine sums_at _ _ _ (fun k => if k < 4 then decay (b (ix3 0 0 d)) (x (ix2 (row k) d)) else 0) (fun k => ?_) d (fun k => ?_) r
  · split
    · exact decay_ne_top hb hb' _
    · exact EReal.zero_ne_top
  · rw [token_at, select_token, logs_at, row_val]

/-- A head's new state: the old one decayed by the four tokens, and each token's weight times its value, decayed by the tokens after it. -/
def stateOf (f w v : ℕ → EReal) (s : EReal) : EReal :=
  s * Ideal.exp (∑ k ∈ Finset.range 4, f k)
    + ∑ t : Fin 4, w t.val * Ideal.exp ((∑ k ∈ Finset.range 4, f k) - ∑ k ∈ Finset.range (t.val + 1), f k) * v t.val

theorem last_at (i : grid0.Coords) (b : Vec Ideal S1x1x1024 .f32) (x : Vec Ideal S64x1024 .f32) (v : Vec Ideal S64x128 .f32) (s : Vec Ideal S1x128x128 .f32)
    (h : Fin 8) (p q : Fin 128) (hb : b (ix3 0 0 (hcol h p)) ≠ ⊤) (hb' : b (ix3 0 0 (hcol h p)) ≠ ⊥) :
    update (cols (decays i b x) h) (cols (weights i b x) h) v s (ix3 0 q p)
      = stateOf (fun k => decay (b (ix3 0 0 (hcol h p))) (x (ix2 (row k) (hcol h p)))) (fun k => keep (b (ix3 0 0 (hcol h p))) (x (ix2 (row k) (hcol h p))))
          (fun k => v (ix2 (row k) q)) (s (ix3 0 q p)) := by
  rw [update_at]
  simp only [cols_at, weights_at, decays_at i b x _ _ hb hb']
  have e63 := range_four (fun k => if k < 4 then decay (b (ix3 0 0 (hcol h p))) (x (ix2 (row k) (hcol h p))) else 0)
    (fun k => decay (b (ix3 0 0 (hcol h p))) (x (ix2 (row k) (hcol h p)))) (fun k hk => if_neg (by omega)) (fun k hk => if_pos hk)
  unfold stateOf
  rw [show (63 : Fin 64).val + 1 = 64 from rfl, e63]
  congr 1
  refine Eq.trans (Finset.sum_congr rfl fun k _ => ?_) ((sum_four (fun k => if k < 4 then keep (b (ix3 0 0 (hcol h p))) (x (ix2 (row k) (hcol h p)))
      * Ideal.exp ((∑ j ∈ Finset.range 4, decay (b (ix3 0 0 (hcol h p))) (x (ix2 (row j) (hcol h p)))) - ∑ j ∈ Finset.range (k + 1), decay (b (ix3 0 0 (hcol h p))) (x (ix2 (row j) (hcol h p)))) * v (ix2 (row k) q) else 0)
      fun k hk => if_neg (by omega)).trans (Finset.sum_congr rfl fun k _ => if_pos k.isLt))
  by_cases hk : k.val < 4
  · rw [if_pos hk, if_pos hk, mul_comm, row_val]
    congr 4
    exact Finset.sum_congr rfl fun j hj => if_pos (by have := Finset.mem_range.mp hj; omega)
  · rw [if_neg hk, if_neg hk, zero_mul, mul_zero]

variable (m : (ℓ : Loc nD τ sig) → Buf (Elt Ideal) ℓ) (c : Dev nD)

/-- The arguments of device `c`: the projection, the lower bounds, the states. -/
abbrev aP : FVec Ideal S512x17664 .f32 := m ((c : Thread nD τ).loc main_arg0)
abbrev aB : FVec Ideal S4x1x1024 .f32 := m ((c : Thread nD τ).loc main_arg1)
abbrev aS : FVec Ideal S8x8x128x128 .f32 := m ((c : Thread nD τ).loc main_arg3)

/-- Token `t` of sequence `n`, and a column of the projection from column `o` on. -/
def tok (n : Fin 8) (t : ℕ) : Fin 512 := ⟨64 * n.val + t % 64, by omega⟩
def pcol (o : ℕ) (ho : o ≤ 16384) (d : Fin 1024) : Fin 17664 := ⟨o + d.val, by omega⟩

/-- The states the sample leaves. -/
def outArr (p : FVec Ideal S512x17664 .f32) (lb : FVec Ideal S4x1x1024 .f32) (s : FVec Ideal S8x8x128x128 .f32) : FVec Ideal S8x8x128x128 .f32 := fun y =>
  stateOf (fun k => decay (lb (ix3 0 0 (hcol (y 1) (y 2)))) (p (ix2 (tok (y 0) k) (pcol 14336 (by norm_num) (hcol (y 1) (y 2))))))
    (fun k => keep (lb (ix3 0 0 (hcol (y 1) (y 2)))) (p (ix2 (tok (y 0) k) (pcol 14336 (by norm_num) (hcol (y 1) (y 2))))))
    (fun k => p (ix2 (tok (y 0) k) (pcol 15360 (by norm_num) (hcol (y 1) (y 3))))) (s y)

/-- Which blocks a point stages. -/
theorem idx : ∀ t : Fin cfg0.N, win0_1.index t = ![t.val, 14] ∧ win0_2.index t = ![t.val, 15] ∧ win0_4.index t = ![0, 0, 0]
    ∧ win0_6.index t = ![t.val, 0, 0, 0] ∧ win0_8.index t = ![t.val, 0, 0, 0] :=
  (by decide +kernel : ∀ t : Fin grid0.N, _)

section
variable (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S1x1x1024 .f32) (harg6 : arg6.IsWhole) (arg7 : Memref sig .tc .vmem S1x1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole) (hc0 : cond0_0 i) (hc1 : cond0_1 i)
  (x0 x1 x2 x3 : Vec Ideal S64x1024 .f32) (x4 : Vec Ideal S1x1x1024 .f32) (x5 : Vec Ideal S1x1x128 .f32) (x6 : Vec Ideal S1x8x128x128 .f32)

theorem ldB_eq : ldB arg6 harg6 x4 = x4 := funext fun y =>
  (harg6.readAt_unread x4 _ _).trans (congrArg x4 (funext fun a => Fin.ext (by
    fin_cases a <;> (show 0 + 1 * _ = _; omega))))
theorem ldX_eq : ldX arg3 harg3 x1 = x1 := funext fun y =>
  (harg3.readAt_unread x1 _ _).trans (congrArg x1 (funext fun a => Fin.ext (by
    fin_cases a <;> (show 0 + 1 * _ = _; omega))))

theorem ldV_at (h : Fin 8) (r : Fin 64) (d : Fin 128) :
    arg4.view.readAt (Elt Ideal) (colRect h).toLoadRect (harg4.unread x2) (ix2 r d) = x2 (ix2 r (hcol h d)) := by
  refine (harg4.readAt_unread x2 _ _).trans (congrArg x2 (funext fun a => Fin.ext ?_))
  fin_cases a
  · show 0 + 1 * r.val = r.val; omega
  · show 128 * h.val + 1 * d.val = 128 * h.val + d.val; omega

theorem first_at (h : Fin 8) (p q : Fin 128) : first arg8 harg8 x6 h (ix3 0 q p) = x6 (ix4 0 h p q) := by
  unfold first
  refine (turn_in _ p q).trans ((harg8.readAt_unread x6 _ _).trans (congrArg x6 (funext fun a => Fin.ext ?_)))
  fin_cases a
  · rfl
  · show h.val + 1 * 0 = h.val; omega
  · show 0 + 1 * p.val = p.val; omega
  · show 0 + 1 * q.val = q.val; omega

/-- What a point leaves of head `h`: the update of the state it starts from. -/
theorem out_at (h : Fin 8) (p q : Fin 128) (hb : x4 (ix3 0 0 (hcol h p)) ≠ ⊤) (hb' : x4 (ix3 0 0 (hcol h p)) ≠ ⊥) :
    out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 (ix4 0 h p q)
      = stateOf (fun k => decay (x4 (ix3 0 0 (hcol h p))) (x1 (ix2 (row k) (hcol h p)))) (fun k => keep (x4 (ix3 0 0 (hcol h p))) (x1 (ix2 (row k) (hcol h p))))
          (fun k => x2 (ix2 (row k) (hcol h q))) (x6 (ix4 0 h p q)) := by
  unfold out0_A_8
  rw [View.read_writes_junk_eq_canon, run_states, canon_states, turn_out, pieces_at _ _ _ _ _ _ _ _ _ _ _ _ _ _ 8 le_rfl, if_pos h.isLt]
  unfold last
  rw [ldB_eq, ldX_eq, last_at _ _ _ _ _ _ _ _ hb hb', first_at]
  simp only [ldV_at]

end

theorem X1_at (t : Fin cfg0.N) (n : Fin 8) (hn : n.val = t.val) (k : ℕ) (d : Fin 1024) :
    X0_1 m c t (ix2 (row k) d) = aP m c (ix2 (tok n k) (pcol 14336 (by norm_num) d)) := by
  unfold X0_1 Pipeline.Window.fill
  rw [dif_pos (moved0_1 t _)]
  blk_point [iblk, V, idx t]
  · show t.val * 64 + k % 64 = 64 * n.val + k % 64
    omega
  · rfl

theorem X2_at (t : Fin cfg0.N) (n : Fin 8) (hn : n.val = t.val) (k : ℕ) (d : Fin 1024) :
    X0_2 m c t (ix2 (row k) d) = aP m c (ix2 (tok n k) (pcol 15360 (by norm_num) d)) := by
  unfold X0_2 Pipeline.Window.fill
  rw [dif_pos (moved0_2 t _)]
  blk_point [iblk, V, idx t]
  · show t.val * 64 + k % 64 = 64 * n.val + k % 64
    omega
  · rfl

theorem B_at (t : Fin cfg0.N) (d : Fin 1024) : iblk m c 4 t (ix3 0 0 d) = aB m c (ix3 0 0 d) := by
  blk_point [iblk, V, idx t]

theorem S_at (t : Fin cfg0.N) (n : Fin 8) (hn : n.val = t.val) (h : Fin 8) (p q : Fin 128) :
    iblk m c 6 t (ix4 0 h p q) = aS m c (ix4 n h p q) := by
  blk_point [iblk, V, idx t]

theorem stored (t : Fin cfg0.N) (n : Fin 8) (hn : n.val = t.val) (h : Fin 8) (p q : Fin 128)
    (hb : ∀ d : Fin 1024, aB m c (ix3 0 0 d) ≠ ⊤ ∧ aB m c (ix3 0 0 d) ≠ ⊥) :
    (outsAt0 m c t).2 (ix4 0 h p q) = outArr (aP m c) (aB m c) (aS m c) (ix4 n h p q) := by
  have eB := B_at m c t (hcol h p)
  have h1 : @Ne EReal (iblk m c 4 t (ix3 0 0 (hcol h p))) ⊤ := fun e => (hb _).1 (eB.symm.trans e)
  have h2 : @Ne EReal (iblk m c 4 t (ix3 0 0 (hcol h p))) ⊥ := fun e => (hb _).2 (eB.symm.trans e)
  unfold outsAt0
  dsimp only
  rw [out_at c _ _ _ _ _ _ _ _ _ _ _ _ _ _ _ _ _ _ _ _ _ _ _ _ _ _ _ _ _ _ h p q h1 h2, eB, S_at m c t n hn]
  simp only [X1_at m c t n hn, X2_at m c t n hn]
  rfl

/-- The array the call leaves. -/
theorem final (hb : ∀ d : Fin 1024, aB m c (ix3 0 0 d) ≠ ⊤ ∧ aB m c (ix3 0 0 d) ≠ ⊥) :
    (dats m 0 c).arrAt 8 (cfgs 0).N = outArr (aP m c) (aB m c) (aS m c) := by
  refine (dats m 0 c).arrAt_eq_of_covers 8 _ (by decide +kernel) fun t hf y => ?_
  have ht : t.val < 8 := t.isLt
  obtain ⟨h, p, q, rfl⟩ : ∃ (h : Fin 8) (p q : Fin 128), y = ix4 (0 : Fin 1) h p q :=
    ⟨y 1, y 2, y 3, (eq_ix4 y).trans (congrArg (ix4 · (y 1) (y 2) (y 3)) (Subsingleton.elim (α := Fin 1) _ _))⟩
  blk_simp
  rw [after0_8, stored m c t ⟨t.val, ht⟩ rfl h p q hb]
  generalize outArr (aP m c) (aB m c) (aS m c) = Z
  blk_point [idx t]

end Cert.Kernel12Ideal.Hgrn

end
-- ==== Proof.Hgrn.Ref.lean ====
module

public import proofs.«01_k».proof.Proof.Gen.Reference12Ideal.Run
public import proofs.«01_k».proof.Pre_finite_sample_bounds
public import proofs.«01_k».proof.Proof.Hgrn.State
public import proofs.«01_k».proof.Proof.Gate.Scan
public import proofs.«01_k».proof.Proof.Attn.Equal

/-! The reference of the sample's recurrence, read at an entry. -/

@[expose] public section

set_option maxRecDepth 16384

noncomputable section

namespace Cert.Reference12Ideal.Hgrn

open Cert.Reference12Ideal Cert.Reference12Ideal.Gen Cert.Gate Cert.Hgrn
open Idealize.ShloMosaic Idealize.ShloMosaic.TcCoe Idealize.ShloMosaic.Tactic
open Cert.ReferenceIdeal.Attn (real1_of)
open Cert.Kernel12Ideal.Hgrn (hcol tok pcol stateOf outArr)

variable (P : FVec Ideal S512x17664 .f32) (LB : FVec Ideal S4x1x1024 .f32) (S0 : FVec Ideal S8x8x128x128 .f32)

/-- The four tokens of each sequence. -/
def tokT : FVec Ideal S8x4x17664 .f32 :=
  extractStridedSlice S8x4x17664 ![0, 0, 0] (shapeCast _ P shapeCasts_S512x17664_S8x64x17664) slices_S8x64x17664_S8x4x17664_0_0_0
/-- Their forget entries. -/
def hfT : FVec Ideal S8x4x1024 .f32 := extractStridedSlice S8x4x1024 ![0, 0, 14336] (tokT P) slices_S8x4x17664_S8x4x1024_0_0_14336
/-- Their values. -/
def vT : FVec Ideal S8x4x1024 .f32 := extractStridedSlice S8x4x1024 ![0, 0, 15360] (tokT P) slices_S8x4x17664_S8x4x1024_0_0_15360
/-- The first layer's lower bounds. -/
def bT : FVec Ideal S1x1024 .f32 := shapeCast _ (extractStridedSlice S1x1x1024 ![0, 0, 0] LB slices_S4x1x1024_S1x1x1024_0_0_0) shapeCasts_S1x1x1024_S1x1024
/-- A row, for every token of every sequence. -/
def everyT (x : FVec Ideal S1x1024 .f32) : FVec Ideal S8x4x1024 .f32 :=
  broadcastInDim S8x4x1024 ![0, 1, 2] bcast_S1x1x1024_S8x4x1024_0_1_2 (broadcastInDim S1x1x1024 ![1, 2] bcast_S1x1024_S1x1x1024_1_2 x)
/-- The logs of the bounds. -/
def logT (b : FVec Ideal S1x1024 .f32) : FVec Ideal S1x1024 .f32 :=
  Host.log (maximumf b (broadcastInDim S1x1024 ![] bcast_S_S1x1024 (constant S_ .f32 0x0DA24260#32)))
/-- The softplus of the entries with their sign turned. -/
def softT (x : FVec Ideal S8x4x1024 .f32) : FVec Ideal S8x4x1024 .f32 :=
  select (cmpf .une (subf (Host.negf x) (broadcastInDim S8x4x1024 ![] bcast_S_S8x4x1024 (constant S_ .f32 0x00000000#32))) (subf (Host.negf x) (broadcastInDim S8x4x1024 ![] bcast_S_S8x4x1024 (constant S_ .f32 0x00000000#32)))) (addf (Host.negf x) (broadcastInDim S8x4x1024 ![] bcast_S_S8x4x1024 (constant S_ .f32 0x00000000#32))) (addf (maximumf (Host.negf x) (broadcastInDim S8x4x1024 ![] bcast_S_S8x4x1024 (constant S_ .f32 0x00000000#32))) (Host.log1p (Host.exp (Host.negf (Host.absf (subf (Host.negf x) (broadcastInDim S8x4x1024 ![] bcast_S_S8x4x1024 (constant S_ .f32 0x00000000#32))))))))
/-- The second exponent of the log of a decay. -/
def secondT (b : FVec Ideal S1x1024 .f32) (x : FVec Ideal S8x4x1024 .f32) : FVec Ideal S8x4x1024 .f32 :=
  addf (everyT (Host.log1p (Host.negf b))) (Host.negf (softT x))
/-- The log of a sum of two exponentials. -/
def sumExpT (x y : FVec Ideal S8x4x1024 .f32) : FVec Ideal S8x4x1024 .f32 :=
  select (cmpf .une (subf x y) (subf x y)) (addf x y) (addf (maximumf x y) (Host.log1p (Host.exp (Host.negf (Host.absf (subf x y))))))
/-- The tokens' weights. -/
def keepT (b : FVec Ideal S1x1024 .f32) (x : FVec Ideal S8x4x1024 .f32) : FVec Ideal S8x4x1024 .f32 :=
  mulf (everyT (subf (broadcastInDim S1x1024 ![] bcast_S_S1x1024 (constant S_ .f32 0x3F800000#32)) b)) (Host.divf (broadcastInDim S8x4x1024 ![] bcast_S_S8x4x1024 (constant S_ .f32 0x3F800000#32)) (addf (broadcastInDim S8x4x1024 ![] bcast_S_S8x4x1024 (constant S_ .f32 0x3F800000#32)) (Host.exp (Host.negf (Host.negf x)))))
/-- The columns by head. -/
def headsT (x : FVec Ideal S8x4x1024 .f32) : FVec Ideal S8x8x4x128 .f32 :=
  transpose S8x8x4x128 [0, 2, 1, 3] (shapeCast _ x shapeCasts_S8x4x1024_S8x4x8x128) transposes_S8x4x8x128_S8x8x4x128_0_2_1_3
/-- Running sums over the tokens. -/
def cumT (x : FVec Ideal S8x8x4x128 .f32) : FVec Ideal S8x8x4x128 .f32 :=
  Host.reduceWindowAdd ![1, 1, 4, 1] ![1, 1, 1, 1] ![0, 0, 3, 0] ![0, 0, 0, 0] x (broadcastInDim S_ ![] bcast_S_S_ (constant S_ .f32 0x00000000#32)) reduceWindows_S8x8x4x128_S8x8x4x128_w1s1p0_0_w1s1p0_0_w4s1p3_0_w1s1p0_0 h_S_
/-- The last token's. -/
def lastT (g : FVec Ideal S8x8x4x128 .f32) : FVec Ideal S8x8x128 .f32 :=
  shapeCast _ (extractStridedSlice S8x8x1x128 ![0, 0, 3, 0] g slices_S8x8x4x128_S8x8x1x128_0_0_3_0) shapeCasts_S8x8x1x128_S8x8x128
/-- The weights, decayed by the tokens after. -/
def decayedT (k g : FVec Ideal S8x8x4x128 .f32) (l : FVec Ideal S8x8x128 .f32) : FVec Ideal S8x8x4x128 .f32 :=
  mulf k (Host.exp (subf (broadcastInDim S8x8x4x128 ![0, 1, 2, 3] bcast_S8x8x1x128_S8x8x4x128_0_1_2_3 (broadcastInDim S8x8x1x128 ![0, 1, 3] bcast_S8x8x128_S8x8x1x128_0_1_3 l)) g))
/-- The new states. -/
def newT (s : FVec Ideal S8x8x128x128 .f32) (l : FVec Ideal S8x8x128 .f32) (k v : FVec Ideal S8x8x4x128 .f32) : FVec Ideal S8x8x128x128 .f32 :=
  addf (mulf s (broadcastInDim S8x8x128x128 ![0, 1, 2, 3] bcast_S8x8x128x1_S8x8x128x128_0_1_2_3 (broadcastInDim S8x8x128x1 ![0, 1, 2] bcast_S8x8x128_S8x8x128x1_0_1_2 (Host.exp l)))) (Host.dotGeneral dot_S8x8x4x128_S8x8x4x128_S8x8x128x128_2_2_3_3_01_01 none k v)

/-- The log decays by head, summed over the tokens. -/
def sumsT : FVec Ideal S8x8x4x128 .f32 := cumT (headsT (sumExpT (everyT (logT (bT LB))) (secondT (bT LB) (hfT P))))
/-- The reference's result. -/
def resT : FVec Ideal S8x8x128x128 .f32 :=
  newT S0 (lastT (sumsT P LB)) (decayedT (headsT (keepT (bT LB) (hfT P))) (sumsT P LB) (lastT (sumsT P LB))) (headsT (vT P))

theorem res_eq (m : (ℓ : Loc nD τ sig) → Buf (Elt Ideal) ℓ) (c : Dev nD) :
    Cert.Reference12Ideal.Value.res_main_v60 m c
      = resT (m ((c.tc : Thread nD τ).loc main_arg0)) (m ((c.tc : Thread nD τ).loc main_arg1)) (m ((c.tc : Thread nD τ).loc main_arg3)) := rfl

theorem tokT_at (n : Fin 8) (t : Fin 4) (j : Fin 17664) : tokT P (ix3 n t j) = P (ix2 (tok n t.val) j) := by
  pointwise [tokT]
  exact congrArg P (congrArg (ix2 · j) (Fin.ext (by show n.val * 64 + t.val = 64 * n.val + t.val % 64; omega)))

theorem hfT_at (n : Fin 8) (t : Fin 4) (d : Fin 1024) : hfT P (ix3 n t d) = P (ix2 (tok n t.val) (pcol 14336 (by norm_num) d)) := by
  rw [← tokT_at P]
  unfold hfT
  generalize tokT P = z
  pointwise
  rfl

theorem vT_at (n : Fin 8) (t : Fin 4) (d : Fin 1024) : vT P (ix3 n t d) = P (ix2 (tok n t.val) (pcol 15360 (by norm_num) d)) := by
  rw [← tokT_at P]
  unfold vT
  generalize tokT P = z
  pointwise
  rfl

theorem bT_at (d : Fin 1024) : bT LB (ix2 0 d) = LB (ix3 0 0 d) := by
  pointwise [bT]

theorem everyT_at (x : FVec Ideal S1x1024 .f32) (n : Fin 8) (t : Fin 4) (d : Fin 1024) : everyT x (ix3 n t d) = x (ix2 0 d) := by
  pointwise [everyT]

theorem softT_at (x : FVec Ideal S8x4x1024 .f32) (n : Fin 8) (t : Fin 4) (d : Fin 1024) : -(softT x (ix3 n t d) : EReal) = logsig (x (ix3 n t d)) := by
  have hz : (broadcastInDim S8x4x1024 ![] bcast_S_S8x4x1024 (constant S_ .f32 0x00000000#32) : FVec Ideal S8x4x1024 .f32) (ix3 n t d) = (0 : EReal) := by pointwise
  unfold softT
  generalize (broadcastInDim S8x4x1024 ![] bcast_S_S8x4x1024 (constant S_ .f32 0x00000000#32) : FVec Ideal S8x4x1024 .f32) = o at *
  pointwise
  rw [if_neg fun h => h rfl, hz, sub_zero]
  unfold logsig
  show -(max _ _ + Ideal.log1p (Ideal.exp (-max (-x (ix3 n t d)) (- -x (ix3 n t d))))) = _
  rw [neg_neg, max_comm (-x (ix3 n t d)) (x (ix3 n t d))]

theorem sumExpT_at (x y : FVec Ideal S8x4x1024 .f32) (n : Fin 8) (t : Fin 4) (d : Fin 1024) :
    sumExpT x y (ix3 n t d) = logSum (x (ix3 n t d)) (y (ix3 n t d)) := by
  pointwise [sumExpT]
  rw [if_neg fun h => h rfl]
  rfl

theorem decayT_at (n : Fin 8) (t : Fin 4) (d : Fin 1024) :
    sumExpT (everyT (logT (bT LB))) (secondT (bT LB) (hfT P)) (ix3 n t d) = decay (LB (ix3 0 0 d)) (P (ix2 (tok n t.val) (pcol 14336 (by norm_num) d))) := by
  rw [sumExpT_at, everyT_at]
  unfold decay
  congr 1
  · pointwise [logT]
    rw [bT_at]
  · rw [← hfT_at P, ← softT_at]
    show everyT _ (ix3 n t d) + -(softT (hfT P) (ix3 n t d)) = _
    rw [everyT_at]
    congr 1
    rw [← bT_at LB]
    rfl

theorem keepT_at (n : Fin 8) (t : Fin 4) (d : Fin 1024) :
    keepT (bT LB) (hfT P) (ix3 n t d) = keep (LB (ix3 0 0 d)) (P (ix2 (tok n t.val) (pcol 14336 (by norm_num) d))) := by
  rw [← hfT_at P, ← bT_at LB]
  unfold keepT
  generalize hfT P = x
  generalize bT LB = b
  pointwise [everyT]
  rfl

theorem headsT_at (x : FVec Ideal S8x4x1024 .f32) (n h : Fin 8) (t : Fin 4) (d : Fin 128) : headsT x (ix4 n h t d) = x (ix3 n t (hcol h d)) := by
  pointwise [headsT]
  exact congrArg x (congrArg (ix3 n t ·) (Fin.ext (congrArg (· + d.val) (Nat.mul_comm _ _))))

theorem lastT_at (g : FVec Ideal S8x8x4x128 .f32) (n h : Fin 8) (d : Fin 128) : lastT g (ix3 n h d) = g (ix4 n h 3 d) := by
  pointwise [lastT]

theorem decayedT_at (k g : FVec Ideal S8x8x4x128 .f32) (l : FVec Ideal S8x8x128 .f32) (n h : Fin 8) (t : Fin 4) (d : Fin 128) :
    decayedT k g l (ix4 n h t d) = k (ix4 n h t d) * Ideal.exp (l (ix3 n h d) - g (ix4 n h t d)) := by
  pointwise [decayedT]

theorem newT_at (s : FVec Ideal S8x8x128x128 .f32) (l : FVec Ideal S8x8x128 .f32) (k v : FVec Ideal S8x8x4x128 .f32) (n h : Fin 8) (p q : Fin 128) :
    newT s l k v (ix4 n h p q) = s (ix4 n h p q) * Ideal.exp (l (ix3 n h p)) + ∑ t : Fin 4, k (ix4 n h t p) * v (ix4 n h t q) := by
  pointwise [newT]

/-- The window: four tokens of one column. -/
abbrev Win4 : Shape := ⟨4, ![1, 1, 4, 1]⟩

/-- A window's position is its token. -/
def winTok : Win4.Idx ≃ Fin 4 where
  toFun w := w 2
  invFun k := ix4 0 0 k 0
  left_inv w := by
    refine (eq_ix4 w).trans ?_ |>.symm
    rw [Subsingleton.elim (α := Fin 1) (w 0) 0, Subsingleton.elim (α := Fin 1) (w 1) 0, Subsingleton.elim (α := Fin 1) (w 3) 0]
  right_inv k := rfl

/-- The tokens of the window that ends at token `j`. -/
theorem sum_win (g : ℕ → EReal) (j : Fin 4) :
    (∑ k : Fin 4, if 3 ≤ j.val + k.val then g (j.val + k.val - 3) else 0) = ∑ i ∈ Finset.range (j.val + 1), g i := by
  fin_cases j <;> simp [Fin.sum_univ_four, Finset.sum_range_succ]

theorem cumT_at (x : FVec Ideal S8x8x4x128 .f32) (g : ℕ → EReal) (n h : Fin 8) (d : Fin 128)
    (hx : ∀ t : Fin 4, x (ix4 n h t d) = g t.val) (j : Fin 4) : cumT x (ix4 n h j d) = ∑ i ∈ Finset.range (j.val + 1), g i := by
  have hz : ∀ i, (broadcastInDim S_ ![] bcast_S_S_ (constant S_ .f32 0x00000000#32) : FVec Ideal S_ .f32) i = (0 : EReal) := fun i => by
    obtain rfl : i = ix0 := funext fun a => a.elim0
    pointwise
  unfold cumT Host.reduceWindowAdd
  rw [Ideal.hostReduceWindowAdd_def, hz]
  unfold Ideal.hostReduceWindowAdd Host.reduceWindow
  refine (foldl_sum _ _ _).trans ?_
  rw [zero_add, ← Fin.sum_univ_def, ← sum_win g j]
  refine Fintype.sum_equiv (Win4.rowMajor.symm.trans winTok) _ _ fun w => ?_
  show _ = if 3 ≤ j.val + (winTok (Win4.rowMajor.symm w)).val then g (j.val + (winTok (Win4.rowMajor.symm w)).val - 3) else 0
  have h0 : (Win4.rowMajor.symm w 0).val = 0 := Nat.lt_one_iff.mp (Win4.rowMajor.symm w 0).isLt
  have h1 : (Win4.rowMajor.symm w 1).val = 0 := Nat.lt_one_iff.mp (Win4.rowMajor.symm w 1).isLt
  have h3 : (Win4.rowMajor.symm w 3).val = 0 := Nat.lt_one_iff.mp (Win4.rowMajor.symm w 3).isLt
  have h2 : (Win4.rowMajor.symm w 2).val < 4 := (Win4.rowMajor.symm w 2).isLt
  have e2 : (winTok (Win4.rowMajor.symm w)).val = (Win4.rowMajor.symm w 2).val := rfl
  have hn := n.isLt
  have hh := h.isLt
  have hd := d.isLt
  have hj := j.isLt
  rw [e2]
  dsimp only
  split
  · next hin =>
    have q : 3 ≤ j.val * 1 + (Win4.rowMajor.symm w 2).val := (hin 2).1
    rw [if_pos (by omega), ← hx ⟨j.val + (Win4.rowMajor.symm w 2).val - 3, by omega⟩]
    refine congrArg x (funext fun a => Fin.ext ?_)
    fin_cases a
    · show n.val * 1 + (Win4.rowMajor.symm w 0).val - 0 = n.val
      omega
    · show h.val * 1 + (Win4.rowMajor.symm w 1).val - 0 = h.val
      omega
    · show j.val * 1 + (Win4.rowMajor.symm w 2).val - 3 = j.val + (Win4.rowMajor.symm w 2).val - 3
      omega
    · show d.val * 1 + (Win4.rowMajor.symm w 3).val - 0 = d.val
      omega
  · next hin =>
    rw [if_neg fun q => hin fun a => ?_]
    fin_cases a
    · show 0 ≤ n.val * 1 + (Win4.rowMajor.symm w 0).val ∧ n.val * 1 + (Win4.rowMajor.symm w 0).val - 0 < 8
      omega
    · show 0 ≤ h.val * 1 + (Win4.rowMajor.symm w 1).val ∧ h.val * 1 + (Win4.rowMajor.symm w 1).val - 0 < 8
      omega
    · show 3 ≤ j.val * 1 + (Win4.rowMajor.symm w 2).val ∧ j.val * 1 + (Win4.rowMajor.symm w 2).val - 3 < 4
      omega
    · show 0 ≤ d.val * 1 + (Win4.rowMajor.symm w 3).val ∧ d.val * 1 + (Win4.rowMajor.symm w 3).val - 0 < 128
      omega

theorem sumsT_at (n h : Fin 8) (t : Fin 4) (d : Fin 128) :
    sumsT P LB (ix4 n h t d) = ∑ k ∈ Finset.range (t.val + 1), decay (LB (ix3 0 0 (hcol h d))) (P (ix2 (tok n k) (pcol 14336 (by norm_num) (hcol h d)))) :=
  cumT_at _ (fun k => decay (LB (ix3 0 0 (hcol h d))) (P (ix2 (tok n k) (pcol 14336 (by norm_num) (hcol h d))))) n h d
    (fun t => (headsT_at _ n h t d).trans (decayT_at P LB n t (hcol h d))) t

/-- The reference's result is the array the call leaves. -/
theorem resT_eq : resT P LB S0 = outArr P LB S0 := by
  funext y
  obtain ⟨n, h, p, q, rfl⟩ : ∃ (n h : Fin 8) (p q : Fin 128), y = ix4 n h p q := ⟨y 0, y 1, y 2, y 3, eq_ix4 y⟩
  unfold resT
  rw [newT_at]
  simp only [decayedT_at, lastT_at, sumsT_at, headsT_at, vT_at, keepT_at]
  rfl

/-- The precondition's shapes fit. -/
theorem preFacts : Cert.Pre_finite_sample_bounds.Facts where
  slices_S4x1x1024_S1x1x1024_0_0_0 := by decide
  shapeCasts_S1x1x1024_S1x1024 := by decide
  bcast_S_S1x1024 := by decide

/-- The precondition as printed, read. -/
theorem finite_of [Cert.Pre_finite_sample_bounds.Facts] (H : FVec Ideal S4x1x128 .f32)
    (h : Cert.Pre_finite_sample_bounds.fn (F := Ideal) P LB H S0 = fun _ => 1#1) (d : Fin 1024) : LB (ix3 0 0 d) ≠ ⊤ ∧ LB (ix3 0 0 d) ≠ ⊥ := by
  dsimp only [Cert.Pre_finite_sample_bounds.fn] at h
  have := congrFun h (ix2 0 d)
  pointwise at this
  exact (real1_of this).symm

end Cert.Reference12Ideal.Hgrn

end
-- ==== Proof.Hgrn.Claims.lean ====
/- The statements about the sample's recurrence: the reference's frame, and that the call and the reference leave the same states. -/
module

public import proofs.«01_k».proof.Defs
public import proofs.«01_k».proof.Proof.Hgrn.State
public import proofs.«01_k».proof.Proof.Hgrn.Ref
public import Idealize.ShloMosaic.Adequacy
public import Idealize.ShloMosaic.Init
public import Idealize.ShloMosaic.Lib.Claim

@[expose] public section

noncomputable section

namespace Cert.Proof.Hgrn

open Idealize.ShloMosaic Idealize.SL.Sem
open Cert.Kernel12Ideal.Hgrn (outArr aP aB aS)

/-- The sample's reference leaves its arguments and every counter as they were. -/
theorem frame_ref12 : Cert.quiescent_Reference12Ideal (hReference12Ideal := Cert.Reference12Ideal.Gen.facts) := fun m g _ =>
  (θ_run Cert.Reference12Ideal.defs _ _).mono (fun r h => ⟨fun c => (h c).2, sem_eq_zero_of_no_sems (by decide) r.2⟩)
    (Cert.Reference12Ideal.Value.run (F := Ideal) m g)

/-- The sample's recurrence and its reference leave the same states. -/
theorem algebraic12 : Cert.algebraic_Kernel12Ideal_Reference12Ideal_pre_finite_sample_bounds (hKernel12Ideal := Cert.Kernel12Ideal.Gen.facts)
    (hReference12Ideal := Cert.Reference12Ideal.Gen.facts) (hPre_finite_sample_bounds := Cert.Reference12Ideal.Hgrn.preFacts) := by
  intro m g m' g' hpre hagree
  haveI := Cert.Reference12Ideal.Hgrn.preFacts
  refine ⟨fun c => outArr (aP m c) (aB m c) (aS m c), ?_, ?_⟩
  · exact (θ_run _ _ _).mono (fun r h c => ⟨(h c).2.1.trans (Cert.Kernel12Ideal.Hgrn.final m c fun d => Cert.Reference12Ideal.Hgrn.finite_of _ _ _ _ (hpre c) d), (h c).2.2⟩)
      (Cert.Kernel12Ideal.Value.run_blocks m g)
  · refine (θ_run _ _ _).mono (fun r h c => ⟨(h c).1.trans ?_, (h c).2⟩) (Cert.Reference12Ideal.Value.run (F := Ideal) m' g')
    obtain ⟨a0, a1, a2, a3⟩ := hagree c
    refine (Cert.Reference12Ideal.Hgrn.res_eq m' c).trans ?_
    rw [a0, a1, a3]
    exact Cert.Reference12Ideal.Hgrn.resT_eq _ _ _

end Cert.Proof.Hgrn

end
-- ==== Proof.Hgrn.Chunks.lean ====
module

public import proofs.«01_k».proof.Proof.Gen.Kernel11Ideal.Frame
public import proofs.«01_k».proof.Proof.Hgrn.State

/-! The prompt's recurrence: the pieces of a grid point. The first chunk of a sequence starts from the turned states, the others
from what the point before left; the last one turns the states back. -/

@[expose] public section

set_option maxRecDepth 16384

noncomputable section

namespace Cert.Kernel11Ideal.Hgrn

open Cert.Kernel11Ideal Cert.Kernel11Ideal.Gen
open Idealize.ShloMosaic Idealize.ShloMosaic.TcCoe
open Cert.Kernel12Ideal.Hgrn (headRect stateRect colRect cols update heads hcol ldB ldX)

variable {F : FTy → Type} [FloatOps F]

/-- The sums of the log decays and the weights of the rows that are taken, from the bounds and the projection's columns. -/
def sums (s : IVec S64x1 1) (b : Vec F S1x1x1024 .f32) (x : Vec F S64x1024 .f32) : FVec F S64x1024 .f32 :=
  Cert.Kernel12Ideal.Gen.k0_pay25 s (Cert.Kernel12Ideal.Gen.k0_pay22 b x) (Cert.Kernel12Ideal.Gen.k0_pay23 b x)
def keeps (s : IVec S64x1 1) (b : Vec F S1x1x1024 .f32) (x : Vec F S64x1024 .f32) : FVec F S64x1024 .f32 :=
  Cert.Kernel12Ideal.Gen.k0_pay24 s (Cert.Kernel12Ideal.Gen.k0_pay19 b) x

variable (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S1x1x1024 .f32) (harg6 : arg6.IsWhole) (arg7 : Memref sig .tc .vmem S1x1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole)
  (x0 x1 x2 x3 : Vec F S64x1024 .f32) (x4 : Vec F S1x1x1024 .f32) (x5 : Vec F S1x1x128 .f32) (x6 : Vec F S1x8x128x128 .f32) (xs : Vec F S8x128x128 .f32)

/-- The bounds and the columns, as the body loads them. -/
def loadB : Vec F S1x1x1024 .f32 := arg6.view.readAt (Elt F) (Rect.unit (s := S1x1x1024) ![0, 0, 0] S1x1x1024.size inb_S1x1x1024_S1x1x1024_0_0_0).toLoadRect (harg6.unread x4)
def loadX : Vec F S64x1024 .f32 := arg3.view.readAt (Elt F) (Rect.unit (s := S64x1024) ![0, 0] S64x1024.size inb_S64x1024_S64x1024_0_0).toLoadRect (harg3.unread x1)

/-- Head `h` after a chunk, from its state `s` before. -/
def turned (h : Fin 8) (s : Vec F S1x128x128 .f32) : FVec F S1x128x128 .f32 :=
  update (cols (sums (k0_pay18 i) (loadB arg6 harg6 x4) (loadX arg3 harg3 x1)) h) (cols (keeps (k0_pay18 i) (loadB arg6 harg6 x4) (loadX arg3 harg3 x1)) h)
    (arg4.view.readAt (Elt F) (colRect h).toLoadRect (harg4.unread x2)) s

/-- The turned states a sequence starts from. -/
def begun (h : Fin 8) : FVec F S1x128x128 .f32 := Cert.Kernel12Ideal.Gen.k0_pay6 (arg8.view.readAt (Elt F) (stateRect h).toLoadRect (harg8.unread x6))

/-- The scratch's pieces at a sequence's first chunk, after the first `n` heads. -/
def opening : ℕ → List (View.Piece (Elt F) S8x128x128 .f32)
  | 0 => heads.map fun h => ⟨headRect h, begun arg8 harg8 x6 h⟩
  | n + 1 => if h : n < 8 then
      ⟨headRect ⟨n, h⟩, turned i arg3 harg3 arg4 harg4 arg6 harg6 x1 x2 x4 ⟨n, h⟩ (arg11.view.readCov (opening n) (headRect ⟨n, h⟩).toLoadRect)⟩ :: opening n
    else opening n

/-- The scratch's pieces at a later chunk. -/
def going : List (View.Piece (Elt F) S8x128x128 .f32) :=
  heads.map fun h => ⟨headRect h, turned i arg3 harg3 arg4 harg4 arg6 harg6 x1 x2 x4 h (arg11.view.readAt (Elt F) (headRect h).toLoadRect (harg11.unread xs))⟩

theorem opening_eq (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1
      = opening i arg3 harg3 arg4 harg4 arg6 harg6 arg8 harg8 arg11 x1 x2 x4 x6 8 := rfl

theorem going_eq (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 hc0 hc1 x0 x1 x2 x3 x4 x5 x6 xs).2.2.1
      = going i arg3 harg3 arg4 harg4 arg6 harg6 arg11 harg11 x1 x2 x4 xs := rfl

theorem closing_eq (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 hc0 hc1 x0 x1 x2 x3 x4 x5 x6 xs).2.1
      = heads.map fun h => ⟨stateRect h, Cert.Kernel12Ideal.Gen.k0_pay10 (arg11.view.readCov (going i arg3 harg3 arg4 harg4 arg6 harg6 arg11 harg11 x1 x2 x4 xs) (headRect h).toLoadRect)⟩ := rfl

end Cert.Kernel11Ideal.Hgrn

end
-- ==== Proof.Hgrn.Carry.lean ====
module

public import proofs.«01_k».proof.Proof.Gen.Kernel11Ideal.Value
public import proofs.«01_k».proof.Proof.Hgrn.Chunks

/-! The prompt's recurrence: what a chunk leaves of each head, entry by entry. -/

@[expose] public section

set_option maxRecDepth 16384

noncomputable section

namespace Cert.Kernel11Ideal.Hgrn

open Cert.Kernel11Ideal Cert.Kernel11Ideal.Gen Cert.Gate Cert.Hgrn
open Idealize.ShloMosaic Idealize.ShloMosaic.TcCoe Idealize.ShloMosaic.Tactic
open Cert.Kernel12Ideal.Hgrn (headRect stateRect colRect cols update heads hcol row row_val mem_heads apart canon_scratch canon_states update_at cols_at turn_in turn_out logs_at sums_at)

/-- Every row of every chunk is a token. -/
theorem taken (i : grid0.Coords) (r : Fin 64) : k0_pay18 i (ix2 r 0) = 1#1 := by
  pointwise [k0_pay18]
  have h1 : (i 1).val < 32 := (i 1).isLt
  have hr := r.isLt
  have e : IntOp.addi (Scalar.muli (BitVec.ofNat 32 (i 1).val) 64#32) (BitVec.ofNat 32 r.val) = BitVec.ofNat 32 ((i 1).val * 64 + r.val) := by
    rw [BitVec.ofNat_add, BitVec.ofNat_mul]
    rfl
  rw [e]
  exact (WordCmp.cmpi_slt_ofNat_eq_one_iff (by norm_num; omega) (by norm_num)).mpr (by omega)

theorem sums_taken (i : grid0.Coords) (b : Vec Ideal S1x1x1024 .f32) (x : Vec Ideal S64x1024 .f32) (r : Fin 64) (d : Fin 1024)
    (hb : b (ix3 0 0 d) ≠ ⊤) (hb' : b (ix3 0 0 d) ≠ ⊥) :
    sums (k0_pay18 i) b x (ix2 r d) = ∑ k ∈ Finset.range (r.val + 1), decay (b (ix3 0 0 d)) (x (ix2 (row k) d)) := by
  refine sums_at _ _ _ (fun k => decay (b (ix3 0 0 d)) (x (ix2 (row k) d))) (fun k => decay_ne_top hb hb' _) d (fun k => ?_) r
  rw [taken, logs_at, row_val]
  rfl

theorem keeps_taken (i : grid0.Coords) (b : Vec Ideal S1x1x1024 .f32) (x : Vec Ideal S64x1024 .f32) (r : Fin 64) (d : Fin 1024) :
    keeps (k0_pay18 i) b x (ix2 r d) = keep (b (ix3 0 0 d)) (x (ix2 r d)) := by
  refine Eq.trans (?_ : _ = Scalar.select (k0_pay18 i (ix2 r 0)) (keep (b (ix3 0 0 d)) (x (ix2 r d))) 0) (by rw [taken]; rfl)
  unfold keeps keep
  generalize k0_pay18 i = s
  pointwise [Cert.Kernel12Ideal.Gen.k0_pay24, Cert.Kernel12Ideal.Gen.k0_pay19]
  rw [zero_sub]

/-- A head's state after a chunk: the old one decayed by the chunk's tokens, and each token's weight times its value, decayed by the tokens after it. -/
def chunkOf (f w v : ℕ → EReal) (s : EReal) : EReal :=
  s * Ideal.exp (∑ k ∈ Finset.range 64, f k)
    + ∑ t : Fin 64, w t.val * Ideal.exp ((∑ k ∈ Finset.range 64, f k) - ∑ k ∈ Finset.range (t.val + 1), f k) * v t.val

/-- One entry after a chunk, from the bound, the forget entries, the values and the entry before. -/
def stepOf (b : Vec Ideal S1x1x1024 .f32) (x v : Vec Ideal S64x1024 .f32) (h : Fin 8) (p q : Fin 128) (s : EReal) : EReal :=
  chunkOf (fun k => decay (b (ix3 0 0 (hcol h p))) (x (ix2 (row k) (hcol h p)))) (fun k => keep (b (ix3 0 0 (hcol h p))) (x (ix2 (row k) (hcol h p))))
    (fun k => v (ix2 (row k) (hcol h q))) s

section
variable (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S1x1x1024 .f32) (harg6 : arg6.IsWhole) (arg7 : Memref sig .tc .vmem S1x1x128 .f32) (harg7 : arg7.IsWhole) (arg8 : Memref sig .tc .vmem S1x8x128x128 .f32) (harg8 : arg8.IsWhole) (arg9 : Memref sig .tc .vmem S64x1024 .bf16) (harg9 : arg9.IsWhole) (arg10 : Memref sig .tc .vmem S1x8x128x128 .f32) (harg10 : arg10.IsWhole) (arg11 : Memref sig .tc .vmem S8x128x128 .f32) (harg11 : arg11.IsWhole)
  (x0 x1 x2 x3 : Vec Ideal S64x1024 .f32) (x4 : Vec Ideal S1x1x1024 .f32) (x5 : Vec Ideal S1x1x128 .f32) (x6 : Vec Ideal S1x8x128x128 .f32) (xs : Vec Ideal S8x128x128 .f32)

theorem loadB_eq : loadB arg6 harg6 x4 = x4 := funext fun y =>
  (harg6.readAt_unread x4 _ _).trans (congrArg x4 (funext fun a => Fin.ext (by
    fin_cases a <;> (show 0 + 1 * _ = _; omega))))
theorem loadX_eq : loadX arg3 harg3 x1 = x1 := funext fun y =>
  (harg3.readAt_unread x1 _ _).trans (congrArg x1 (funext fun a => Fin.ext (by
    fin_cases a <;> (show 0 + 1 * _ = _; omega))))
theorem loadV_at (h : Fin 8) (r : Fin 64) (d : Fin 128) :
    arg4.view.readAt (Elt Ideal) (colRect h).toLoadRect (harg4.unread x2) (ix2 r d) = x2 (ix2 r (hcol h d)) := by
  refine (harg4.readAt_unread x2 _ _).trans (congrArg x2 (funext fun a => Fin.ext ?_))
  fin_cases a
  · show 0 + 1 * r.val = r.val; omega
  · show 128 * h.val + 1 * d.val = 128 * h.val + d.val; omega

theorem begun_at (h : Fin 8) (p q : Fin 128) : begun arg8 harg8 x6 h (ix3 0 q p) = x6 (ix4 0 h p q) := by
  unfold begun
  refine (turn_in _ p q).trans ((harg8.readAt_unread x6 _ _).trans (congrArg x6 (funext fun a => Fin.ext ?_)))
  fin_cases a
  · rfl
  · show h.val + 1 * 0 = h.val; omega
  · show 0 + 1 * p.val = p.val; omega
  · show 0 + 1 * q.val = q.val; omega

/-- The scratch as the point before left it, by head. -/
theorem carried_at (h : Fin 8) (p q : Fin 128) :
    arg11.view.readAt (Elt Ideal) (headRect h).toLoadRect (harg11.unread xs) (ix3 0 q p) = xs (ix3 h q p) := by
  refine (harg11.readAt_unread xs _ _).trans (congrArg xs (funext fun a => Fin.ext ?_))
  fin_cases a
  · show h.val + 1 * 0 = h.val; omega
  · show 0 + 1 * q.val = q.val; omega
  · show 0 + 1 * p.val = p.val; omega

theorem turned_at (h : Fin 8) (s : Vec Ideal S1x128x128 .f32) (p q : Fin 128) (hb : x4 (ix3 0 0 (hcol h p)) ≠ ⊤) (hb' : x4 (ix3 0 0 (hcol h p)) ≠ ⊥) :
    turned i arg3 harg3 arg4 harg4 arg6 harg6 x1 x2 x4 h s (ix3 0 q p) = stepOf x4 x1 x2 h p q (s (ix3 0 q p)) := by
  unfold turned stepOf chunkOf
  rw [loadB_eq, loadX_eq, update_at]
  simp only [cols_at, keeps_taken, sums_taken i x4 x1 _ _ hb hb', loadV_at]
  congr 1
  refine Finset.sum_congr rfl fun k _ => ?_
  rw [mul_comm, row_val]
  rfl

/-- The scratch of a first chunk after `n` heads: those are updated, the others are not. -/
theorem opening_at (n : ℕ) (hn : n ≤ 8) (h : Fin 8) :
    arg11.view.readCov (opening i arg3 harg3 arg4 harg4 arg6 harg6 arg8 harg8 arg11 x1 x2 x4 x6 n) (headRect h).toLoadRect
      = if h.val < n then turned i arg3 harg3 arg4 harg4 arg6 harg6 x1 x2 x4 h (begun arg8 harg8 x6 h) else begun arg8 harg8 x6 h := by
  induction n generalizing h with
  | zero =>
    rw [if_neg (Nat.not_lt_zero _)]
    exact canon_scratch (begun arg8 harg8 x6) arg11.view h heads (mem_heads h)
  | succ n ih =>
    have hn' : n < 8 := hn
    unfold opening
    rw [dif_pos hn']
    by_cases e : h = ⟨n, hn'⟩
    · subst e
      rw [View.readCov_cons_toLoadRect, ih (Nat.le_of_lt hn'), if_neg (lt_irrefl n), if_pos (Nat.lt_succ_self n)]
    · rw [View.readCov_skip _ _ _ _ _ (apart ⟨n, hn'⟩ h fun c => e c.symm), ih (Nat.le_of_lt hn')]
      have : h.val ≠ n := fun c => e (Fin.ext c)
      by_cases q : h.val < n
      · rw [if_pos q, if_pos (Nat.lt_succ_of_lt q)]
      · rw [if_neg q, if_neg (by omega)]

/-- A head of the scratch, read from its pieces. -/
theorem canon_head (L : List (View.Piece (Elt Ideal) S8x128x128 .f32)) (v : View sig .tc .vmem S8x128x128 .f32) (h : Fin 8) (p q : Fin 128) :
    View.canon L (ix3 h q p) = v.readCov L (headRect h).toLoadRect (ix3 0 q p) := by
  rw [View.readCov_eq_canon']
  refine congrArg (View.canon L) (funext fun a => Fin.ext ?_)
  fin_cases a
  · show h.val = h.val + 1 * 0; omega
  · show q.val = 0 + 1 * q.val; omega
  · show p.val = 0 + 1 * p.val; omega

/-- What a first chunk leaves in the scratch. -/
theorem first_left (hc0 : cond0_0 i) (hc1 : ¬cond0_1 i) (h : Fin 8) (p q : Fin 128) (hb : x4 (ix3 0 0 (hcol h p)) ≠ ⊤) (hb' : x4 (ix3 0 0 (hcol h p)) ≠ ⊥) :
    sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 (ix3 h q p)
      = stepOf x4 x1 x2 h p q (x6 (ix4 0 h p q)) := by
  unfold sout0_A_0
  rw [View.read_writes_junk_eq_canon, opening_eq, canon_head _ arg11.view, opening_at _ _ _ _ _ _ _ _ _ _ _ _ _ _ 8 le_rfl, if_pos h.isLt, turned_at _ _ _ _ _ _ _ _ _ _ _ _ _ _ hb hb', begun_at]

/-- What a later chunk leaves in the scratch. -/
theorem next_left (hc0 : ¬cond0_0 i) (hc1 : ¬cond0_1 i) (h : Fin 8) (p q : Fin 128) (hb : x4 (ix3 0 0 (hcol h p)) ≠ ⊤) (hb' : x4 (ix3 0 0 (hcol h p)) ≠ ⊥) :
    sout0_B_0 (F := Ideal) c i arg2 harg2 arg3 harg3 arg4 harg4 arg5 harg5 arg6 harg6 arg7 harg7 arg8 harg8 arg9 harg9 arg10 harg10 arg11 harg11 hc0 hc1 x0 x1 x2 x3 x4 x5 x6 xs (ix3 h q p)
      = stepOf x4 x1 x2 h p q (xs (ix3 h q p)) := by
  unfold sout0_B_0
  rw [View.read_writes_junk_eq_canon, going_eq, canon_head _ arg11.view]
  unfold going
  rw [canon_scratch _ _ h heads (mem_heads h), turned_at _ _ _ _ _ _ _ _ _ _ _ _ _ _ hb hb', carried_at]

/-- What the last chunk leaves in the states' block. -/
theorem last_left (hc0 : ¬cond0_0 i) (hc1 : cond0_1 i) (h : Fin 8) (p q : Fin 128) (hb : x4 (ix3 0 0 (hcol h p)) ≠ ⊤) (hb' : x4 (ix3 0 0 (hcol h p)) ≠ ⊥) :
    out0_C_8 (F := Ideal) c i arg2 harg2 arg3 harg3 arg4 harg4 arg5 harg5 arg6 harg6 arg7 harg7 arg8 harg8 arg9 harg9 arg10 harg10 arg11 harg11 hc0 hc1 x0 x1 x2 x3 x4 x5 x6 xs (ix4 0 h p q)
      = stepOf x4 x1 x2 h p q (xs (ix3 h q p)) := by
  unfold out0_C_8
  rw [View.read_writes_junk_eq_canon, closing_eq, canon_states, turn_out]
  unfold going
  rw [canon_scratch _ _ h heads (mem_heads h), turned_at _ _ _ _ _ _ _ _ _ _ _ _ _ _ hb hb', carried_at]

end

end Cert.Kernel11Ideal.Hgrn

end
-- ==== Proof.Hgrn.Prompt.lean ====
module

public import proofs.«01_k».proof.Proof.Hgrn.Carry
public import Idealize.ShloMosaic.Lib.Pipeline.ValueKit
public import Idealize.ShloMosaic.Lib.Pipeline.ReadBack
public import Idealize.ShloMosaic.Lib.Pipeline.ValueKit.Tiles
public import Idealize.ShloMosaic.Lib.Pointwise

/-! The prompt's recurrence: the states over a sequence's chunks, and the array the call leaves. -/

@[expose] public section

set_option maxRecDepth 16384

noncomputable section

namespace Cert.Kernel11Ideal.Hgrn

open Cert.Kernel11Ideal Cert.Kernel11Ideal.Gen Cert.Gate Cert.Hgrn
open Idealize.ShloMosaic Idealize.ShloMosaic.TcCoe Idealize.ShloMosaic.Tactic
open Idealize.SL.Sem
open Cert.Kernel12Ideal.Hgrn (hcol row row_val pcol)

variable (m : (ℓ : Loc nD τ sig) → Buf (Elt Ideal) ℓ) (c : Dev nD)

/-- The arguments of device `c`: the projection, the lower bounds, the states. -/
abbrev aP : FVec Ideal S8192x17664 .f32 := m ((c : Thread nD τ).loc main_arg0)
abbrev aB : FVec Ideal S4x1x1024 .f32 := m ((c : Thread nD τ).loc main_arg1)
abbrev aS : FVec Ideal S4x8x128x128 .f32 := m ((c : Thread nD τ).loc main_arg3)

/-- Token `k` of chunk `j` of sequence `n`. -/
def ptok (n : Fin 4) (j k : ℕ) : Fin 8192 := ⟨2048 * n.val + 64 * (j % 32) + k % 64, by omega⟩

section
variable (P : FVec Ideal S8192x17664 .f32) (LB : FVec Ideal S4x1x1024 .f32) (S : FVec Ideal S4x8x128x128 .f32)

/-- An entry of sequence `n`'s states after one more chunk, chunk `j`. -/
def chunkStep (n : Fin 4) (h : Fin 8) (p q : Fin 128) (j : ℕ) (s : EReal) : EReal :=
  chunkOf (fun k => decay (LB (ix3 0 0 (hcol h p))) (P (ix2 (ptok n j k) (pcol 14336 (by norm_num) (hcol h p)))))
    (fun k => keep (LB (ix3 0 0 (hcol h p))) (P (ix2 (ptok n j k) (pcol 14336 (by norm_num) (hcol h p)))))
    (fun k => P (ix2 (ptok n j k) (pcol 15360 (by norm_num) (hcol h q)))) s

/-- The entry after the first `j` chunks. -/
def stateAt (n : Fin 4) (h : Fin 8) (p q : Fin 128) : ℕ → EReal
  | 0 => S (ix4 n h p q)
  | j + 1 => chunkStep P LB n h p q j (stateAt n h p q j)

/-- The states the prompt leaves. -/
def outArr : FVec Ideal S4x8x128x128 .f32 := fun y => stateAt P LB S (y 0) (y 1) (y 2) (y 3) 32

end

/-- Which blocks a point stages. -/
theorem idx : ∀ t : Fin cfg0.N, win0_1.index t = ![t.val, 14] ∧ win0_2.index t = ![t.val, 15] ∧ win0_4.index t = ![0, 0, 0]
    ∧ win0_6.index t = ![t.val / 32, 0, 0, 0] ∧ win0_8.index t = ![t.val / 32, 0, 0, 0] :=
  (by decide +kernel : ∀ t : Fin grid0.N, _)

theorem X1_at (t : Fin cfg0.N) (n : Fin 4) (j : ℕ) (hj : j < 32) (ht : t.val = 32 * n.val + j) (k : ℕ) (d : Fin 1024) :
    X0_1 m c t (ix2 (row k) d) = aP m c (ix2 (ptok n j k) (pcol 14336 (by norm_num) d)) := by
  unfold X0_1 Pipeline.Window.fill
  rw [dif_pos (moved0_1 t _)]
  blk_point [iblk, V, idx t]
  · show t.val * 64 + k % 64 = 2048 * n.val + 64 * (j % 32) + k % 64
    omega
  · rfl

theorem X2_at (t : Fin cfg0.N) (n : Fin 4) (j : ℕ) (hj : j < 32) (ht : t.val = 32 * n.val + j) (k : ℕ) (d : Fin 1024) :
    X0_2 m c t (ix2 (row k) d) = aP m c (ix2 (ptok n j k) (pcol 15360 (by norm_num) d)) := by
  unfold X0_2 Pipeline.Window.fill
  rw [dif_pos (moved0_2 t _)]
  blk_point [iblk, V, idx t]
  · show t.val * 64 + k % 64 = 2048 * n.val + 64 * (j % 32) + k % 64
    omega
  · rfl

theorem B_at (t : Fin cfg0.N) (d : Fin 1024) : iblk m c 4 t (ix3 0 0 d) = aB m c (ix3 0 0 d) := by
  blk_point [iblk, V, idx t]

theorem S_at (t : Fin cfg0.N) (n : Fin 4) (hn : t.val / 32 = n.val) (h : Fin 8) (p q : Fin 128) :
    iblk m c 6 t (ix4 0 h p q) = aS m c (ix4 n h p q) := by
  blk_point [iblk, V, idx t]

/-- A chunk's step, on the blocks its point stages. -/
theorem step_at (t : Fin cfg0.N) (n : Fin 4) (j : ℕ) (hj : j < 32) (ht : t.val = 32 * n.val + j) (h : Fin 8) (p q : Fin 128) (s : EReal) :
    stepOf (iblk m c 4 t) (X0_1 m c t) (X0_2 m c t) h p q s = chunkStep (aP m c) (aB m c) n h p q j s := by
  unfold stepOf
  rw [B_at m c t]
  simp only [X1_at m c t n j hj ht, X2_at m c t n j hj ht]
  rfl

variable (hb : ∀ d : Fin 1024, aB m c (ix3 0 0 d) ≠ ⊤ ∧ aB m c (ix3 0 0 d) ≠ ⊥)

include hb in
theorem fin_at (t : Fin cfg0.N) (d : Fin 1024) : @Ne EReal (iblk m c 4 t (ix3 0 0 d)) ⊤ ∧ @Ne EReal (iblk m c 4 t (ix3 0 0 d)) ⊥ :=
  ⟨fun e => (hb _).1 ((B_at m c t d).symm.trans e), fun e => (hb _).2 ((B_at m c t d).symm.trans e)⟩

include hb in
/-- The scratch after chunk `j` of sequence `n`, unless it is the last one. -/
theorem scratch_at (n : Fin 4) (h : Fin 8) (p q : Fin 128) (j : ℕ) (hj : j < 31) (t : Fin cfg0.N) (ht : t.val = 32 * n.val + j) :
    (outsAt0 m c t.val t.isLt).2.2 (ix3 h q p) = stateAt (aP m c) (aB m c) (aS m c) n h p q (j + 1) := by
  induction j generalizing t with
  | zero =>
    have h0 : t.val % 32 = 0 := by omega
    rw [outsAt0_A m c t h0 (by omega)]
    dsimp only
    rw [first_left c _ _ _ _ _ _ _ _ _ _ _ _ _ _ _ _ _ _ _ _ _ _ _ _ _ _ _ _ _ _ h p q (fin_at m c hb t _).1 (fin_at m c hb t _).2, S_at m c t n (by omega), step_at m c t n 0 (by omega) ht]
    rfl
  | succ j ih =>
    have h0 : ¬t.val % 32 = 0 := by omega
    have hp : (outsAt0 m c (t.val - 1) (Nat.lt_of_le_of_lt (Nat.sub_le _ _) t.isLt)).2.2 (ix3 h q p) = stateAt (aP m c) (aB m c) (aS m c) n h p q (j + 1) :=
      ih (by omega) ⟨t.val - 1, Nat.lt_of_le_of_lt (Nat.sub_le _ _) t.isLt⟩ (by show t.val - 1 = _; omega)
    rw [outsAt0_B m c t h0 (by omega)]
    dsimp only
    rw [next_left c _ _ _ _ _ _ _ _ _ _ _ _ _ _ _ _ _ _ _ _ _ _ _ _ _ _ _ _ _ _ _ h p q (fin_at m c hb t _).1 (fin_at m c hb t _).2, hp, step_at m c t n (j + 1) (by omega) ht]
    rfl

include hb in
/-- The states' block after a sequence's last chunk. -/
theorem stored (t : Fin cfg0.N) (n : Fin 4) (ht : t.val = 32 * n.val + 31) (h : Fin 8) (p q : Fin 128) :
    (outsAt0 m c t.val t.isLt).2.1 (ix4 0 h p q) = outArr (aP m c) (aB m c) (aS m c) (ix4 n h p q) := by
  have h0 : ¬t.val % 32 = 0 := by omega
  have hp : (outsAt0 m c (t.val - 1) (Nat.lt_of_le_of_lt (Nat.sub_le _ _) t.isLt)).2.2 (ix3 h q p) = stateAt (aP m c) (aB m c) (aS m c) n h p q 31 :=
    scratch_at m c hb n h p q 30 (by omega) ⟨t.val - 1, Nat.lt_of_le_of_lt (Nat.sub_le _ _) t.isLt⟩ (by show t.val - 1 = _; omega)
  rw [outsAt0_C m c t h0 (by omega)]
  dsimp only
  rw [last_left c _ _ _ _ _ _ _ _ _ _ _ _ _ _ _ _ _ _ _ _ _ _ _ _ _ _ _ _ _ _ _ h p q (fin_at m c hb t _).1 (fin_at m c hb t _).2, hp, step_at m c t n 31 (by omega) ht]
  rfl

include hb in
/-- The array the call leaves. -/
theorem final : (dats m 0 c).arrAt 8 (cfgs 0).N = outArr (aP m c) (aB m c) (aS m c) := by
  refine (dats m 0 c).arrAt_eq_of_covers 8 _ (by decide +kernel) fun t hf y => ?_
  have ht : t.val < 128 := t.isLt
  have hl : t.val % 32 = 31 := (flush0_8 t).mp hf
  obtain ⟨h, p, q, rfl⟩ : ∃ (h : Fin 8) (p q : Fin 128), y = ix4 (0 : Fin 1) h p q :=
    ⟨y 1, y 2, y 3, (eq_ix4 y).trans (congrArg (ix4 · (y 1) (y 2) (y 3)) (Subsingleton.elim (α := Fin 1) _ _))⟩
  blk_simp
  rw [after0_8, stored m c hb t ⟨t.val / 32, by omega⟩ (by show t.val = 32 * (t.val / 32) + 31; omega) h p q]
  generalize outArr (aP m c) (aB m c) (aS m c) = Z
  blk_point [idx t]

end Cert.Kernel11Ideal.Hgrn

end
-- ==== Proof.Hgrn.RefPrompt.lean ====
module

public import proofs.«01_k».proof.Proof.Gen.Reference11Ideal.Run
public import proofs.«01_k».proof.Pre_finite_bounds
public import proofs.«01_k».proof.Proof.Hgrn.Prompt
public import proofs.«01_k».proof.Proof.Gate.Scan
public import proofs.«01_k».proof.Proof.Attn.Equal
public import Idealize.ShloMosaic.Lib.DynamicIndex

/-! The reference of the prompt's recurrence: a loop over the chunks, read at an entry. -/

@[expose] public section

set_option maxRecDepth 16384

noncomputable section

namespace Cert.Reference11Ideal.Hgrn

open Cert.Reference11Ideal Cert.Reference11Ideal.Gen Cert.Gate Cert.Hgrn Cert.Reference11Ideal.Value
open Idealize.ShloMosaic Idealize.ShloMosaic.TcCoe Idealize.ShloMosaic.Tactic Idealize.ShloMosaic.StableHlo
open Cert.ReferenceIdeal.Attn (real1_of)
open Cert.Kernel12Ideal.Hgrn (hcol pcol)
open Cert.Kernel11Ideal.Hgrn (ptok chunkOf chunkStep stateAt outArr)

variable (P : FVec Ideal S8192x17664 .f32) (LB : FVec Ideal S4x1x1024 .f32) (S0 : FVec Ideal S4x8x128x128 .f32)

/-- The tokens' forget entries. -/
def hfT : FVec Ideal S8192x1024 .f32 := extractStridedSlice S8192x1024 ![0, 14336] P slices_S8192x17664_S8192x1024_0_14336
/-- Their values. -/
def vT : FVec Ideal S8192x1024 .f32 := extractStridedSlice S8192x1024 ![0, 15360] P slices_S8192x17664_S8192x1024_0_15360
/-- The first layer's lower bounds. -/
def bT : FVec Ideal S1x1024 .f32 := shapeCast _ (extractStridedSlice S1x1x1024 ![0, 0, 0] LB slices_S4x1x1024_S1x1x1024_0_0_0) shapeCasts_S1x1x1024_S1x1024
/-- A row, for every token. -/
def everyT (x : FVec Ideal S1x1024 .f32) : FVec Ideal S8192x1024 .f32 := broadcastInDim S8192x1024 ![0, 1] bcast_S1x1024_S8192x1024_0_1 x
/-- The logs of the bounds. -/
def logT (b : FVec Ideal S1x1024 .f32) : FVec Ideal S1x1024 .f32 :=
  Host.log (maximumf b (broadcastInDim S1x1024 ![] bcast_S_S1x1024 (constant S_ .f32 0x0DA24260#32)))
/-- The zeros and the ones. -/
def zeroT : FVec Ideal S8192x1024 .f32 := broadcastInDim S8192x1024 ![] bcast_S_S8192x1024 (constant S_ .f32 0x00000000#32)
def oneT : FVec Ideal S8192x1024 .f32 := broadcastInDim S8192x1024 ![] bcast_S_S8192x1024 (constant S_ .f32 0x3F800000#32)
/-- The log of a sum of two exponentials. -/
def sumExpT (x y : FVec Ideal S8192x1024 .f32) : FVec Ideal S8192x1024 .f32 :=
  select (cmpf .une (subf x y) (subf x y)) (addf x y) (addf (maximumf x y) (Host.log1p (Host.exp (Host.negf (Host.absf (subf x y))))))
/-- The second exponent of the log of a decay: the softplus is the log of a sum of exponentials with zero. -/
def secondT (b : FVec Ideal S1x1024 .f32) (x : FVec Ideal S8192x1024 .f32) : FVec Ideal S8192x1024 .f32 :=
  addf (everyT (Host.log1p (Host.negf b))) (Host.negf (sumExpT (Host.negf x) zeroT))
/-- The tokens' weights. -/
def keepT (b : FVec Ideal S1x1024 .f32) (x : FVec Ideal S8192x1024 .f32) : FVec Ideal S8192x1024 .f32 :=
  mulf (everyT (subf (broadcastInDim S1x1024 ![] bcast_S_S1x1024 (constant S_ .f32 0x3F800000#32)) b)) (Host.divf oneT (addf oneT (Host.exp (Host.negf (Host.negf x)))))
/-- The columns by chunk, sequence and head. -/
def chunksT (x : FVec Ideal S8192x1024 .f32) : FVec Ideal S32x4x8x64x128 .f32 :=
  transpose S32x4x8x64x128 [1, 0, 3, 2, 4] (shapeCast _ x shapeCasts_S8192x1024_S4x32x64x8x128) transposes_S4x32x64x8x128_S32x4x8x64x128_1_0_3_2_4
/-- One chunk, by the loop's count. -/
def sliceT (x : FVec Ideal S32x4x8x64x128 .f32) (z : (⟨S_, .i32⟩ : BufTy).Contents (Elt Ideal)) : FVec Ideal S4x8x64x128 .f32 :=
  shapeCast S4x8x64x128 (Host.dynamicSlice S1x4x8x64x128 x (fun k => (((![z, constantI S_ 32 0#32, constantI S_ 32 0#32, constantI S_ 32 0#32, constantI S_ 32 0#32] : Fin 5 → (⟨S_, .i32⟩ : BufTy).Contents (Elt Ideal))) k (Shape.Idx.first h_S_)).toInt) sliceFits_S32x4x8x64x128_S1x4x8x64x128) shapeCasts_S1x4x8x64x128_S4x8x64x128
/-- Running sums over a chunk's tokens. -/
def cumT (x : FVec Ideal S4x8x64x128 .f32) : FVec Ideal S4x8x64x128 .f32 :=
  Host.reduceWindowAdd ![1, 1, 64, 1] ![1, 1, 1, 1] ![0, 0, 63, 0] ![0, 0, 0, 0] x (broadcastInDim S_ ![] bcast_S_S_ (constant S_ .f32 0x00000000#32)) reduceWindows_S4x8x64x128_S4x8x64x128_w1s1p0_0_w1s1p0_0_w64s1p63_0_w1s1p0_0 h_S_
/-- The last token's. -/
def lastT (g : FVec Ideal S4x8x64x128 .f32) : FVec Ideal S4x8x128 .f32 :=
  shapeCast S4x8x128 (extractStridedSlice S4x8x1x128 ![0, 0, 63, 0] g slices_S4x8x64x128_S4x8x1x128_0_0_63_0) shapeCasts_S4x8x1x128_S4x8x128
/-- The weights, decayed by the tokens after. -/
def decayedT (k g : FVec Ideal S4x8x64x128 .f32) (l : FVec Ideal S4x8x128 .f32) : FVec Ideal S4x8x64x128 .f32 :=
  mulf k (Host.exp (subf (broadcastInDim S4x8x64x128 ![0, 1, 2, 3] bcast_S4x8x1x128_S4x8x64x128_0_1_2_3 (broadcastInDim S4x8x1x128 ![0, 1, 3] bcast_S4x8x128_S4x8x1x128_0_1_3 l)) g))
/-- The states after a chunk. -/
def newT (s : FVec Ideal S4x8x128x128 .f32) (l : FVec Ideal S4x8x128 .f32) (k v : FVec Ideal S4x8x64x128 .f32) : FVec Ideal S4x8x128x128 .f32 :=
  addf (mulf s (broadcastInDim S4x8x128x128 ![0, 1, 2, 3] bcast_S4x8x128x1_S4x8x128x128_0_1_2_3 (broadcastInDim S4x8x128x1 ![0, 1, 2] bcast_S4x8x128_S4x8x128x1_0_1_2 (Host.exp l)))) (Host.dotGeneral dot_S4x8x64x128_S4x8x64x128_S4x8x128x128_2_2_3_3_01_01 none k v)
/-- One trip, from the weights, the values and the log decays of a chunk. -/
def tripT (s : FVec Ideal S4x8x128x128 .f32) (k v f : FVec Ideal S4x8x64x128 .f32) : FVec Ideal S4x8x128x128 .f32 :=
  newT s (lastT (cumT f)) (decayedT k (cumT f) (lastT (cumT f))) v

/-- The log decays. -/
def decaysT : FVec Ideal S8192x1024 .f32 := sumExpT (everyT (logT (bT LB))) (secondT (bT LB) (hfT P))

theorem trip_eq (V0 : Valuation τ sig (Elt Ideal)) :
    step_main_v42_4 V0 = tripT (V0 (Proc.devRef .tc main_v42_4)) (sliceT (V0 (Proc.devRef .tc main_v42_0)) (V0 (Proc.devRef .tc main_v42_3)))
      (sliceT (V0 (Proc.devRef .tc main_v42_1)) (V0 (Proc.devRef .tc main_v42_3))) (sliceT (V0 (Proc.devRef .tc main_v42_2)) (V0 (Proc.devRef .tc main_v42_3))) := rfl

section
variable (m : (ℓ : Loc nD τ sig) → Buf (Elt Ideal) ℓ) (c : Dev nD)

/-- The device's arguments. -/
abbrev rP : FVec Ideal S8192x17664 .f32 := m ((c.tc : Thread nD τ).loc main_arg0)
abbrev rB : FVec Ideal S4x1x1024 .f32 := m ((c.tc : Thread nD τ).loc main_arg1)
abbrev rS : FVec Ideal S4x8x128x128 .f32 := m ((c.tc : Thread nD τ).loc main_arg3)

theorem entry_keeps : entryContents preI m c (Proc.devRef .tc main_v42_0) = chunksT (keepT (bT (rB m c)) (hfT (rP m c))) := by
  simp only [entryContents, afterL_cons, afterL_nil]
  after_reads_simp
  rfl
theorem entry_values : entryContents preI m c (Proc.devRef .tc main_v42_1) = chunksT (vT (rP m c)) := by
  simp only [entryContents, afterL_cons, afterL_nil]
  after_reads_simp
  rfl
theorem entry_decays : entryContents preI m c (Proc.devRef .tc main_v42_2) = chunksT (decaysT (rP m c) (rB m c)) := by
  simp only [entryContents, afterL_cons, afterL_nil]
  after_reads_simp
  rfl
theorem entry_states : entryContents preI m c (Proc.devRef .tc main_v42_4) = rS m c := by
  simp only [entryContents, afterL_cons, afterL_nil]
  after_reads_simp
  rfl

end

end Cert.Reference11Ideal.Hgrn

end
-- ==== Proof.Hgrn.RefChunks.lean ====
module

public import proofs.«01_k».proof.Proof.Hgrn.RefPrompt

/-! The reference's loop over the chunks, entry by entry: after each trip the states are those the call carries. -/

@[expose] public section

set_option maxRecDepth 16384

noncomputable section

namespace Cert.Reference11Ideal.Hgrn

open Cert.Reference11Ideal Cert.Reference11Ideal.Gen Cert.Gate Cert.Hgrn Cert.Reference11Ideal.Value
open Idealize.ShloMosaic Idealize.ShloMosaic.TcCoe Idealize.ShloMosaic.Tactic Idealize.ShloMosaic.StableHlo
open Cert.ReferenceIdeal.Attn (real1_of)
open Cert.Kernel12Ideal.Hgrn (hcol pcol)
open Cert.Kernel11Ideal.Hgrn (ptok chunkOf chunkStep stateAt outArr)

variable (P : FVec Ideal S8192x17664 .f32) (LB : FVec Ideal S4x1x1024 .f32) (S0 : FVec Ideal S4x8x128x128 .f32)

theorem hfT_at (r : Fin 8192) (d : Fin 1024) : hfT P (ix2 r d) = P (ix2 r (pcol 14336 (by norm_num) d)) := by
  unfold hfT
  pointwise
  rfl

theorem vT_at (r : Fin 8192) (d : Fin 1024) : vT P (ix2 r d) = P (ix2 r (pcol 15360 (by norm_num) d)) := by
  unfold vT
  pointwise
  rfl

theorem bT_at (d : Fin 1024) : bT LB (ix2 0 d) = LB (ix3 0 0 d) := by
  pointwise [bT]

theorem everyT_at (x : FVec Ideal S1x1024 .f32) (r : Fin 8192) (d : Fin 1024) : everyT x (ix2 r d) = x (ix2 0 d) := by
  pointwise [everyT]

theorem zeroT_at (r : Fin 8192) (d : Fin 1024) : zeroT (ix2 r d) = (0 : EReal) := by
  pointwise [zeroT]

theorem sumExpT_at (x y : FVec Ideal S8192x1024 .f32) (r : Fin 8192) (d : Fin 1024) :
    sumExpT x y (ix2 r d) = logSum (x (ix2 r d)) (y (ix2 r d)) := by
  pointwise [sumExpT]
  rw [if_neg fun h => h rfl]
  rfl

/-- The log of a logistic, as a log of a sum of exponentials. -/
theorem logSum_zero (x : EReal) : -logSum (-x) 0 = logsig x := by
  unfold logSum logsig
  rw [sub_zero, neg_neg, max_comm (-x) x]

theorem decaysT_at (r : Fin 8192) (d : Fin 1024) : decaysT P LB (ix2 r d) = decay (LB (ix3 0 0 d)) (P (ix2 r (pcol 14336 (by norm_num) d))) := by
  unfold decaysT
  rw [sumExpT_at, everyT_at]
  unfold decay
  congr 1
  · pointwise [logT]
    rw [bT_at]
  · rw [← hfT_at P, ← logSum_zero, ← zeroT_at r d]
    show everyT _ (ix2 r d) + -(sumExpT (Host.negf (hfT P)) zeroT (ix2 r d)) = _
    rw [everyT_at, sumExpT_at]
    congr 1
    rw [← bT_at LB]
    rfl

theorem keepT_at (r : Fin 8192) (d : Fin 1024) :
    keepT (bT LB) (hfT P) (ix2 r d) = keep (LB (ix3 0 0 d)) (P (ix2 r (pcol 14336 (by norm_num) d))) := by
  rw [← hfT_at P, ← bT_at LB]
  unfold keepT
  generalize hfT P = x
  generalize bT LB = b
  pointwise [everyT, oneT]
  rfl

/-- Token `t` of chunk `j` of sequence `n`. -/
theorem chunksT_at (x : FVec Ideal S8192x1024 .f32) (j : Fin 32) (n : Fin 4) (h : Fin 8) (t : Fin 64) (d : Fin 128) :
    chunksT x (ix5 j n h t d) = x (ix2 (ptok n j.val t.val) (hcol h d)) := by
  pointwise [chunksT]
  refine congrArg x ?_
  unfold ptok hcol
  congr 1 <;> refine Fin.ext ?_ <;> dsimp only <;> omega

theorem sliceT_at (x : FVec Ideal S32x4x8x64x128 .f32) (j : Fin 32) (n : Fin 4) (h : Fin 8) (t : Fin 64) (d : Fin 128) :
    sliceT x (fun _ => BitVec.ofNat 32 j.val) (ix4 n h t d) = x (ix5 j n h t d) := by
  have hin : S32x4x8x64x128.Slices ![j.val, 0, 0, 0, 0] S1x4x8x64x128 := ⟨rfl, fun a => by
    have := j.isLt
    fin_cases a
    · show j.val + 1 ≤ 32; omega
    · show 0 + 4 ≤ 4; omega
    · show 0 + 8 ≤ 8; omega
    · show 0 + 64 ≤ 64; omega
    · show 0 + 128 ≤ 128; omega⟩
  unfold sliceT
  rw [Host.dynamicSlice_eq_extractStridedSlice _ _ _ ![j.val, 0, 0, 0, 0] _ hin fun a => by
    fin_cases a
    · exact WordCmp.toInt_ofNat_of_lt (by have := j.isLt; norm_num; omega)
    all_goals rfl]
  pointwise

theorem lastT_at (g : FVec Ideal S4x8x64x128 .f32) (n : Fin 4) (h : Fin 8) (d : Fin 128) : lastT g (ix3 n h d) = g (ix4 n h 63 d) := by
  pointwise [lastT]

theorem decayedT_at (k g : FVec Ideal S4x8x64x128 .f32) (l : FVec Ideal S4x8x128 .f32) (n : Fin 4) (h : Fin 8) (t : Fin 64) (d : Fin 128) :
    decayedT k g l (ix4 n h t d) = k (ix4 n h t d) * Ideal.exp (l (ix3 n h d) - g (ix4 n h t d)) := by
  pointwise [decayedT]

theorem newT_at (s : FVec Ideal S4x8x128x128 .f32) (l : FVec Ideal S4x8x128 .f32) (k v : FVec Ideal S4x8x64x128 .f32) (n : Fin 4) (h : Fin 8) (p q : Fin 128) :
    newT s l k v (ix4 n h p q) = s (ix4 n h p q) * Ideal.exp (l (ix3 n h p)) + ∑ t : Fin 64, k (ix4 n h t p) * v (ix4 n h t q) := by
  pointwise [newT]

/-- The window: the tokens of one column of a chunk. -/
abbrev Win64 : Shape := ⟨4, ![1, 1, 64, 1]⟩

/-- A window's position is its token. -/
def winTok : Win64.Idx ≃ Fin 64 where
  toFun w := w 2
  invFun k := ix4 0 0 k 0
  left_inv w := by
    refine (eq_ix4 w).trans ?_ |>.symm
    rw [Subsingleton.elim (α := Fin 1) (w 0) 0, Subsingleton.elim (α := Fin 1) (w 1) 0, Subsingleton.elim (α := Fin 1) (w 3) 0]
  right_inv k := rfl

/-- The tokens of the window that ends at token `j`. -/
theorem sum_win (g : ℕ → EReal) (j : ℕ) (hj : j < 64) :
    (∑ k : Fin 64, if 63 ≤ j + k.val then g (j + k.val - 63) else 0) = ∑ i ∈ Finset.range (j + 1), g i := by
  rw [← Finset.sum_range (fun k => if 63 ≤ j + k then g (j + k - 63) else 0), show 64 = (63 - j) + (j + 1) from by omega, Finset.sum_range_add,
    Finset.sum_eq_zero fun k hk => if_neg (by have := Finset.mem_range.mp hk; omega), zero_add]
  refine Finset.sum_congr rfl fun k hk => ?_
  rw [if_pos (by omega), show j + (63 - j + k) - 63 = k from by omega]

theorem cumT_at (x : FVec Ideal S4x8x64x128 .f32) (g : ℕ → EReal) (n : Fin 4) (h : Fin 8) (d : Fin 128)
    (hx : ∀ t : Fin 64, x (ix4 n h t d) = g t.val) (j : Fin 64) : cumT x (ix4 n h j d) = ∑ i ∈ Finset.range (j.val + 1), g i := by
  have hz : ∀ i, (broadcastInDim S_ ![] bcast_S_S_ (constant S_ .f32 0x00000000#32) : FVec Ideal S_ .f32) i = (0 : EReal) := fun i => by
    obtain rfl : i = ix0 := funext fun a => a.elim0
    pointwise
  unfold cumT Host.reduceWindowAdd
  rw [Ideal.hostReduceWindowAdd_def, hz]
  unfold Ideal.hostReduceWindowAdd Host.reduceWindow
  refine (foldl_sum _ _ _).trans ?_
  rw [zero_add, ← Fin.sum_univ_def, ← sum_win g j.val j.isLt]
  refine Fintype.sum_equiv (Win64.rowMajor.symm.trans winTok) _ _ fun w => ?_
  show _ = if 63 ≤ j.val + (winTok (Win64.rowMajor.symm w)).val then g (j.val + (winTok (Win64.rowMajor.symm w)).val - 63) else 0
  have h0 : (Win64.rowMajor.symm w 0).val = 0 := Nat.lt_one_iff.mp (Win64.rowMajor.symm w 0).isLt
  have h1 : (Win64.rowMajor.symm w 1).val = 0 := Nat.lt_one_iff.mp (Win64.rowMajor.symm w 1).isLt
  have h3 : (Win64.rowMajor.symm w 3).val = 0 := Nat.lt_one_iff.mp (Win64.rowMajor.symm w 3).isLt
  have h2 : (Win64.rowMajor.symm w 2).val < 64 := (Win64.rowMajor.symm w 2).isLt
  have e2 : (winTok (Win64.rowMajor.symm w)).val = (Win64.rowMajor.symm w 2).val := rfl
  have hn := n.isLt
  have hh := h.isLt
  have hd := d.isLt
  have hj := j.isLt
  rw [e2]
  dsimp only
  split
  · next hin =>
    have q : 63 ≤ j.val * 1 + (Win64.rowMajor.symm w 2).val := (hin 2).1
    rw [if_pos (by omega), ← hx ⟨j.val + (Win64.rowMajor.symm w 2).val - 63, by omega⟩]
    refine congrArg x (funext fun a => Fin.ext ?_)
    fin_cases a
    · show n.val * 1 + (Win64.rowMajor.symm w 0).val - 0 = n.val
      omega
    · show h.val * 1 + (Win64.rowMajor.symm w 1).val - 0 = h.val
      omega
    · show j.val * 1 + (Win64.rowMajor.symm w 2).val - 63 = j.val + (Win64.rowMajor.symm w 2).val - 63
      omega
    · show d.val * 1 + (Win64.rowMajor.symm w 3).val - 0 = d.val
      omega
  · next hin =>
    rw [if_neg fun q => hin fun a => ?_]
    fin_cases a
    · show 0 ≤ n.val * 1 + (Win64.rowMajor.symm w 0).val ∧ n.val * 1 + (Win64.rowMajor.symm w 0).val - 0 < 4
      omega
    · show 0 ≤ h.val * 1 + (Win64.rowMajor.symm w 1).val ∧ h.val * 1 + (Win64.rowMajor.symm w 1).val - 0 < 8
      omega
    · show 63 ≤ j.val * 1 + (Win64.rowMajor.symm w 2).val ∧ j.val * 1 + (Win64.rowMajor.symm w 2).val - 63 < 64
      omega
    · show 0 ≤ d.val * 1 + (Win64.rowMajor.symm w 3).val ∧ d.val * 1 + (Win64.rowMajor.symm w 3).val - 0 < 128
      omega

/-- One trip, entry by entry. -/
theorem tripT_at (s : FVec Ideal S4x8x128x128 .f32) (k v f : FVec Ideal S4x8x64x128 .f32) (F K W : ℕ → EReal) (n : Fin 4) (h : Fin 8) (p q : Fin 128)
    (hf : ∀ t : Fin 64, f (ix4 n h t p) = F t.val) (hk : ∀ t : Fin 64, k (ix4 n h t p) = K t.val) (hv : ∀ t : Fin 64, v (ix4 n h t q) = W t.val) :
    tripT s k v f (ix4 n h p q) = chunkOf F K W (s (ix4 n h p q)) := by
  unfold tripT
  rw [newT_at]
  simp only [decayedT_at, lastT_at, cumT_at f F n h p hf, hk, hv]
  rfl

theorem start_eq : S0 = fun y : S4x8x128x128.Idx => stateAt P LB S0 (y 0) (y 1) (y 2) (y 3) 0 :=
  funext fun y => congrArg S0 (eq_ix4 y)

/-- One trip, from the states the call carries. -/
theorem trip_at (j : ℕ) (hj : j < 32) :
    tripT (fun y : S4x8x128x128.Idx => stateAt P LB S0 (y 0) (y 1) (y 2) (y 3) j) (sliceT (chunksT (keepT (bT LB) (hfT P))) fun _ => BitVec.ofNat 32 j)
        (sliceT (chunksT (vT P)) fun _ => BitVec.ofNat 32 j) (sliceT (chunksT (decaysT P LB)) fun _ => BitVec.ofNat 32 j)
      = fun y : S4x8x128x128.Idx => stateAt P LB S0 (y 0) (y 1) (y 2) (y 3) (j + 1) := by
  funext y
  obtain ⟨n, h, p, q, rfl⟩ : ∃ (n : Fin 4) (h : Fin 8) (p q : Fin 128), y = ix4 n h p q := ⟨y 0, y 1, y 2, y 3, eq_ix4 y⟩
  have hs := fun (x : FVec Ideal S8192x1024 .f32) (t : Fin 64) (d : Fin 128) =>
    (sliceT_at (chunksT x) ⟨j, hj⟩ n h t d).trans (chunksT_at x ⟨j, hj⟩ n h t d)
  exact tripT_at _ _ _ _ (fun k => decay (LB (ix3 0 0 (hcol h p))) (P (ix2 (ptok n j k) (pcol 14336 (by norm_num) (hcol h p)))))
    (fun k => keep (LB (ix3 0 0 (hcol h p))) (P (ix2 (ptok n j k) (pcol 14336 (by norm_num) (hcol h p)))))
    (fun k => P (ix2 (ptok n j k) (pcol 15360 (by norm_num) (hcol h q)))) n h p q
    (fun t => (hs _ t p).trans (decaysT_at P LB _ _)) (fun t => (hs _ t p).trans (keepT_at P LB _ _)) (fun t => (hs _ t q).trans (vT_at P _ _))

section
variable (m : (ℓ : Loc nD τ sig) → Buf (Elt Ideal) ℓ) (c : Dev nD)

/-- What the loop carries at a trip: the chunks as they were, the count `j`, and the states after `j` chunks. -/
structure Carries (V0 : Valuation τ sig (Elt Ideal)) (j : ℕ) : Prop where
  keeps : V0 (Proc.devRef .tc main_v42_0) = chunksT (keepT (bT (rB m c)) (hfT (rP m c)))
  values : V0 (Proc.devRef .tc main_v42_1) = chunksT (vT (rP m c))
  decays : V0 (Proc.devRef .tc main_v42_2) = chunksT (decaysT (rP m c) (rB m c))
  count : V0 (Proc.devRef .tc main_v42_3) = fun _ => BitVec.ofNat 32 j
  states : V0 (Proc.devRef .tc main_v42_4) = fun y : S4x8x128x128.Idx => stateAt (rP m c) (rB m c) (rS m c) (y 0) (y 1) (y 2) (y 3) j

theorem carries_entry : Carries m c (entryContents preI m c) 0 :=
  ⟨entry_keeps m c, entry_values m c, entry_decays m c, ctr_entry m c, (entry_states m c).trans (start_eq _ _ _)⟩

theorem carries_step (V0 : Valuation τ sig (Elt Ideal)) (j : ℕ) (hj : j < 32) (h : Carries m c V0 j) : Carries m c (STEP V0) (j + 1) where
  keeps := (STEP_main_v42_0 _).trans h.keeps
  values := (STEP_main_v42_1 _).trans h.values
  decays := (STEP_main_v42_2 _).trans h.decays
  count := (STEP_main_v42_3 _).trans (by
    unfold step_main_v42_3
    rw [h.count]
    funext i
    show BitVec.ofNat 32 j + 1#32 = BitVec.ofNat 32 (j + 1)
    rw [BitVec.ofNat_add])
  states := (STEP_main_v42_4 _).trans (by
    rw [trip_eq, h.keeps, h.values, h.decays, h.count, h.states]
    exact trip_at _ _ _ j hj)

theorem carries (j : ℕ) (hj : j ≤ 32) : Carries m c (STEP^[j] (entryContents preI m c)) j := by
  induction j with
  | zero => exact carries_entry m c
  | succ j ih =>
    rw [Function.iterate_succ_apply']
    exact carries_step m c _ j hj (ih (Nat.le_of_lt hj))

/-- The reference's result is the array the call leaves. -/
theorem res_eq : (STEP^[32] (entryContents preI m c)) (Proc.devRef .tc main_v42_4) = outArr (rP m c) (rB m c) (rS m c) :=
  (carries m c 32 le_rfl).states

end

/-- The precondition's shapes fit. -/
theorem preFacts : Cert.Pre_finite_bounds.Facts where
  slices_S4x1x1024_S1x1x1024_0_0_0 := by decide
  shapeCasts_S1x1x1024_S1x1024 := by decide
  bcast_S_S1x1024 := by decide

/-- The precondition as printed, read. -/
theorem finite_of [Cert.Pre_finite_bounds.Facts] (H : FVec Ideal S4x1x128 .f32)
    (h : Cert.Pre_finite_bounds.fn (F := Ideal) P LB H S0 = fun _ => 1#1) (d : Fin 1024) : LB (ix3 0 0 d) ≠ ⊤ ∧ LB (ix3 0 0 d) ≠ ⊥ := by
  dsimp only [Cert.Pre_finite_bounds.fn] at h
  have := congrFun h (ix2 0 d)
  pointwise at this
  exact (real1_of this).symm

end Cert.Reference11Ideal.Hgrn

end
-- ==== Proof.Hgrn.PromptClaims.lean ====
/- The statements about the prompt's recurrence: the reference's frame, and that the call and the reference leave the same states. -/
module

public import proofs.«01_k».proof.Defs
public import proofs.«01_k».proof.Proof.Hgrn.RefChunks
public import Idealize.ShloMosaic.Adequacy
public import Idealize.ShloMosaic.Init
public import Idealize.ShloMosaic.Lib.Claim

@[expose] public section

noncomputable section

namespace Cert.Proof.Hgrn

open Idealize.ShloMosaic Idealize.SL.Sem
open Cert.Kernel11Ideal.Hgrn (outArr aP aB aS)

/-- The prompt's reference leaves its arguments and every counter as they were. -/
theorem frame_ref11 : Cert.quiescent_Reference11Ideal (hReference11Ideal := Cert.Reference11Ideal.Gen.facts) := fun m g _ =>
  (θ_run Cert.Reference11Ideal.defs _ _).mono (fun r h => ⟨fun c => (h c).2, sem_eq_zero_of_no_sems (by decide) r.2⟩)
    (Cert.Reference11Ideal.Value.run (F := Ideal) m g)

/-- The prompt's recurrence and its reference leave the same states. -/
theorem algebraic11 : Cert.algebraic_Kernel11Ideal_Reference11Ideal_pre_finite_bounds (hKernel11Ideal := Cert.Kernel11Ideal.Gen.facts)
    (hReference11Ideal := Cert.Reference11Ideal.Gen.facts) (hPre_finite_bounds := Cert.Reference11Ideal.Hgrn.preFacts) := by
  intro m g m' g' hpre hagree
  haveI := Cert.Reference11Ideal.Hgrn.preFacts
  refine ⟨fun c => outArr (aP m c) (aB m c) (aS m c), ?_, ?_⟩
  · exact (θ_run _ _ _).mono (fun r h c => ⟨(h c).2.1.trans (Cert.Kernel11Ideal.Hgrn.final m c fun d => Cert.Reference11Ideal.Hgrn.finite_of _ _ _ _ (hpre c) d), (h c).2.2⟩)
      (Cert.Kernel11Ideal.Value.run_blocks m g)
  · refine (θ_run _ _ _).mono (fun r h c => ⟨(h c).1.trans ?_, (h c).2⟩) (Cert.Reference11Ideal.Value.run (F := Ideal) m' g')
    obtain ⟨a0, a1, a2, a3⟩ := hagree c
    refine (Cert.Reference11Ideal.Hgrn.res_eq m' c).trans ?_
    rw [Cert.Reference11Ideal.Hgrn.rP, Cert.Reference11Ideal.Hgrn.rB, Cert.Reference11Ideal.Hgrn.rS, a0, a1, a3]

end Cert.Proof.Hgrn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Attn.Claims
public import proofs.«01_k».proof.Proof.Bits.Frame
public import proofs.«01_k».proof.Proof.Dense.Claims
public import proofs.«01_k».proof.Proof.Gate.Claims
public import proofs.«01_k».proof.Proof.Sample.Claims
public import proofs.«01_k».proof.Proof.Bounds.Claims
public import proofs.«01_k».proof.Proof.Hgrn.Claims
public import proofs.«01_k».proof.Proof.Hgrn.PromptClaims
public import Idealize.ShloMosaic.Adequacy
public import Idealize.ShloMosaic.Init

@[expose] public section

noncomputable section

namespace Cert.Proof

open Idealize.ShloMosaic Idealize.SL.Sem Cert.Kernel

/-- Every claim about the attention call, the dense calls of both batches, the forget gate, the lower bounds and both batches' recurrence. -/
theorem claim : Cert.Claim := by
  haveI := Cert.Kernel.Gen.facts
  haveI := Cert.KernelIdeal.Gen.facts
  haveI := Cert.ReferenceIdeal.Gen.facts
  haveI := Cert.Kernel2.Gen.facts
  haveI := Cert.Kernel2Ideal.Gen.facts
  haveI := Cert.Reference2Ideal.Gen.facts
  haveI := Cert.Kernel3.Gen.facts
  haveI := Cert.Kernel3Ideal.Gen.facts
  haveI := Cert.Reference3Ideal.Gen.facts
  haveI := Cert.Kernel4.Gen.facts
  haveI := Cert.Kernel4Ideal.Gen.facts
  haveI := Cert.Reference4Ideal.Gen.facts
  haveI := Cert.Kernel5.Gen.facts
  haveI := Cert.Kernel5Ideal.Gen.facts
  haveI := Cert.Reference5Ideal.Gen.facts
  haveI := Cert.Kernel6.Gen.facts
  haveI := Cert.Kernel6Ideal.Gen.facts
  haveI := Cert.Reference6Ideal.Gen.facts
  haveI := Cert.Kernel7.Gen.facts
  haveI := Cert.Kernel7Ideal.Gen.facts
  haveI := Cert.Reference7Ideal.Gen.facts
  haveI := Cert.Kernel8.Gen.facts
  haveI := Cert.Kernel8Ideal.Gen.facts
  haveI := Cert.Reference8Ideal.Gen.facts
  haveI := Cert.Kernel9.Gen.facts
  haveI := Cert.Kernel9Ideal.Gen.facts
  haveI := Cert.Reference9Ideal.Gen.facts
  haveI := Cert.Kernel10.Gen.facts
  haveI := Cert.Kernel10Ideal.Gen.facts
  haveI := Cert.Reference10Ideal.Gen.facts
  haveI := Cert.Kernel11.Gen.facts
  haveI := Cert.Kernel11Ideal.Gen.facts
  haveI := Cert.Reference11Ideal.Gen.facts
  haveI := Cert.Kernel12.Gen.facts
  haveI := Cert.Kernel12Ideal.Gen.facts
  haveI := Cert.Reference12Ideal.Gen.facts
  haveI := Cert.ReferenceIdeal.Attn.preFacts
  haveI := Cert.Reference11Ideal.Hgrn.preFacts
  haveI := Cert.Reference12Ideal.Hgrn.preFacts
  exact ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.ReferenceIdeal.Attn.preFacts, Cert.Reference11Ideal.Hgrn.preFacts, Cert.Reference12Ideal.Hgrn.preFacts,
    fun m g _ => Cert.Kernel.Attn.frame m g,
    fun m g _ => Attn.frame_ideal m g,
    fun m g _ => Attn.frame_ideal m g,
    Attn.frame_ref,
    fun m g _ => Attn.frame_ref m g trivial,
    fun m g _ => Cert.Kernel2.Gen.frame m g, fun m g _ => Cert.Kernel2Ideal.Gen.frame m g, Dense.frame_ref2,
    fun m g _ => Cert.Kernel3.Gen.frame m g, fun m g _ => Cert.Kernel3Ideal.Gen.frame m g, Dense.frame_ref3,
    fun m g _ => Cert.Kernel4.Gen.frame m g, fun m g _ => Cert.Kernel4Ideal.Gen.frame m g, Dense.frame_ref4,
    fun m g _ => Cert.Kernel5.Gen.frame m g, fun m g _ => Cert.Kernel5Ideal.Gen.frame m g, Dense.frame_ref5,
    fun m g _ => Cert.Kernel6.Gen.frame m g, fun m g _ => Cert.Kernel6Ideal.Gen.frame m g, Dense.frame_ref6,
    fun m g _ => Cert.Kernel7.Gen.frame m g, fun m g _ => Cert.Kernel7Ideal.Gen.frame m g, Gate.frame_ref7,
    fun m g _ => Cert.Kernel8.Gen.frame m g, fun m g _ => Cert.Kernel8Ideal.Gen.frame m g, Sample.frame_ref8,
    fun m g _ => Cert.Kernel9.Gen.frame m g, fun m g _ => Cert.Kernel9Ideal.Gen.frame m g, Sample.frame_ref9,
    fun m g _ => Cert.Kernel10.Gen.frame m g, fun m g _ => Cert.Kernel10Ideal.Gen.frame m g, Bounds.frame_ref10,
    fun m g _ => Cert.Kernel11.Gen.frame m g, fun m g _ => Cert.Kernel11Ideal.Gen.frame m g, fun m g _ => Cert.Kernel11Ideal.Gen.frame m g,
    Hgrn.frame_ref11, fun m g _ => Hgrn.frame_ref11 m g trivial,
    fun m g _ => Cert.Kernel12.Gen.frame m g, fun m g _ => Cert.Kernel12Ideal.Gen.frame m g, fun m g _ => Cert.Kernel12Ideal.Gen.frame m g,
    Hgrn.frame_ref12, fun m g _ => Hgrn.frame_ref12 m g trivial,
    IdealRules.named_const.statement Cert.KernelIdeal.κ "mask" .f32 0xF149F2CA#32 ⊥ rfl,
    Attn.algebraic,
    trivial, Dense.algebraic2,
    trivial, Dense.algebraic3,
    trivial, Dense.algebraic4,
    trivial, Dense.algebraic5,
    trivial, Dense.algebraic6,
    trivial, Gate.algebraic7,
    trivial, Sample.algebraic8,
    trivial, Sample.algebraic9,
    trivial, Bounds.algebraic10,
    trivial, Hgrn.algebraic11,
    trivial, Hgrn.algebraic12⟩

end Cert.Proof

end
